-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg" .f32 0xFF7FC99E#32 ⊥

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4096x512 : Shape := ⟨2, ![4096, 512]⟩
abbrev S4096x3x256x2 : Shape := ⟨4, ![4096, 3, 256, 2]⟩
abbrev S4096x3x256x1 : Shape := ⟨4, ![4096, 3, 256, 1]⟩
abbrev S4096x3x256 : Shape := ⟨3, ![4096, 3, 256]⟩
abbrev S_ : Shape := ⟨0, ![]⟩

class Facts : Prop where
  slices_S4096x3x256x2_S4096x3x256x1_0_0_0_1 : S4096x3x256x2.Slices ![0, 0, 0, 1] S4096x3x256x1
  shapeCasts_S4096x3x256x1_S4096x3x256 : S4096x3x256x1.ShapeCasts S4096x3x256
  slices_S4096x3x256x2_S4096x3x256x1_0_0_0_0 : S4096x3x256x2.Slices ![0, 0, 0, 0] S4096x3x256x1
  bcast_S_S4096x3x256 : S_.BroadcastsInDim S4096x3x256 (![] : Fin 0 → Fin S4096x3x256.rank)
  reducesTo_S4096x3x256_S_d0_1_2 : S4096x3x256.ReducesTo [0, 1, 2] S_
  h_S_ : 0 < S_.numel

variable [Facts]

def fn {F : FTy → Type} [FloatOps F] (main_arg0 : FVec F S4096x512 .f32) (main_arg1 : FVec F S4096x512 .f32) (main_arg2 : FVec F S4096x3x256x2 .f32) (main_arg3 : FVec F S4096x3x256x2 .f32) : IVec S_ 1 :=
  let main_v0 : FVec F S4096x3x256x1 .f32 := (extractStridedSlice S4096x3x256x1 ![0, 0, 0, 1] · slices_S4096x3x256x2_S4096x3x256x1_0_0_0_1) main_arg2
  let main_v1 : FVec F S4096x3x256 .f32 := shapeCast S4096x3x256 main_v0 shapeCasts_S4096x3x256x1_S4096x3x256
  let main_v2 : FVec F S4096x3x256x1 .f32 := (extractStridedSlice S4096x3x256x1 ![0, 0, 0, 0] · slices_S4096x3x256x2_S4096x3x256x1_0_0_0_0) main_arg2
  let main_v3 : FVec F S4096x3x256 .f32 := shapeCast S4096x3x256 main_v2 shapeCasts_S4096x3x256x1_S4096x3x256
  let main_v4 : FVec F S4096x3x256 .f32 := subf main_v1 main_v3
  let main_v5 : FVec F S4096x3x256x1 .f32 := (extractStridedSlice S4096x3x256x1 ![0, 0, 0, 1] · slices_S4096x3x256x2_S4096x3x256x1_0_0_0_1) main_arg3
  let main_v6 : FVec F S4096x3x256 .f32 := shapeCast S4096x3x256 main_v5 shapeCasts_S4096x3x256x1_S4096x3x256
  let main_v7 : FVec F S4096x3x256x1 .f32 := (extractStridedSlice S4096x3x256x1 ![0, 0, 0, 0] · slices_S4096x3x256x2_S4096x3x256x1_0_0_0_0) main_arg3
  let main_v8 : FVec F S4096x3x256 .f32 := shapeCast S4096x3x256 main_v7 shapeCasts_S4096x3x256x1_S4096x3x256
  let main_v9 : FVec F S4096x3x256 .f32 := subf main_v6 main_v8
  let main_cst : FVec F S_ .f32 := constant S_ .f32 0xFF800000#32
  let main_v10 : FVec F S4096x3x256 .f32 := broadcastInDim S4096x3x256 ![] bcast_S_S4096x3x256 main_cst
  let main_v11 : IVec S4096x3x256 1 := cmpf .ogt main_v4 main_v10
  let main_c : IVec S_ 1 := constantI S_ 1 1#1
  let main_v12 : IVec S_ 1 := (fun x v => Host.reduce IntOp.andi x v reducesTo_S4096x3x256_S_d0_1_2 h_S_) main_v11 main_c
  let main_cst_0 : FVec F S_ .f32 := constant S_ .f32 0xFF800000#32
  let main_v13 : FVec F S4096x3x256 .f32 := broadcastInDim S4096x3x256 ![] bcast_S_S4096x3x256 main_cst_0
  let main_v14 : IVec S4096x3x256 1 := cmpf .ogt main_v9 main_v13
  let main_c_1 : IVec S_ 1 := constantI S_ 1 1#1
  let main_v15 : IVec S_ 1 := (fun x v => Host.reduce IntOp.andi x v reducesTo_S4096x3x256_S_d0_1_2 h_S_) main_v14 main_c_1
  let main_v16 : IVec S_ 1 := andi main_v12 main_v15
  main_v16
-- ==== Kernel.lean ====
abbrev S4096x512 : Shape := ⟨2, ![4096, 512]⟩
abbrev S4096x3x256x2 : Shape := ⟨4, ![4096, 3, 256, 2]⟩
abbrev S1x1 : Shape := ⟨2, ![1, 1]⟩
abbrev S1x4096x512 : Shape := ⟨3, ![1, 4096, 512]⟩
abbrev S1 : Shape := ⟨1, ![1]⟩
abbrev S1x1x1 : Shape := ⟨3, ![1, 1, 1]⟩
abbrev S4096x3x2x128x2 : Shape := ⟨5, ![4096, 3, 2, 128, 2]⟩
abbrev S4096x3x2x2x128 : Shape := ⟨5, ![4096, 3, 2, 2, 128]⟩
abbrev S6291456 : Shape := ⟨1, ![6291456]⟩
abbrev S32x16 : Shape := ⟨2, ![32, 16]⟩
abbrev S8200 : Shape := ⟨1, ![8200]⟩
abbrev S4096 : Shape := ⟨1, ![4096]⟩
abbrev S256 : Shape := ⟨1, ![256]⟩
abbrev S16 : Shape := ⟨1, ![16]⟩
abbrev S_ : Shape := ⟨0, ![]⟩
abbrev S8192 : Shape := ⟨1, ![8192]⟩
abbrev S1x16 : Shape := ⟨2, ![1, 16]⟩

abbrev nBuf : Table → Nat
  | .hbm => 20
  | .local .tc .vmem => 3
  | .local .scVector .vmem => 11
  | _ => 0

abbrev bufTy : (tb : Table) → Fin (nBuf tb) → BufTy
  | .hbm, ⟨0, _⟩ => ⟨S4096x512, .f32⟩
  | .hbm, ⟨1, _⟩ => ⟨S4096x512, .f32⟩
  | .hbm, ⟨2, _⟩ => ⟨S4096x3x256x2, .f32⟩
  | .hbm, ⟨3, _⟩ => ⟨S4096x3x256x2, .f32⟩
  | .hbm, ⟨4, _⟩ => ⟨S1x1, .f32⟩
  | .hbm, ⟨5, _⟩ => ⟨S4096x3x2x128x2, .f32⟩
  | .hbm, ⟨6, _⟩ => ⟨S4096x3x2x2x128, .f32⟩
  | .hbm, ⟨7, _⟩ => ⟨S6291456, .f32⟩
  | .hbm, ⟨8, _⟩ => ⟨S4096x3x2x128x2, .f32⟩
  | .hbm, ⟨9, _⟩ => ⟨S4096x3x2x2x128, .f32⟩
  | .hbm, ⟨10, _⟩ => ⟨S6291456, .f32⟩
  | .hbm, ⟨11, _⟩ => ⟨S32x16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local .tc .vmem, ⟨0, _⟩ => ⟨S4096x512, .f32⟩
  | .local .tc .vmem, ⟨1, _⟩ => ⟨S4096x512, .f32⟩
  | .local .tc .vmem, ⟨2, _⟩ => ⟨S1x1, .f32⟩
  | .local .scVector .vmem, ⟨0, _⟩ => ⟨S8200, .f32⟩
  | .local .scVector .vmem, ⟨1, _⟩ => ⟨S8200, .f32⟩
  | .local .scVector .vmem, ⟨2, _⟩ => ⟨S8200, .f32⟩
  | .local .scVector .vmem, ⟨3, _⟩ => ⟨S8200, .f32⟩
  | .local .scVector .vmem, ⟨4, _⟩ => ⟨S4096, .f32⟩
  | .local .scVector .vmem, ⟨5, _⟩ => ⟨S4096, .f32⟩
  | .local .scVector .vmem, ⟨6, _⟩ => ⟨S256, .f32⟩
  | .local .scVector .vmem, ⟨7, _⟩ => ⟨S256, .i32⟩
  | .local .scVector .vmem, ⟨8, _⟩ => ⟨S256, .f32⟩
  | .local .scVector .vmem, ⟨9, _⟩ => ⟨S256, .i32⟩
  | .local .scVector .vmem, ⟨10, _⟩ => ⟨S16, .f32⟩
  | _, _ => ⟨S4096x512, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v3_scv : Ref sig .scVector := ⟨.hbm, 7, rfl⟩
abbrev main_v6_scv : Ref sig .scVector := ⟨.hbm, 10, rfl⟩
abbrev main_v7_scv : Ref sig .scVector := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v103 : BitVec 32 := Scalar.muli v1 c24_i32
  let c0_i32_20 : BitVec 32 := 0#32
  let v104 : BitVec 32 := Scalar.addi v103 c0_i32_20
  let c8192_i32 : BitVec 32 := 8192#32
  let v105 : BitVec 32 := Scalar.muli v104 c8192_i32
  ![v105.toNat]
@[reducible] def k1_t1_loop : Scf.Loop 32 :=
  let c0_i32_26 : BitVec 32 := 0#32
  let c12_i32_27 : BitVec 32 := 12#32
  let v115 : BitVec 32 := Scalar.addi c0_i32_26 c12_i32_27
  let c1_i32_28 : BitVec 32 := 1#32
  ⟨c0_i32_26, v115, c1_i32_28⟩
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_38 : BitVec 32 := 24#32
  let v130 : BitVec 32 := Scalar.muli v1 c24_i32_38
  let c0_i32_26 : BitVec 32 := 0#32
  let c1_i32_28 : BitVec 32 := 1#32
  let arg18 : BitVec 32 := Scf.iv c0_i32_26 c1_i32_28 k1_t1
  let c2_i32_36 : BitVec 32 := 2#32
  let v128 : BitVec 32 := Scalar.muli arg18 c2_i32_36
  let c1_i32_37 : BitVec 32 := 1#32
  let v129 : BitVec 32 := Scalar.addi v128 c1_i32_37
  let v131 : BitVec 32 := Scalar.addi v130 v129
  let c8192_i32_39 : BitVec 32 := 8192#32
  let v132 : BitVec 32 := Scalar.muli v131 c8192_i32_39
  ![v132.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_44 : BitVec 32 := 24#32
  let v141 : BitVec 32 := Scalar.muli v1 c24_i32_44
  let c8192_i32_45 : BitVec 32 := 8192#32
  let v142 : BitVec 32 := Scalar.muli v141 c8192_i32_45
  ![v142.toNat]
@[reducible] def k1_t2_loop : Scf.Loop 32 :=
  let c0_i32_51 : BitVec 32 := 0#32
  let c16_i32_52 : BitVec 32 := 16#32
  let v151 : BitVec 32 := Scalar.addi c0_i32_51 c16_i32_52
  let c1_i32_53 : BitVec 32 := 1#32
  ⟨c0_i32_51, v151, c1_i32_53⟩
def k1_off4 (k1_t2 : Fin k1_t2_loop.trips) (c0_i32_229 : BitVec 32) (c0_i32_230 : BitVec 32) : Fin 1 → Nat :=
  let c0_i32_51 : BitVec 32 := 0#32
  let c1_i32_53 : BitVec 32 := 1#32
  let arg20 : BitVec 32 := Scf.iv c0_i32_51 c1_i32_53 k1_t2
  let c512_i32_228 : BitVec 32 := 512#32
  let v581 : BitVec 32 := Scalar.muli arg20 c512_i32_228
  let v582 : BitVec 32 := Scalar.addi v581 c0_i32_229
  let v583 : BitVec 32 := Scalar.addi v582 c0_i32_230
  let v584 : Index := Scalar.indexCast v583
  ![v584.toNat]
def k1_off5 (k1_t2 : Fin k1_t2_loop.trips) (c0_i32_229 : BitVec 32) (c0_i32_230 : BitVec 32) : Fin 1 → Nat :=
  let c0_i32_51 : BitVec 32 := 0#32
  let c1_i32_53 : BitVec 32 := 1#32
  let arg20 : BitVec 32 := Scf.iv c0_i32_51 c1_i32_53 k1_t2
  let c512_i32_228 : BitVec 32 := 512#32
  let v581 : BitVec 32 := Scalar.muli arg20 c512_i32_228
  let v582 : BitVec 32 := Scalar.addi v581 c0_i32_229
  let v583 : BitVec 32 := Scalar.addi v582 c0_i32_230
  let c128_i32_231 : BitVec 32 := 128#32
  let v586 : BitVec 32 := Scalar.addi v583 c128_i32_231
  let v587 : Index := Scalar.indexCast v586
  ![v587.toNat]

def k1_chk1 (v711 : IVec S16 32) : Prop :=
  (∀ a x, ((![v711] : Fin 1 → IVec S16 32) a x).toNat < S4096.size a)
theorem k1_idx1_inb : ∀ (v711 : IVec S16 32) (k1_hw1 : k1_chk1 v711), ∀ a x, ((![v711] : Fin 1 → IVec S16 32) a x).toNat < S4096.size a := fun v711 k1_hw1 => k1_hw1

def k1_chk2 (v771 : IVec S16 32) : Prop :=
  (∀ a x, ((![v771] : Fin 1 → IVec S16 32) a x).toNat < S256.size a) ∧
  (∀ a x, ((![v771] : Fin 1 → IVec S16 32) a x).toNat < S256.size a)
theorem k1_idx2_inb : ∀ (v771 : IVec S16 32) (k1_hw2 : k1_chk2 v771), ∀ a x, ((![v771] : Fin 1 → IVec S16 32) a x).toNat < S256.size a := fun v771 k1_hw2 => k1_hw2.1
theorem k1_idx3_inb : ∀ (v771 : IVec S16 32) (k1_hw2 : k1_chk2 v771), ∀ a x, ((![v771] : Fin 1 → IVec S16 32) a x).toNat < S256.size a := fun v771 k1_hw2 => k1_hw2.2

def k1_chk3 (v776 : IVec S16 32) : Prop :=
  (∀ a x, ((![v776] : Fin 1 → IVec S16 32) a x).toNat < S4096.size a)
theorem k1_idx4_inb : ∀ (v776 : IVec S16 32) (k1_hw3 : k1_chk3 v776), ∀ a x, ((![v776] : Fin 1 → IVec S16 32) a x).toNat < S4096.size a := fun v776 k1_hw3 => k1_hw3

def k1_chk4 (v836 : IVec S16 32) : Prop :=
  (∀ a x, ((![v836] : Fin 1 → IVec S16 32) a x).toNat < S256.size a) ∧
  (∀ a x, ((![v836] : Fin 1 → IVec S16 32) a x).toNat < S256.size a)
theorem k1_idx5_inb : ∀ (v836 : IVec S16 32) (k1_hw4 : k1_chk4 v836), ∀ a x, ((![v836] : Fin 1 → IVec S16 32) a x).toNat < S256.size a := fun v836 k1_hw4 => k1_hw4.1
theorem k1_idx6_inb : ∀ (v836 : IVec S16 32) (k1_hw4 : k1_chk4 v836), ∀ a x, ((![v836] : Fin 1 → IVec S16 32) a x).toNat < S256.size a := fun v836 k1_hw4 => k1_hw4.2

def k1_chk5 (v841 : IVec S16 32) : Prop :=
  (∀ a x, ((![v841] : Fin 1 → IVec S16 32) a x).toNat < S4096.size a)
theorem k1_idx7_inb : ∀ (v841 : IVec S16 32) (k1_hw5 : k1_chk5 v841), ∀ a x, ((![v841] : Fin 1 → IVec S16 32) a x).toNat < S4096.size a := fun v841 k1_hw5 => k1_hw5

def k1_chk6 (v901 : IVec S16 32) : Prop :=
  (∀ a x, ((![v901] : Fin 1 → IVec S16 32) a x).toNat < S256.size a) ∧
  (∀ a x, ((![v901] : Fin 1 → IVec S16 32) a x).toNat < S256.size a)
theorem k1_idx8_inb : ∀ (v901 : IVec S16 32) (k1_hw6 : k1_chk6 v901), ∀ a x, ((![v901] : Fin 1 → IVec S16 32) a x).toNat < S256.size a := fun v901 k1_hw6 => k1_hw6.1
theorem k1_idx9_inb : ∀ (v901 : IVec S16 32) (k1_hw6 : k1_chk6 v901), ∀ a x, ((![v901] : Fin 1 → IVec S16 32) a x).toNat < S256.size a := fun v901 k1_hw6 => k1_hw6.2

def k1_chk7 (v906 : IVec S16 32) : Prop :=
  (∀ a x, ((![v906] : Fin 1 → IVec S16 32) a x).toNat < S4096.size a)
theorem k1_idx10_inb : ∀ (v906 : IVec S16 32) (k1_hw7 : k1_chk7 v906), ∀ a x, ((![v906] : Fin 1 → IVec S16 32) a x).toNat < S4096.size a := fun v906 k1_hw7 => k1_hw7

def k1_chk8 (v966 : IVec S16 32) : Prop :=
  (∀ a x, ((![v966] : Fin 1 → IVec S16 32) a x).toNat < S256.size a) ∧
  (∀ a x, ((![v966] : Fin 1 → IVec S16 32) a x).toNat < S256.size a)
theorem k1_idx11_inb : ∀ (v966 : IVec S16 32) (k1_hw8 : k1_chk8 v966), ∀ a x, ((![v966] : Fin 1 → IVec S16 32) a x).toNat < S256.size a := fun v966 k1_hw8 => k1_hw8.1
theorem k1_idx12_inb : ∀ (v966 : IVec S16 32) (k1_hw8 : k1_chk8 v966), ∀ a x, ((![v966] : Fin 1 → IVec S16 32) a x).toNat < S256.size a := fun v966 k1_hw8 => k1_hw8.2

def k1_chk9 (v971 : IVec S16 32) : Prop :=
  (∀ a x, ((![v971] : Fin 1 → IVec S16 32) a x).toNat < S4096.size a)
theorem k1_idx13_inb : ∀ (v971 : IVec S16 32) (k1_hw9 : k1_chk9 v971), ∀ a x, ((![v971] : Fin 1 → IVec S16 32) a x).toNat < S4096.size a := fun v971 k1_hw9 => k1_hw9

def k1_chk10 (v1031 : IVec S16 32) : Prop :=
  (∀ a x, ((![v1031] : Fin 1 → IVec S16 32) a x).toNat < S256.size a) ∧
  (∀ a x, ((![v1031] : Fin 1 → IVec S16 32) a x).toNat < S256.size a)
theorem k1_idx14_inb : ∀ (v1031 : IVec S16 32) (k1_hw10 : k1_chk10 v1031), ∀ a x, ((![v1031] : Fin 1 → IVec S16 32) a x).toNat < S256.size a := fun v1031 k1_hw10 => k1_hw10.1
theorem k1_idx15_inb : ∀ (v1031 : IVec S16 32) (k1_hw10 : k1_chk10 v1031), ∀ a x, ((![v1031] : Fin 1 → IVec S16 32) a x).toNat < S256.size a := fun v1031 k1_hw10 => k1_hw10.2

def k1_chk11 (v1036 : IVec S16 32) : Prop :=
  (∀ a x, ((![v1036] : Fin 1 → IVec S16 32) a x).toNat < S4096.size a)
theorem k1_idx16_inb : ∀ (v1036 : IVec S16 32) (k1_hw11 : k1_chk11 v1036), ∀ a x, ((![v1036] : Fin 1 → IVec S16 32) a x).toNat < S4096.size a := fun v1036 k1_hw11 => k1_hw11

def k1_chk12 (v1096 : IVec S16 32) : Prop :=
  (∀ a x, ((![v1096] : Fin 1 → IVec S16 32) a x).toNat < S256.size a) ∧
  (∀ a x, ((![v1096] : Fin 1 → IVec S16 32) a x).toNat < S256.size a)
theorem k1_idx17_inb : ∀ (v1096 : IVec S16 32) (k1_hw12 : k1_chk12 v1096), ∀ a x, ((![v1096] : Fin 1 → IVec S16 32) a x).toNat < S256.size a := fun v1096 k1_hw12 => k1_hw12.1
theorem k1_idx18_inb : ∀ (v1096 : IVec S16 32) (k1_hw12 : k1_chk12 v1096), ∀ a x, ((![v1096] : Fin 1 → IVec S16 32) a x).toNat < S256.size a := fun v1096 k1_hw12 => k1_hw12.2

def k1_chk13 (v1101 : IVec S16 32) : Prop :=
  (∀ a x, ((![v1101] : Fin 1 → IVec S16 32) a x).toNat < S4096.size a)
theorem k1_idx19_inb : ∀ (v1101 : IVec S16 32) (k1_hw13 : k1_chk13 v1101), ∀ a x, ((![v1101] : Fin 1 → IVec S16 32) a x).toNat < S4096.size a := fun v1101 k1_hw13 => k1_hw13

def k1_chk14 (v1161 : IVec S16 32) : Prop :=
  (∀ a x, ((![v1161] : Fin 1 → IVec S16 32) a x).toNat < S256.size a) ∧
  (∀ a x, ((![v1161] : Fin 1 → IVec S16 32) a x).toNat < S256.size a)
theorem k1_idx20_inb : ∀ (v1161 : IVec S16 32) (k1_hw14 : k1_chk14 v1161), ∀ a x, ((![v1161] : Fin 1 → IVec S16 32) a x).toNat < S256.size a := fun v1161 k1_hw14 => k1_hw14.1
theorem k1_idx21_inb : ∀ (v1161 : IVec S16 32) (k1_hw14 : k1_chk14 v1161), ∀ a x, ((![v1161] : Fin 1 → IVec S16 32) a x).toNat < S256.size a := fun v1161 k1_hw14 => k1_hw14.2

def k1_chk15 (v1166 : IVec S16 32) : Prop :=
  (∀ a x, ((![v1166] : Fin 1 → IVec S16 32) a x).toNat < S4096.size a)
theorem k1_idx22_inb : ∀ (v1166 : IVec S16 32) (k1_hw15 : k1_chk15 v1166), ∀ a x, ((![v1166] : Fin 1 → IVec S16 32) a x).toNat < S4096.size a := fun v1166 k1_hw15 => k1_hw15

def k1_chk16 (v1226 : IVec S16 32) : Prop :=
  (∀ a x, ((![v1226] : Fin 1 → IVec S16 32) a x).toNat < S256.size a) ∧
  (∀ a x, ((![v1226] : Fin 1 → IVec S16 32) a x).toNat < S256.size a)
theorem k1_idx23_inb : ∀ (v1226 : IVec S16 32) (k1_hw16 : k1_chk16 v1226), ∀ a x, ((![v1226] : Fin 1 → IVec S16 32) a x).toNat < S256.size a := fun v1226 k1_hw16 => k1_hw16.1
theorem k1_idx24_inb : ∀ (v1226 : IVec S16 32) (k1_hw16 : k1_chk16 v1226), ∀ a x, ((![v1226] : Fin 1 → IVec S16 32) a x).toNat < S256.size a := fun v1226 k1_hw16 => k1_hw16.2

def k1_chk17 (v1231 : IVec S16 32) : Prop :=
  (∀ a x, ((![v1231] : Fin 1 → IVec S16 32) a x).toNat < S4096.size a)
theorem k1_idx25_inb : ∀ (v1231 : IVec S16 32) (k1_hw17 : k1_chk17 v1231), ∀ a x, ((![v1231] : Fin 1 → IVec S16 32) a x).toNat < S4096.size a := fun v1231 k1_hw17 => k1_hw17

def k1_chk18 (v1291 : IVec S16 32) : Prop :=
  (∀ a x, ((![v1291] : Fin 1 → IVec S16 32) a x).toNat < S256.size a) ∧
  (∀ a x, ((![v1291] : Fin 1 → IVec S16 32) a x).toNat < S256.size a)
theorem k1_idx26_inb : ∀ (v1291 : IVec S16 32) (k1_hw18 : k1_chk18 v1291), ∀ a x, ((![v1291] : Fin 1 → IVec S16 32) a x).toNat < S256.size a := fun v1291 k1_hw18 => k1_hw18.1
theorem k1_idx27_inb : ∀ (v1291 : IVec S16 32) (k1_hw18 : k1_chk18 v1291), ∀ a x, ((![v1291] : Fin 1 → IVec S16 32) a x).toNat < S256.size a := fun v1291 k1_hw18 => k1_hw18.2

def k1_chk19 (v1296 : IVec S16 32) : Prop :=
  (∀ a x, ((![v1296] : Fin 1 → IVec S16 32) a x).toNat < S4096.size a)
theorem k1_idx28_inb : ∀ (v1296 : IVec S16 32) (k1_hw19 : k1_chk19 v1296), ∀ a x, ((![v1296] : Fin 1 → IVec S16 32) a x).toNat < S4096.size a := fun v1296 k1_hw19 => k1_hw19

def k1_chk20 (v1356 : IVec S16 32) : Prop :=
  (∀ a x, ((![v1356] : Fin 1 → IVec S16 32) a x).toNat < S256.size a) ∧
  (∀ a x, ((![v1356] : Fin 1 → IVec S16 32) a x).toNat < S256.size a)
theorem k1_idx29_inb : ∀ (v1356 : IVec S16 32) (k1_hw20 : k1_chk20 v1356), ∀ a x, ((![v1356] : Fin 1 → IVec S16 32) a x).toNat < S256.size a := fun v1356 k1_hw20 => k1_hw20.1
theorem k1_idx30_inb : ∀ (v1356 : IVec S16 32) (k1_hw20 : k1_chk20 v1356), ∀ a x, ((![v1356] : Fin 1 → IVec S16 32) a x).toNat < S256.size a := fun v1356 k1_hw20 => k1_hw20.2

def k1_chk21 (v1361 : IVec S16 32) : Prop :=
  (∀ a x, ((![v1361] : Fin 1 → IVec S16 32) a x).toNat < S4096.size a)
theorem k1_idx31_inb : ∀ (v1361 : IVec S16 32) (k1_hw21 : k1_chk21 v1361), ∀ a x, ((![v1361] : Fin 1 → IVec S16 32) a x).toNat < S4096.size a := fun v1361 k1_hw21 => k1_hw21

def k1_chk22 (v1421 : IVec S16 32) : Prop :=
  (∀ a x, ((![v1421] : Fin 1 → IVec S16 32) a x).toNat < S256.size a) ∧
  (∀ a x, ((![v1421] : Fin 1 → IVec S16 32) a x).toNat < S256.size a)
theorem k1_idx32_inb : ∀ (v1421 : IVec S16 32) (k1_hw22 : k1_chk22 v1421), ∀ a x, ((![v1421] : Fin 1 → IVec S16 32) a x).toNat < S256.size a := fun v1421 k1_hw22 => k1_hw22.1
theorem k1_idx33_inb : ∀ (v1421 : IVec S16 32) (k1_hw22 : k1_chk22 v1421), ∀ a x, ((![v1421] : Fin 1 → IVec S16 32) a x).toNat < S256.size a := fun v1421 k1_hw22 => k1_hw22.2

def k1_chk23 (v1426 : IVec S16 32) : Prop :=
  (∀ a x, ((![v1426] : Fin 1 → IVec S16 32) a x).toNat < S4096.size a)
theorem k1_idx34_inb : ∀ (v1426 : IVec S16 32) (k1_hw23 : k1_chk23 v1426), ∀ a x, ((![v1426] : Fin 1 → IVec S16 32) a x).toNat < S4096.size a := fun v1426 k1_hw23 => k1_hw23

def k1_chk24 (v1486 : IVec S16 32) : Prop :=
  (∀ a x, ((![v1486] : Fin 1 → IVec S16 32) a x).toNat < S256.size a) ∧
  (∀ a x, ((![v1486] : Fin 1 → IVec S16 32) a x).toNat < S256.size a)
theorem k1_idx35_inb : ∀ (v1486 : IVec S16 32) (k1_hw24 : k1_chk24 v1486), ∀ a x, ((![v1486] : Fin 1 → IVec S16 32) a x).toNat < S256.size a := fun v1486 k1_hw24 => k1_hw24.1
theorem k1_idx36_inb : ∀ (v1486 : IVec S16 32) (k1_hw24 : k1_chk24 v1486), ∀ a x, ((![v1486] : Fin 1 → IVec S16 32) a x).toNat < S256.size a := fun v1486 k1_hw24 => k1_hw24.2

def k1_chk25 (v1491 : IVec S16 32) : Prop :=
  (∀ a x, ((![v1491] : Fin 1 → IVec S16 32) a x).toNat < S4096.size a)
theorem k1_idx37_inb : ∀ (v1491 : IVec S16 32) (k1_hw25 : k1_chk25 v1491), ∀ a x, ((![v1491] : Fin 1 → IVec S16 32) a x).toNat < S4096.size a := fun v1491 k1_hw25 => k1_hw25

def k1_chk26 (v1551 : IVec S16 32) : Prop :=
  (∀ a x, ((![v1551] : Fin 1 → IVec S16 32) a x).toNat < S256.size a) ∧
  (∀ a x, ((![v1551] : Fin 1 → IVec S16 32) a x).toNat < S256.size a)
theorem k1_idx38_inb : ∀ (v1551 : IVec S16 32) (k1_hw26 : k1_chk26 v1551), ∀ a x, ((![v1551] : Fin 1 → IVec S16 32) a x).toNat < S256.size a := fun v1551 k1_hw26 => k1_hw26.1
theorem k1_idx39_inb : ∀ (v1551 : IVec S16 32) (k1_hw26 : k1_chk26 v1551), ∀ a x, ((![v1551] : Fin 1 → IVec S16 32) a x).toNat < S256.size a := fun v1551 k1_hw26 => k1_hw26.2

def k1_chk27 (v1556 : IVec S16 32) : Prop :=
  (∀ a x, ((![v1556] : Fin 1 → IVec S16 32) a x).toNat < S4096.size a)
theorem k1_idx40_inb : ∀ (v1556 : IVec S16 32) (k1_hw27 : k1_chk27 v1556), ∀ a x, ((![v1556] : Fin 1 → IVec S16 32) a x).toNat < S4096.size a := fun v1556 k1_hw27 => k1_hw27

def k1_chk28 (v1616 : IVec S16 32) : Prop :=
  (∀ a x, ((![v1616] : Fin 1 → IVec S16 32) a x).toNat < S256.size a) ∧
  (∀ a x, ((![v1616] : Fin 1 → IVec S16 32) a x).toNat < S256.size a)
theorem k1_idx41_inb : ∀ (v1616 : IVec S16 32) (k1_hw28 : k1_chk28 v1616), ∀ a x, ((![v1616] : Fin 1 → IVec S16 32) a x).toNat < S256.size a := fun v1616 k1_hw28 => k1_hw28.1
theorem k1_idx42_inb : ∀ (v1616 : IVec S16 32) (k1_hw28 : k1_chk28 v1616), ∀ a x, ((![v1616] : Fin 1 → IVec S16 32) a x).toNat < S256.size a := fun v1616 k1_hw28 => k1_hw28.2

def k1_chk29 (v1621 : IVec S16 32) : Prop :=
  (∀ a x, ((![v1621] : Fin 1 → IVec S16 32) a x).toNat < S4096.size a)
theorem k1_idx43_inb : ∀ (v1621 : IVec S16 32) (k1_hw29 : k1_chk29 v1621), ∀ a x, ((![v1621] : Fin 1 → IVec S16 32) a x).toNat < S4096.size a := fun v1621 k1_hw29 => k1_hw29

def k1_chk30 (v1681 : IVec S16 32) : Prop :=
  (∀ a x, ((![v1681] : Fin 1 → IVec S16 32) a x).toNat < S256.size a) ∧
  (∀ a x, ((![v1681] : Fin 1 → IVec S16 32) a x).toNat < S256.size a)
theorem k1_idx44_inb : ∀ (v1681 : IVec S16 32) (k1_hw30 : k1_chk30 v1681), ∀ a x, ((![v1681] : Fin 1 → IVec S16 32) a x).toNat < S256.size a := fun v1681 k1_hw30 => k1_hw30.1
theorem k1_idx45_inb : ∀ (v1681 : IVec S16 32) (k1_hw30 : k1_chk30 v1681), ∀ a x, ((![v1681] : Fin 1 → IVec S16 32) a x).toNat < S256.size a := fun v1681 k1_hw30 => k1_hw30.2

def k1_chk31 (v1686 : IVec S16 32) : Prop :=
  (∀ a x, ((![v1686] : Fin 1 → IVec S16 32) a x).toNat < S4096.size a)
theorem k1_idx46_inb : ∀ (v1686 : IVec S16 32) (k1_hw31 : k1_chk31 v1686), ∀ a x, ((![v1686] : Fin 1 → IVec S16 32) a x).toNat < S4096.size a := fun v1686 k1_hw31 => k1_hw31

def k1_chk32 (v1746 : IVec S16 32) : Prop :=
  (∀ a x, ((![v1746] : Fin 1 → IVec S16 32) a x).toNat < S256.size a) ∧
  (∀ a x, ((![v1746] : Fin 1 → IVec S16 32) a x).toNat < S256.size a)
theorem k1_idx47_inb : ∀ (v1746 : IVec S16 32) (k1_hw32 : k1_chk32 v1746), ∀ a x, ((![v1746] : Fin 1 → IVec S16 32) a x).toNat < S256.size a := fun v1746 k1_hw32 => k1_hw32.1
theorem k1_idx48_inb : ∀ (v1746 : IVec S16 32) (k1_hw32 : k1_chk32 v1746), ∀ a x, ((![v1746] : Fin 1 → IVec S16 32) a x).toNat < S256.size a := fun v1746 k1_hw32 => k1_hw32.2
@[reducible] def k1_t3_loop : Scf.Loop 32 :=
  let c0_i32_56 : BitVec 32 := 0#32
  let c16_i32_57 : BitVec 32 := 16#32
  let v152 : BitVec 32 := Scalar.addi c0_i32_56 c16_i32_57
  let c1_i32_58 : BitVec 32 := 1#32
  ⟨c0_i32_56, v152, c1_i32_58⟩
def k1_off6 (k1_t3 : Fin k1_t3_loop.trips) (c0_i32_229 : BitVec 32) (c0_i32_230 : BitVec 32) : Fin 1 → Nat :=
  let c0_i32_56 : BitVec 32 := 0#32
  let c1_i32_58 : BitVec 32 := 1#32
  let arg20 : BitVec 32 := Scf.iv c0_i32_56 c1_i32_58 k1_t3
  let c512_i32_228 : BitVec 32 := 512#32
  let v581 : BitVec 32 := Scalar.muli arg20 c512_i32_228
  let v582 : BitVec 32 := Scalar.addi v581 c0_i32_229
  let v583 : BitVec 32 := Scalar.addi v582 c0_i32_230
  let v584 : Index := Scalar.indexCast v583
  ![v584.toNat]
def k1_off7 (k1_t3 : Fin k1_t3_loop.trips) (c0_i32_229 : BitVec 32) (c0_i32_230 : BitVec 32) : Fin 1 → Nat :=
  let c0_i32_56 : BitVec 32 := 0#32
  let c1_i32_58 : BitVec 32 := 1#32
  let arg20 : BitVec 32 := Scf.iv c0_i32_56 c1_i32_58 k1_t3
  let c512_i32_228 : BitVec 32 := 512#32
  let v581 : BitVec 32 := Scalar.muli arg20 c512_i32_228
  let v582 : BitVec 32 := Scalar.addi v581 c0_i32_229
  let v583 : BitVec 32 := Scalar.addi v582 c0_i32_230
  let c128_i32_231 : BitVec 32 := 128#32
  let v586 : BitVec 32 := Scalar.addi v583 c128_i32_231
  let v587 : Index := Scalar.indexCast v586
  ![v587.toNat]

def k1_chk33 (v711 : IVec S16 32) : Prop :=
  (∀ a x, ((![v711] : Fin 1 → IVec S16 32) a x).toNat < S4096.size a)
theorem k1_idx49_inb : ∀ (v711 : IVec S16 32) (k1_hw33 : k1_chk33 v711), ∀ a x, ((![v711] : Fin 1 → IVec S16 32) a x).toNat < S4096.size a := fun v711 k1_hw33 => k1_hw33

def k1_chk34 (v771 : IVec S16 32) : Prop :=
  (∀ a x, ((![v771] : Fin 1 → IVec S16 32) a x).toNat < S256.size a) ∧
  (∀ a x, ((![v771] : Fin 1 → IVec S16 32) a x).toNat < S256.size a)
theorem k1_idx50_inb : ∀ (v771 : IVec S16 32) (k1_hw34 : k1_chk34 v771), ∀ a x, ((![v771] : Fin 1 → IVec S16 32) a x).toNat < S256.size a := fun v771 k1_hw34 => k1_hw34.1
theorem k1_idx51_inb : ∀ (v771 : IVec S16 32) (k1_hw34 : k1_chk34 v771), ∀ a x, ((![v771] : Fin 1 → IVec S16 32) a x).toNat < S256.size a := fun v771 k1_hw34 => k1_hw34.2

def k1_chk35 (v776 : IVec S16 32) : Prop :=
  (∀ a x, ((![v776] : Fin 1 → IVec S16 32) a x).toNat < S4096.size a)
theorem k1_idx52_inb : ∀ (v776 : IVec S16 32) (k1_hw35 : k1_chk35 v776), ∀ a x, ((![v776] : Fin 1 → IVec S16 32) a x).toNat < S4096.size a := fun v776 k1_hw35 => k1_hw35

def k1_chk36 (v836 : IVec S16 32) : Prop :=
  (∀ a x, ((![v836] : Fin 1 → IVec S16 32) a x).toNat < S256.size a) ∧
  (∀ a x, ((![v836] : Fin 1 → IVec S16 32) a x).toNat < S256.size a)
theorem k1_idx53_inb : ∀ (v836 : IVec S16 32) (k1_hw36 : k1_chk36 v836), ∀ a x, ((![v836] : Fin 1 → IVec S16 32) a x).toNat < S256.size a := fun v836 k1_hw36 => k1_hw36.1
theorem k1_idx54_inb : ∀ (v836 : IVec S16 32) (k1_hw36 : k1_chk36 v836), ∀ a x, ((![v836] : Fin 1 → IVec S16 32) a x).toNat < S256.size a := fun v836 k1_hw36 => k1_hw36.2

def k1_chk37 (v841 : IVec S16 32) : Prop :=
  (∀ a x, ((![v841] : Fin 1 → IVec S16 32) a x).toNat < S4096.size a)
theorem k1_idx55_inb : ∀ (v841 : IVec S16 32) (k1_hw37 : k1_chk37 v841), ∀ a x, ((![v841] : Fin 1 → IVec S16 32) a x).toNat < S4096.size a := fun v841 k1_hw37 => k1_hw37

def k1_chk38 (v901 : IVec S16 32) : Prop :=
  (∀ a x, ((![v901] : Fin 1 → IVec S16 32) a x).toNat < S256.size a) ∧
  (∀ a x, ((![v901] : Fin 1 → IVec S16 32) a x).toNat < S256.size a)
theorem k1_idx56_inb : ∀ (v901 : IVec S16 32) (k1_hw38 : k1_chk38 v901), ∀ a x, ((![v901] : Fin 1 → IVec S16 32) a x).toNat < S256.size a := fun v901 k1_hw38 => k1_hw38.1
theorem k1_idx57_inb : ∀ (v901 : IVec S16 32) (k1_hw38 : k1_chk38 v901), ∀ a x, ((![v901] : Fin 1 → IVec S16 32) a x).toNat < S256.size a := fun v901 k1_hw38 => k1_hw38.2

def k1_chk39 (v906 : IVec S16 32) : Prop :=
  (∀ a x, ((![v906] : Fin 1 → IVec S16 32) a x).toNat < S4096.size a)
theorem k1_idx58_inb : ∀ (v906 : IVec S16 32) (k1_hw39 : k1_chk39 v906), ∀ a x, ((![v906] : Fin 1 → IVec S16 32) a x).toNat < S4096.size a := fun v906 k1_hw39 => k1_hw39

def k1_chk40 (v966 : IVec S16 32) : Prop :=
  (∀ a x, ((![v966] : Fin 1 → IVec S16 32) a x).toNat < S256.size a) ∧
  (∀ a x, ((![v966] : Fin 1 → IVec S16 32) a x).toNat < S256.size a)
theorem k1_idx59_inb : ∀ (v966 : IVec S16 32) (k1_hw40 : k1_chk40 v966), ∀ a x, ((![v966] : Fin 1 → IVec S16 32) a x).toNat < S256.size a := fun v966 k1_hw40 => k1_hw40.1
theorem k1_idx60_inb : ∀ (v966 : IVec S16 32) (k1_hw40 : k1_chk40 v966), ∀ a x, ((![v966] : Fin 1 → IVec S16 32) a x).toNat < S256.size a := fun v966 k1_hw40 => k1_hw40.2

def k1_chk41 (v971 : IVec S16 32) : Prop :=
  (∀ a x, ((![v971] : Fin 1 → IVec S16 32) a x).toNat < S4096.size a)
theorem k1_idx61_inb : ∀ (v971 : IVec S16 32) (k1_hw41 : k1_chk41 v971), ∀ a x, ((![v971] : Fin 1 → IVec S16 32) a x).toNat < S4096.size a := fun v971 k1_hw41 => k1_hw41

def k1_chk42 (v1031 : IVec S16 32) : Prop :=
  (∀ a x, ((![v1031] : Fin 1 → IVec S16 32) a x).toNat < S256.size a) ∧
  (∀ a x, ((![v1031] : Fin 1 → IVec S16 32) a x).toNat < S256.size a)
theorem k1_idx62_inb : ∀ (v1031 : IVec S16 32) (k1_hw42 : k1_chk42 v1031), ∀ a x, ((![v1031] : Fin 1 → IVec S16 32) a x).toNat < S256.size a := fun v1031 k1_hw42 => k1_hw42.1
theorem k1_idx63_inb : ∀ (v1031 : IVec S16 32) (k1_hw42 : k1_chk42 v1031), ∀ a x, ((![v1031] : Fin 1 → IVec S16 32) a x).toNat < S256.size a := fun v1031 k1_hw42 => k1_hw42.2

def k1_chk43 (v1036 : IVec S16 32) : Prop :=
  (∀ a x, ((![v1036] : Fin 1 → IVec S16 32) a x).toNat < S4096.size a)
theorem k1_idx64_inb : ∀ (v1036 : IVec S16 32) (k1_hw43 : k1_chk43 v1036), ∀ a x, ((![v1036] : Fin 1 → IVec S16 32) a x).toNat < S4096.size a := fun v1036 k1_hw43 => k1_hw43

def k1_chk44 (v1096 : IVec S16 32) : Prop :=
  (∀ a x, ((![v1096] : Fin 1 → IVec S16 32) a x).toNat < S256.size a) ∧
  (∀ a x, ((![v1096] : Fin 1 → IVec S16 32) a x).toNat < S256.size a)
theorem k1_idx65_inb : ∀ (v1096 : IVec S16 32) (k1_hw44 : k1_chk44 v1096), ∀ a x, ((![v1096] : Fin 1 → IVec S16 32) a x).toNat < S256.size a := fun v1096 k1_hw44 => k1_hw44.1
theorem k1_idx66_inb : ∀ (v1096 : IVec S16 32) (k1_hw44 : k1_chk44 v1096), ∀ a x, ((![v1096] : Fin 1 → IVec S16 32) a x).toNat < S256.size a := fun v1096 k1_hw44 => k1_hw44.2

def k1_chk45 (v1101 : IVec S16 32) : Prop :=
  (∀ a x, ((![v1101] : Fin 1 → IVec S16 32) a x).toNat < S4096.size a)
theorem k1_idx67_inb : ∀ (v1101 : IVec S16 32) (k1_hw45 : k1_chk45 v1101), ∀ a x, ((![v1101] : Fin 1 → IVec S16 32) a x).toNat < S4096.size a := fun v1101 k1_hw45 => k1_hw45

def k1_chk46 (v1161 : IVec S16 32) : Prop :=
  (∀ a x, ((![v1161] : Fin 1 → IVec S16 32) a x).toNat < S256.size a) ∧
  (∀ a x, ((![v1161] : Fin 1 → IVec S16 32) a x).toNat < S256.size a)
theorem k1_idx68_inb : ∀ (v1161 : IVec S16 32) (k1_hw46 : k1_chk46 v1161), ∀ a x, ((![v1161] : Fin 1 → IVec S16 32) a x).toNat < S256.size a := fun v1161 k1_hw46 => k1_hw46.1
theorem k1_idx69_inb : ∀ (v1161 : IVec S16 32) (k1_hw46 : k1_chk46 v1161), ∀ a x, ((![v1161] : Fin 1 → IVec S16 32) a x).toNat < S256.size a := fun v1161 k1_hw46 => k1_hw46.2

def k1_chk47 (v1166 : IVec S16 32) : Prop :=
  (∀ a x, ((![v1166] : Fin 1 → IVec S16 32) a x).toNat < S4096.size a)
theorem k1_idx70_inb : ∀ (v1166 : IVec S16 32) (k1_hw47 : k1_chk47 v1166), ∀ a x, ((![v1166] : Fin 1 → IVec S16 32) a x).toNat < S4096.size a := fun v1166 k1_hw47 => k1_hw47

def k1_chk48 (v1226 : IVec S16 32) : Prop :=
  (∀ a x, ((![v1226] : Fin 1 → IVec S16 32) a x).toNat < S256.size a) ∧
  (∀ a x, ((![v1226] : Fin 1 → IVec S16 32) a x).toNat < S256.size a)
theorem k1_idx71_inb : ∀ (v1226 : IVec S16 32) (k1_hw48 : k1_chk48 v1226), ∀ a x, ((![v1226] : Fin 1 → IVec S16 32) a x).toNat < S256.size a := fun v1226 k1_hw48 => k1_hw48.1
theorem k1_idx72_inb : ∀ (v1226 : IVec S16 32) (k1_hw48 : k1_chk48 v1226), ∀ a x, ((![v1226] : Fin 1 → IVec S16 32) a x).toNat < S256.size a := fun v1226 k1_hw48 => k1_hw48.2

def k1_chk49 (v1231 : IVec S16 32) : Prop :=
  (∀ a x, ((![v1231] : Fin 1 → IVec S16 32) a x).toNat < S4096.size a)
theorem k1_idx73_inb : ∀ (v1231 : IVec S16 32) (k1_hw49 : k1_chk49 v1231), ∀ a x, ((![v1231] : Fin 1 → IVec S16 32) a x).toNat < S4096.size a := fun v1231 k1_hw49 => k1_hw49

def k1_chk50 (v1291 : IVec S16 32) : Prop :=
  (∀ a x, ((![v1291] : Fin 1 → IVec S16 32) a x).toNat < S256.size a) ∧
  (∀ a x, ((![v1291] : Fin 1 → IVec S16 32) a x).toNat < S256.size a)
theorem k1_idx74_inb : ∀ (v1291 : IVec S16 32) (k1_hw50 : k1_chk50 v1291), ∀ a x, ((![v1291] : Fin 1 → IVec S16 32) a x).toNat < S256.size a := fun v1291 k1_hw50 => k1_hw50.1
theorem k1_idx75_inb : ∀ (v1291 : IVec S16 32) (k1_hw50 : k1_chk50 v1291), ∀ a x, ((![v1291] : Fin 1 → IVec S16 32) a x).toNat < S256.size a := fun v1291 k1_hw50 => k1_hw50.2

def k1_chk51 (v1296 : IVec S16 32) : Prop :=
  (∀ a x, ((![v1296] : Fin 1 → IVec S16 32) a x).toNat < S4096.size a)
theorem k1_idx76_inb : ∀ (v1296 : IVec S16 32) (k1_hw51 : k1_chk51 v1296), ∀ a x, ((![v1296] : Fin 1 → IVec S16 32) a x).toNat < S4096.size a := fun v1296 k1_hw51 => k1_hw51

def k1_chk52 (v1356 : IVec S16 32) : Prop :=
  (∀ a x, ((![v1356] : Fin 1 → IVec S16 32) a x).toNat < S256.size a) ∧
  (∀ a x, ((![v1356] : Fin 1 → IVec S16 32) a x).toNat < S256.size a)
theorem k1_idx77_inb : ∀ (v1356 : IVec S16 32) (k1_hw52 : k1_chk52 v1356), ∀ a x, ((![v1356] : Fin 1 → IVec S16 32) a x).toNat < S256.size a := fun v1356 k1_hw52 => k1_hw52.1
theorem k1_idx78_inb : ∀ (v1356 : IVec S16 32) (k1_hw52 : k1_chk52 v1356), ∀ a x, ((![v1356] : Fin 1 → IVec S16 32) a x).toNat < S256.size a := fun v1356 k1_hw52 => k1_hw52.2

def k1_chk53 (v1361 : IVec S16 32) : Prop :=
  (∀ a x, ((![v1361] : Fin 1 → IVec S16 32) a x).toNat < S4096.size a)
theorem k1_idx79_inb : ∀ (v1361 : IVec S16 32) (k1_hw53 : k1_chk53 v1361), ∀ a x, ((![v1361] : Fin 1 → IVec S16 32) a x).toNat < S4096.size a := fun v1361 k1_hw53 => k1_hw53

def k1_chk54 (v1421 : IVec S16 32) : Prop :=
  (∀ a x, ((![v1421] : Fin 1 → IVec S16 32) a x).toNat < S256.size a) ∧
  (∀ a x, ((![v1421] : Fin 1 → IVec S16 32) a x).toNat < S256.size a)
theorem k1_idx80_inb : ∀ (v1421 : IVec S16 32) (k1_hw54 : k1_chk54 v1421), ∀ a x, ((![v1421] : Fin 1 → IVec S16 32) a x).toNat < S256.size a := fun v1421 k1_hw54 => k1_hw54.1
theorem k1_idx81_inb : ∀ (v1421 : IVec S16 32) (k1_hw54 : k1_chk54 v1421), ∀ a x, ((![v1421] : Fin 1 → IVec S16 32) a x).toNat < S256.size a := fun v1421 k1_hw54 => k1_hw54.2

def k1_chk55 (v1426 : IVec S16 32) : Prop :=
  (∀ a x, ((![v1426] : Fin 1 → IVec S16 32) a x).toNat < S4096.size a)
theorem k1_idx82_inb : ∀ (v1426 : IVec S16 32) (k1_hw55 : k1_chk55 v1426), ∀ a x, ((![v1426] : Fin 1 → IVec S16 32) a x).toNat < S4096.size a := fun v1426 k1_hw55 => k1_hw55

def k1_chk56 (v1486 : IVec S16 32) : Prop :=
  (∀ a x, ((![v1486] : Fin 1 → IVec S16 32) a x).toNat < S256.size a) ∧
  (∀ a x, ((![v1486] : Fin 1 → IVec S16 32) a x).toNat < S256.size a)
theorem k1_idx83_inb : ∀ (v1486 : IVec S16 32) (k1_hw56 : k1_chk56 v1486), ∀ a x, ((![v1486] : Fin 1 → IVec S16 32) a x).toNat < S256.size a := fun v1486 k1_hw56 => k1_hw56.1
theorem k1_idx84_inb : ∀ (v1486 : IVec S16 32) (k1_hw56 : k1_chk56 v1486), ∀ a x, ((![v1486] : Fin 1 → IVec S16 32) a x).toNat < S256.size a := fun v1486 k1_hw56 => k1_hw56.2

def k1_chk57 (v1491 : IVec S16 32) : Prop :=
  (∀ a x, ((![v1491] : Fin 1 → IVec S16 32) a x).toNat < S4096.size a)
theorem k1_idx85_inb : ∀ (v1491 : IVec S16 32) (k1_hw57 : k1_chk57 v1491), ∀ a x, ((![v1491] : Fin 1 → IVec S16 32) a x).toNat < S4096.size a := fun v1491 k1_hw57 => k1_hw57

def k1_chk58 (v1551 : IVec S16 32) : Prop :=
  (∀ a x, ((![v1551] : Fin 1 → IVec S16 32) a x).toNat < S256.size a) ∧
  (∀ a x, ((![v1551] : Fin 1 → IVec S16 32) a x).toNat < S256.size a)
theorem k1_idx86_inb : ∀ (v1551 : IVec S16 32) (k1_hw58 : k1_chk58 v1551), ∀ a x, ((![v1551] : Fin 1 → IVec S16 32) a x).toNat < S256.size a := fun v1551 k1_hw58 => k1_hw58.1
theorem k1_idx87_inb : ∀ (v1551 : IVec S16 32) (k1_hw58 : k1_chk58 v1551), ∀ a x, ((![v1551] : Fin 1 → IVec S16 32) a x).toNat < S256.size a := fun v1551 k1_hw58 => k1_hw58.2

def k1_chk59 (v1556 : IVec S16 32) : Prop :=
  (∀ a x, ((![v1556] : Fin 1 → IVec S16 32) a x).toNat < S4096.size a)
theorem k1_idx88_inb : ∀ (v1556 : IVec S16 32) (k1_hw59 : k1_chk59 v1556), ∀ a x, ((![v1556] : Fin 1 → IVec S16 32) a x).toNat < S4096.size a := fun v1556 k1_hw59 => k1_hw59

def k1_chk60 (v1616 : IVec S16 32) : Prop :=
  (∀ a x, ((![v1616] : Fin 1 → IVec S16 32) a x).toNat < S256.size a) ∧
  (∀ a x, ((![v1616] : Fin 1 → IVec S16 32) a x).toNat < S256.size a)
theorem k1_idx89_inb : ∀ (v1616 : IVec S16 32) (k1_hw60 : k1_chk60 v1616), ∀ a x, ((![v1616] : Fin 1 → IVec S16 32) a x).toNat < S256.size a := fun v1616 k1_hw60 => k1_hw60.1
theorem k1_idx90_inb : ∀ (v1616 : IVec S16 32) (k1_hw60 : k1_chk60 v1616), ∀ a x, ((![v1616] : Fin 1 → IVec S16 32) a x).toNat < S256.size a := fun v1616 k1_hw60 => k1_hw60.2

def k1_chk61 (v1621 : IVec S16 32) : Prop :=
  (∀ a x, ((![v1621] : Fin 1 → IVec S16 32) a x).toNat < S4096.size a)
theorem k1_idx91_inb : ∀ (v1621 : IVec S16 32) (k1_hw61 : k1_chk61 v1621), ∀ a x, ((![v1621] : Fin 1 → IVec S16 32) a x).toNat < S4096.size a := fun v1621 k1_hw61 => k1_hw61

def k1_chk62 (v1681 : IVec S16 32) : Prop :=
  (∀ a x, ((![v1681] : Fin 1 → IVec S16 32) a x).toNat < S256.size a) ∧
  (∀ a x, ((![v1681] : Fin 1 → IVec S16 32) a x).toNat < S256.size a)
theorem k1_idx92_inb : ∀ (v1681 : IVec S16 32) (k1_hw62 : k1_chk62 v1681), ∀ a x, ((![v1681] : Fin 1 → IVec S16 32) a x).toNat < S256.size a := fun v1681 k1_hw62 => k1_hw62.1
theorem k1_idx93_inb : ∀ (v1681 : IVec S16 32) (k1_hw62 : k1_chk62 v1681), ∀ a x, ((![v1681] : Fin 1 → IVec S16 32) a x).toNat < S256.size a := fun v1681 k1_hw62 => k1_hw62.2

def k1_chk63 (v1686 : IVec S16 32) : Prop :=
  (∀ a x, ((![v1686] : Fin 1 → IVec S16 32) a x).toNat < S4096.size a)
theorem k1_idx94_inb : ∀ (v1686 : IVec S16 32) (k1_hw63 : k1_chk63 v1686), ∀ a x, ((![v1686] : Fin 1 → IVec S16 32) a x).toNat < S4096.size a := fun v1686 k1_hw63 => k1_hw63

def k1_chk64 (v1746 : IVec S16 32) : Prop :=
  (∀ a x, ((![v1746] : Fin 1 → IVec S16 32) a x).toNat < S256.size a) ∧
  (∀ a x, ((![v1746] : Fin 1 → IVec S16 32) a x).toNat < S256.size a)
theorem k1_idx95_inb : ∀ (v1746 : IVec S16 32) (k1_hw64 : k1_chk64 v1746), ∀ a x, ((![v1746] : Fin 1 → IVec S16 32) a x).toNat < S256.size a := fun v1746 k1_hw64 => k1_hw64.1
theorem k1_idx96_inb : ∀ (v1746 : IVec S16 32) (k1_hw64 : k1_chk64 v1746), ∀ a x, ((![v1746] : Fin 1 → IVec S16 32) a x).toNat < S256.size a := fun v1746 k1_hw64 => k1_hw64.2
@[reducible] def k1_t4_loop : Scf.Loop 32 :=
  let c0_i32_60 : BitVec 32 := 0#32
  let c9_i32_61 : BitVec 32 := 9#32
  let v153 : BitVec 32 := Scalar.addi c0_i32_60 c9_i32_61
  let c1_i32_62 : BitVec 32 := 1#32
  ⟨c0_i32_60, v153, c1_i32_62⟩

def k1_chk65 (v653 : IVec S16 32) : Prop :=
  (∀ a x, ((![v653] : Fin 1 → IVec S16 32) a x).toNat < S256.size a)
theorem k1_idx97_inb : ∀ (v653 : IVec S16 32) (k1_hw65 : k1_chk65 v653), ∀ a x, ((![v653] : Fin 1 → IVec S16 32) a x).toNat < S256.size a := fun v653 k1_hw65 => k1_hw65

def k1_chk66 (v664 : IVec S16 32) : Prop :=
  (∀ a x, ((![v664] : Fin 1 → IVec S16 32) a x).toNat < S8200.size a)
theorem k1_idx98_inb : ∀ (v664 : IVec S16 32) (k1_hw66 : k1_chk66 v664), ∀ a x, ((![v664] : Fin 1 → IVec S16 32) a x).toNat < S8200.size a := fun v664 k1_hw66 => k1_hw66

def k1_chk67 (v667 : IVec S16 32) : Prop :=
  (∀ a x, ((![v667] : Fin 1 → IVec S16 32) a x).toNat < S8200.size a)
theorem k1_idx99_inb : ∀ (v667 : IVec S16 32) (k1_hw67 : k1_chk67 v667), ∀ a x, ((![v667] : Fin 1 → IVec S16 32) a x).toNat < S8200.size a := fun v667 k1_hw67 => k1_hw67

def k1_chk68 (v674 : IVec S16 32) : Prop :=
  (∀ a x, ((![v674] : Fin 1 → IVec S16 32) a x).toNat < S4096.size a)
theorem k1_idx100_inb : ∀ (v674 : IVec S16 32) (k1_hw68 : k1_chk68 v674), ∀ a x, ((![v674] : Fin 1 → IVec S16 32) a x).toNat < S4096.size a := fun v674 k1_hw68 => k1_hw68

def k1_chk69 (v677 : IVec S16 32) : Prop :=
  (∀ a x, ((![v677] : Fin 1 → IVec S16 32) a x).toNat < S4096.size a)
theorem k1_idx101_inb : ∀ (v677 : IVec S16 32) (k1_hw69 : k1_chk69 v677), ∀ a x, ((![v677] : Fin 1 → IVec S16 32) a x).toNat < S4096.size a := fun v677 k1_hw69 => k1_hw69

def k1_chk70 (v681 : IVec S16 32) : Prop :=
  (∀ a x, ((![v681] : Fin 1 → IVec S16 32) a x).toNat < S4096.size a)
theorem k1_idx102_inb : ∀ (v681 : IVec S16 32) (k1_hw70 : k1_chk70 v681), ∀ a x, ((![v681] : Fin 1 → IVec S16 32) a x).toNat < S4096.size a := fun v681 k1_hw70 => k1_hw70

def k1_chk71 (v685 : IVec S16 32) : Prop :=
  (∀ a x, ((![v685] : Fin 1 → IVec S16 32) a x).toNat < S4096.size a)
theorem k1_idx103_inb : ∀ (v685 : IVec S16 32) (k1_hw71 : k1_chk71 v685), ∀ a x, ((![v685] : Fin 1 → IVec S16 32) a x).toNat < S4096.size a := fun v685 k1_hw71 => k1_hw71

def k1_chk72 (v689 : IVec S16 32) : Prop :=
  (∀ a x, ((![v689] : Fin 1 → IVec S16 32) a x).toNat < S4096.size a)
theorem k1_idx104_inb : ∀ (v689 : IVec S16 32) (k1_hw72 : k1_chk72 v689), ∀ a x, ((![v689] : Fin 1 → IVec S16 32) a x).toNat < S4096.size a := fun v689 k1_hw72 => k1_hw72

def k1_chk73 (v693 : IVec S16 32) : Prop :=
  (∀ a x, ((![v693] : Fin 1 → IVec S16 32) a x).toNat < S4096.size a)
theorem k1_idx105_inb : ∀ (v693 : IVec S16 32) (k1_hw73 : k1_chk73 v693), ∀ a x, ((![v693] : Fin 1 → IVec S16 32) a x).toNat < S4096.size a := fun v693 k1_hw73 => k1_hw73

def k1_chk74 (v697 : IVec S16 32) : Prop :=
  (∀ a x, ((![v697] : Fin 1 → IVec S16 32) a x).toNat < S4096.size a)
theorem k1_idx106_inb : ∀ (v697 : IVec S16 32) (k1_hw74 : k1_chk74 v697), ∀ a x, ((![v697] : Fin 1 → IVec S16 32) a x).toNat < S4096.size a := fun v697 k1_hw74 => k1_hw74

def k1_chk75 (v701 : IVec S16 32) : Prop :=
  (∀ a x, ((![v701] : Fin 1 → IVec S16 32) a x).toNat < S4096.size a)
theorem k1_idx107_inb : ∀ (v701 : IVec S16 32) (k1_hw75 : k1_chk75 v701), ∀ a x, ((![v701] : Fin 1 → IVec S16 32) a x).toNat < S4096.size a := fun v701 k1_hw75 => k1_hw75

def k1_chk76 (v705 : IVec S16 32) : Prop :=
  (∀ a x, ((![v705] : Fin 1 → IVec S16 32) a x).toNat < S4096.size a)
theorem k1_idx108_inb : ∀ (v705 : IVec S16 32) (k1_hw76 : k1_chk76 v705), ∀ a x, ((![v705] : Fin 1 → IVec S16 32) a x).toNat < S4096.size a := fun v705 k1_hw76 => k1_hw76

def k1_chk77 (v709 : IVec S16 32) : Prop :=
  (∀ a x, ((![v709] : Fin 1 → IVec S16 32) a x).toNat < S4096.size a)
theorem k1_idx109_inb : ∀ (v709 : IVec S16 32) (k1_hw77 : k1_chk77 v709), ∀ a x, ((![v709] : Fin 1 → IVec S16 32) a x).toNat < S4096.size a := fun v709 k1_hw77 => k1_hw77

def k1_chk78 (v713 : IVec S16 32) : Prop :=
  (∀ a x, ((![v713] : Fin 1 → IVec S16 32) a x).toNat < S4096.size a)
theorem k1_idx110_inb : ∀ (v713 : IVec S16 32) (k1_hw78 : k1_chk78 v713), ∀ a x, ((![v713] : Fin 1 → IVec S16 32) a x).toNat < S4096.size a := fun v713 k1_hw78 => k1_hw78

def k1_chk79 (v717 : IVec S16 32) : Prop :=
  (∀ a x, ((![v717] : Fin 1 → IVec S16 32) a x).toNat < S4096.size a)
theorem k1_idx111_inb : ∀ (v717 : IVec S16 32) (k1_hw79 : k1_chk79 v717), ∀ a x, ((![v717] : Fin 1 → IVec S16 32) a x).toNat < S4096.size a := fun v717 k1_hw79 => k1_hw79

def k1_chk80 (v721 : IVec S16 32) : Prop :=
  (∀ a x, ((![v721] : Fin 1 → IVec S16 32) a x).toNat < S4096.size a)
theorem k1_idx112_inb : ∀ (v721 : IVec S16 32) (k1_hw80 : k1_chk80 v721), ∀ a x, ((![v721] : Fin 1 → IVec S16 32) a x).toNat < S4096.size a := fun v721 k1_hw80 => k1_hw80

def k1_chk81 (v725 : IVec S16 32) : Prop :=
  (∀ a x, ((![v725] : Fin 1 → IVec S16 32) a x).toNat < S4096.size a)
theorem k1_idx113_inb : ∀ (v725 : IVec S16 32) (k1_hw81 : k1_chk81 v725), ∀ a x, ((![v725] : Fin 1 → IVec S16 32) a x).toNat < S4096.size a := fun v725 k1_hw81 => k1_hw81

def k1_chk82 (v729 : IVec S16 32) : Prop :=
  (∀ a x, ((![v729] : Fin 1 → IVec S16 32) a x).toNat < S4096.size a)
theorem k1_idx114_inb : ∀ (v729 : IVec S16 32) (k1_hw82 : k1_chk82 v729), ∀ a x, ((![v729] : Fin 1 → IVec S16 32) a x).toNat < S4096.size a := fun v729 k1_hw82 => k1_hw82

def k1_chk83 (v733 : IVec S16 32) : Prop :=
  (∀ a x, ((![v733] : Fin 1 → IVec S16 32) a x).toNat < S4096.size a)
theorem k1_idx115_inb : ∀ (v733 : IVec S16 32) (k1_hw83 : k1_chk83 v733), ∀ a x, ((![v733] : Fin 1 → IVec S16 32) a x).toNat < S4096.size a := fun v733 k1_hw83 => k1_hw83

def k1_chk84 (v737 : IVec S16 32) : Prop :=
  (∀ a x, ((![v737] : Fin 1 → IVec S16 32) a x).toNat < S4096.size a)
theorem k1_idx116_inb : ∀ (v737 : IVec S16 32) (k1_hw84 : k1_chk84 v737), ∀ a x, ((![v737] : Fin 1 → IVec S16 32) a x).toNat < S4096.size a := fun v737 k1_hw84 => k1_hw84

def k1_chk85 (v786 : IVec S16 32) : Prop :=
  (∀ a x, ((![v786] : Fin 1 → IVec S16 32) a x).toNat < S256.size a)
theorem k1_idx117_inb : ∀ (v786 : IVec S16 32) (k1_hw85 : k1_chk85 v786), ∀ a x, ((![v786] : Fin 1 → IVec S16 32) a x).toNat < S256.size a := fun v786 k1_hw85 => k1_hw85

def k1_chk86 (v787 : IVec S16 32) : Prop :=
  (∀ a x, ((![v787] : Fin 1 → IVec S16 32) a x).toNat < S256.size a)
theorem k1_idx118_inb : ∀ (v787 : IVec S16 32) (k1_hw86 : k1_chk86 v787), ∀ a x, ((![v787] : Fin 1 → IVec S16 32) a x).toNat < S256.size a := fun v787 k1_hw86 => k1_hw86

def k1_chk87 (v867 : IVec S16 32) : Prop :=
  (∀ a x, ((![v867] : Fin 1 → IVec S16 32) a x).toNat < S256.size a)
theorem k1_idx119_inb : ∀ (v867 : IVec S16 32) (k1_hw87 : k1_chk87 v867), ∀ a x, ((![v867] : Fin 1 → IVec S16 32) a x).toNat < S256.size a := fun v867 k1_hw87 => k1_hw87

def k1_chk88 (v878 : IVec S16 32) : Prop :=
  (∀ a x, ((![v878] : Fin 1 → IVec S16 32) a x).toNat < S8200.size a)
theorem k1_idx120_inb : ∀ (v878 : IVec S16 32) (k1_hw88 : k1_chk88 v878), ∀ a x, ((![v878] : Fin 1 → IVec S16 32) a x).toNat < S8200.size a := fun v878 k1_hw88 => k1_hw88

def k1_chk89 (v881 : IVec S16 32) : Prop :=
  (∀ a x, ((![v881] : Fin 1 → IVec S16 32) a x).toNat < S8200.size a)
theorem k1_idx121_inb : ∀ (v881 : IVec S16 32) (k1_hw89 : k1_chk89 v881), ∀ a x, ((![v881] : Fin 1 → IVec S16 32) a x).toNat < S8200.size a := fun v881 k1_hw89 => k1_hw89

def k1_chk90 (v888 : IVec S16 32) : Prop :=
  (∀ a x, ((![v888] : Fin 1 → IVec S16 32) a x).toNat < S4096.size a)
theorem k1_idx122_inb : ∀ (v888 : IVec S16 32) (k1_hw90 : k1_chk90 v888), ∀ a x, ((![v888] : Fin 1 → IVec S16 32) a x).toNat < S4096.size a := fun v888 k1_hw90 => k1_hw90

def k1_chk91 (v891 : IVec S16 32) : Prop :=
  (∀ a x, ((![v891] : Fin 1 → IVec S16 32) a x).toNat < S4096.size a)
theorem k1_idx123_inb : ∀ (v891 : IVec S16 32) (k1_hw91 : k1_chk91 v891), ∀ a x, ((![v891] : Fin 1 → IVec S16 32) a x).toNat < S4096.size a := fun v891 k1_hw91 => k1_hw91

def k1_chk92 (v895 : IVec S16 32) : Prop :=
  (∀ a x, ((![v895] : Fin 1 → IVec S16 32) a x).toNat < S4096.size a)
theorem k1_idx124_inb : ∀ (v895 : IVec S16 32) (k1_hw92 : k1_chk92 v895), ∀ a x, ((![v895] : Fin 1 → IVec S16 32) a x).toNat < S4096.size a := fun v895 k1_hw92 => k1_hw92

def k1_chk93 (v899 : IVec S16 32) : Prop :=
  (∀ a x, ((![v899] : Fin 1 → IVec S16 32) a x).toNat < S4096.size a)
theorem k1_idx125_inb : ∀ (v899 : IVec S16 32) (k1_hw93 : k1_chk93 v899), ∀ a x, ((![v899] : Fin 1 → IVec S16 32) a x).toNat < S4096.size a := fun v899 k1_hw93 => k1_hw93

def k1_chk94 (v903 : IVec S16 32) : Prop :=
  (∀ a x, ((![v903] : Fin 1 → IVec S16 32) a x).toNat < S4096.size a)
theorem k1_idx126_inb : ∀ (v903 : IVec S16 32) (k1_hw94 : k1_chk94 v903), ∀ a x, ((![v903] : Fin 1 → IVec S16 32) a x).toNat < S4096.size a := fun v903 k1_hw94 => k1_hw94

def k1_chk95 (v907 : IVec S16 32) : Prop :=
  (∀ a x, ((![v907] : Fin 1 → IVec S16 32) a x).toNat < S4096.size a)
theorem k1_idx127_inb : ∀ (v907 : IVec S16 32) (k1_hw95 : k1_chk95 v907), ∀ a x, ((![v907] : Fin 1 → IVec S16 32) a x).toNat < S4096.size a := fun v907 k1_hw95 => k1_hw95

def k1_chk96 (v911 : IVec S16 32) : Prop :=
  (∀ a x, ((![v911] : Fin 1 → IVec S16 32) a x).toNat < S4096.size a)
theorem k1_idx128_inb : ∀ (v911 : IVec S16 32) (k1_hw96 : k1_chk96 v911), ∀ a x, ((![v911] : Fin 1 → IVec S16 32) a x).toNat < S4096.size a := fun v911 k1_hw96 => k1_hw96

def k1_chk97 (v915 : IVec S16 32) : Prop :=
  (∀ a x, ((![v915] : Fin 1 → IVec S16 32) a x).toNat < S4096.size a)
theorem k1_idx129_inb : ∀ (v915 : IVec S16 32) (k1_hw97 : k1_chk97 v915), ∀ a x, ((![v915] : Fin 1 → IVec S16 32) a x).toNat < S4096.size a := fun v915 k1_hw97 => k1_hw97

def k1_chk98 (v919 : IVec S16 32) : Prop :=
  (∀ a x, ((![v919] : Fin 1 → IVec S16 32) a x).toNat < S4096.size a)
theorem k1_idx130_inb : ∀ (v919 : IVec S16 32) (k1_hw98 : k1_chk98 v919), ∀ a x, ((![v919] : Fin 1 → IVec S16 32) a x).toNat < S4096.size a := fun v919 k1_hw98 => k1_hw98

def k1_chk99 (v923 : IVec S16 32) : Prop :=
  (∀ a x, ((![v923] : Fin 1 → IVec S16 32) a x).toNat < S4096.size a)
theorem k1_idx131_inb : ∀ (v923 : IVec S16 32) (k1_hw99 : k1_chk99 v923), ∀ a x, ((![v923] : Fin 1 → IVec S16 32) a x).toNat < S4096.size a := fun v923 k1_hw99 => k1_hw99

def k1_chk100 (v927 : IVec S16 32) : Prop :=
  (∀ a x, ((![v927] : Fin 1 → IVec S16 32) a x).toNat < S4096.size a)
theorem k1_idx132_inb : ∀ (v927 : IVec S16 32) (k1_hw100 : k1_chk100 v927), ∀ a x, ((![v927] : Fin 1 → IVec S16 32) a x).toNat < S4096.size a := fun v927 k1_hw100 => k1_hw100

def k1_chk101 (v931 : IVec S16 32) : Prop :=
  (∀ a x, ((![v931] : Fin 1 → IVec S16 32) a x).toNat < S4096.size a)
theorem k1_idx133_inb : ∀ (v931 : IVec S16 32) (k1_hw101 : k1_chk101 v931), ∀ a x, ((![v931] : Fin 1 → IVec S16 32) a x).toNat < S4096.size a := fun v931 k1_hw101 => k1_hw101

def k1_chk102 (v935 : IVec S16 32) : Prop :=
  (∀ a x, ((![v935] : Fin 1 → IVec S16 32) a x).toNat < S4096.size a)
theorem k1_idx134_inb : ∀ (v935 : IVec S16 32) (k1_hw102 : k1_chk102 v935), ∀ a x, ((![v935] : Fin 1 → IVec S16 32) a x).toNat < S4096.size a := fun v935 k1_hw102 => k1_hw102

def k1_chk103 (v939 : IVec S16 32) : Prop :=
  (∀ a x, ((![v939] : Fin 1 → IVec S16 32) a x).toNat < S4096.size a)
theorem k1_idx135_inb : ∀ (v939 : IVec S16 32) (k1_hw103 : k1_chk103 v939), ∀ a x, ((![v939] : Fin 1 → IVec S16 32) a x).toNat < S4096.size a := fun v939 k1_hw103 => k1_hw103

def k1_chk104 (v943 : IVec S16 32) : Prop :=
  (∀ a x, ((![v943] : Fin 1 → IVec S16 32) a x).toNat < S4096.size a)
theorem k1_idx136_inb : ∀ (v943 : IVec S16 32) (k1_hw104 : k1_chk104 v943), ∀ a x, ((![v943] : Fin 1 → IVec S16 32) a x).toNat < S4096.size a := fun v943 k1_hw104 => k1_hw104

def k1_chk105 (v947 : IVec S16 32) : Prop :=
  (∀ a x, ((![v947] : Fin 1 → IVec S16 32) a x).toNat < S4096.size a)
theorem k1_idx137_inb : ∀ (v947 : IVec S16 32) (k1_hw105 : k1_chk105 v947), ∀ a x, ((![v947] : Fin 1 → IVec S16 32) a x).toNat < S4096.size a := fun v947 k1_hw105 => k1_hw105

def k1_chk106 (v951 : IVec S16 32) : Prop :=
  (∀ a x, ((![v951] : Fin 1 → IVec S16 32) a x).toNat < S4096.size a)
theorem k1_idx138_inb : ∀ (v951 : IVec S16 32) (k1_hw106 : k1_chk106 v951), ∀ a x, ((![v951] : Fin 1 → IVec S16 32) a x).toNat < S4096.size a := fun v951 k1_hw106 => k1_hw106

def k1_chk107 (v1000 : IVec S16 32) : Prop :=
  (∀ a x, ((![v1000] : Fin 1 → IVec S16 32) a x).toNat < S256.size a)
theorem k1_idx139_inb : ∀ (v1000 : IVec S16 32) (k1_hw107 : k1_chk107 v1000), ∀ a x, ((![v1000] : Fin 1 → IVec S16 32) a x).toNat < S256.size a := fun v1000 k1_hw107 => k1_hw107

def k1_chk108 (v1001 : IVec S16 32) : Prop :=
  (∀ a x, ((![v1001] : Fin 1 → IVec S16 32) a x).toNat < S256.size a)
theorem k1_idx140_inb : ∀ (v1001 : IVec S16 32) (k1_hw108 : k1_chk108 v1001), ∀ a x, ((![v1001] : Fin 1 → IVec S16 32) a x).toNat < S256.size a := fun v1001 k1_hw108 => k1_hw108

def k1_chk109 (v234 : IVec S16 32) : Prop :=
  (∀ a x, ((![v234] : Fin 1 → IVec S16 32) a x).toNat < S256.size a)
theorem k1_idx141_inb : ∀ (v234 : IVec S16 32) (k1_hw109 : k1_chk109 v234), ∀ a x, ((![v234] : Fin 1 → IVec S16 32) a x).toNat < S256.size a := fun v234 k1_hw109 => k1_hw109

def k1_chk110 (v245 : IVec S16 32) : Prop :=
  (∀ a x, ((![v245] : Fin 1 → IVec S16 32) a x).toNat < S8200.size a)
theorem k1_idx142_inb : ∀ (v245 : IVec S16 32) (k1_hw110 : k1_chk110 v245), ∀ a x, ((![v245] : Fin 1 → IVec S16 32) a x).toNat < S8200.size a := fun v245 k1_hw110 => k1_hw110

def k1_chk111 (v248 : IVec S16 32) : Prop :=
  (∀ a x, ((![v248] : Fin 1 → IVec S16 32) a x).toNat < S8200.size a)
theorem k1_idx143_inb : ∀ (v248 : IVec S16 32) (k1_hw111 : k1_chk111 v248), ∀ a x, ((![v248] : Fin 1 → IVec S16 32) a x).toNat < S8200.size a := fun v248 k1_hw111 => k1_hw111

def k1_chk112 (v329 : IVec S16 32) : Prop :=
  (∀ a x, ((![v329] : Fin 1 → IVec S16 32) a x).toNat < S256.size a)
theorem k1_idx144_inb : ∀ (v329 : IVec S16 32) (k1_hw112 : k1_chk112 v329), ∀ a x, ((![v329] : Fin 1 → IVec S16 32) a x).toNat < S256.size a := fun v329 k1_hw112 => k1_hw112

def k1_chk113 (v340 : IVec S16 32) : Prop :=
  (∀ a x, ((![v340] : Fin 1 → IVec S16 32) a x).toNat < S8200.size a)
theorem k1_idx145_inb : ∀ (v340 : IVec S16 32) (k1_hw113 : k1_chk113 v340), ∀ a x, ((![v340] : Fin 1 → IVec S16 32) a x).toNat < S8200.size a := fun v340 k1_hw113 => k1_hw113

def k1_chk114 (v343 : IVec S16 32) : Prop :=
  (∀ a x, ((![v343] : Fin 1 → IVec S16 32) a x).toNat < S8200.size a)
theorem k1_idx146_inb : ∀ (v343 : IVec S16 32) (k1_hw114 : k1_chk114 v343), ∀ a x, ((![v343] : Fin 1 → IVec S16 32) a x).toNat < S8200.size a := fun v343 k1_hw114 => k1_hw114
def k1_off8 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_124 : BitVec 32 := 24#32
  let v353 : BitVec 32 := Scalar.muli v1 c24_i32_124
  let c0_i32_26 : BitVec 32 := 0#32
  let c1_i32_28 : BitVec 32 := 1#32
  let arg18 : BitVec 32 := Scf.iv c0_i32_26 c1_i32_28 k1_t1
  let c2_i32_36 : BitVec 32 := 2#32
  let v128 : BitVec 32 := Scalar.muli arg18 c2_i32_36
  let c2_i32_122 : BitVec 32 := 2#32
  let v351 : BitVec 32 := Scalar.addi v128 c2_i32_122
  let c24_i32_123 : BitVec 32 := 24#32
  let v352 : BitVec 32 := Scalar.remsi v351 c24_i32_123
  let v354 : BitVec 32 := Scalar.addi v353 v352
  let c8192_i32_125 : BitVec 32 := 8192#32
  let v355 : BitVec 32 := Scalar.muli v354 c8192_i32_125
  ![v355.toNat]
def k1_off9 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_130 : BitVec 32 := 24#32
  let v364 : BitVec 32 := Scalar.muli v1 c24_i32_130
  let c8192_i32_131 : BitVec 32 := 8192#32
  let v365 : BitVec 32 := Scalar.muli v364 c8192_i32_131
  ![v365.toNat]
@[reducible] def k1_t5_loop : Scf.Loop 32 :=
  let c0_i32_137 : BitVec 32 := 0#32
  let c16_i32_138 : BitVec 32 := 16#32
  let v374 : BitVec 32 := Scalar.addi c0_i32_137 c16_i32_138
  let c1_i32_139 : BitVec 32 := 1#32
  ⟨c0_i32_137, v374, c1_i32_139⟩
def k1_off10 (k1_t5 : Fin k1_t5_loop.trips) (c0_i32_229 : BitVec 32) (c0_i32_230 : BitVec 32) : Fin 1 → Nat :=
  let c0_i32_137 : BitVec 32 := 0#32
  let c1_i32_139 : BitVec 32 := 1#32
  let arg20 : BitVec 32 := Scf.iv c0_i32_137 c1_i32_139 k1_t5
  let c512_i32_228 : BitVec 32 := 512#32
  let v581 : BitVec 32 := Scalar.muli arg20 c512_i32_228
  let v582 : BitVec 32 := Scalar.addi v581 c0_i32_229
  let v583 : BitVec 32 := Scalar.addi v582 c0_i32_230
  let v584 : Index := Scalar.indexCast v583
  ![v584.toNat]
def k1_off11 (k1_t5 : Fin k1_t5_loop.trips) (c0_i32_229 : BitVec 32) (c0_i32_230 : BitVec 32) : Fin 1 → Nat :=
  let c0_i32_137 : BitVec 32 := 0#32
  let c1_i32_139 : BitVec 32 := 1#32
  let arg20 : BitVec 32 := Scf.iv c0_i32_137 c1_i32_139 k1_t5
  let c512_i32_228 : BitVec 32 := 512#32
  let v581 : BitVec 32 := Scalar.muli arg20 c512_i32_228
  let v582 : BitVec 32 := Scalar.addi v581 c0_i32_229
  let v583 : BitVec 32 := Scalar.addi v582 c0_i32_230
  let c128_i32_231 : BitVec 32 := 128#32
  let v586 : BitVec 32 := Scalar.addi v583 c128_i32_231
  let v587 : Index := Scalar.indexCast v586
  ![v587.toNat]

def k1_chk115 (v711 : IVec S16 32) : Prop :=
  (∀ a x, ((![v711] : Fin 1 → IVec S16 32) a x).toNat < S4096.size a)
theorem k1_idx147_inb : ∀ (v711 : IVec S16 32) (k1_hw115 : k1_chk115 v711), ∀ a x, ((![v711] : Fin 1 → IVec S16 32) a x).toNat < S4096.size a := fun v711 k1_hw115 => k1_hw115

def k1_chk116 (v771 : IVec S16 32) : Prop :=
  (∀ a x, ((![v771] : Fin 1 → IVec S16 32) a x).toNat < S256.size a) ∧
  (∀ a x, ((![v771] : Fin 1 → IVec S16 32) a x).toNat < S256.size a)
theorem k1_idx148_inb : ∀ (v771 : IVec S16 32) (k1_hw116 : k1_chk116 v771), ∀ a x, ((![v771] : Fin 1 → IVec S16 32) a x).toNat < S256.size a := fun v771 k1_hw116 => k1_hw116.1
theorem k1_idx149_inb : ∀ (v771 : IVec S16 32) (k1_hw116 : k1_chk116 v771), ∀ a x, ((![v771] : Fin 1 → IVec S16 32) a x).toNat < S256.size a := fun v771 k1_hw116 => k1_hw116.2

def k1_chk117 (v776 : IVec S16 32) : Prop :=
  (∀ a x, ((![v776] : Fin 1 → IVec S16 32) a x).toNat < S4096.size a)
theorem k1_idx150_inb : ∀ (v776 : IVec S16 32) (k1_hw117 : k1_chk117 v776), ∀ a x, ((![v776] : Fin 1 → IVec S16 32) a x).toNat < S4096.size a := fun v776 k1_hw117 => k1_hw117

def k1_chk118 (v836 : IVec S16 32) : Prop :=
  (∀ a x, ((![v836] : Fin 1 → IVec S16 32) a x).toNat < S256.size a) ∧
  (∀ a x, ((![v836] : Fin 1 → IVec S16 32) a x).toNat < S256.size a)
theorem k1_idx151_inb : ∀ (v836 : IVec S16 32) (k1_hw118 : k1_chk118 v836), ∀ a x, ((![v836] : Fin 1 → IVec S16 32) a x).toNat < S256.size a := fun v836 k1_hw118 => k1_hw118.1
theorem k1_idx152_inb : ∀ (v836 : IVec S16 32) (k1_hw118 : k1_chk118 v836), ∀ a x, ((![v836] : Fin 1 → IVec S16 32) a x).toNat < S256.size a := fun v836 k1_hw118 => k1_hw118.2

def k1_chk119 (v841 : IVec S16 32) : Prop :=
  (∀ a x, ((![v841] : Fin 1 → IVec S16 32) a x).toNat < S4096.size a)
theorem k1_idx153_inb : ∀ (v841 : IVec S16 32) (k1_hw119 : k1_chk119 v841), ∀ a x, ((![v841] : Fin 1 → IVec S16 32) a x).toNat < S4096.size a := fun v841 k1_hw119 => k1_hw119

def k1_chk120 (v901 : IVec S16 32) : Prop :=
  (∀ a x, ((![v901] : Fin 1 → IVec S16 32) a x).toNat < S256.size a) ∧
  (∀ a x, ((![v901] : Fin 1 → IVec S16 32) a x).toNat < S256.size a)
theorem k1_idx154_inb : ∀ (v901 : IVec S16 32) (k1_hw120 : k1_chk120 v901), ∀ a x, ((![v901] : Fin 1 → IVec S16 32) a x).toNat < S256.size a := fun v901 k1_hw120 => k1_hw120.1
theorem k1_idx155_inb : ∀ (v901 : IVec S16 32) (k1_hw120 : k1_chk120 v901), ∀ a x, ((![v901] : Fin 1 → IVec S16 32) a x).toNat < S256.size a := fun v901 k1_hw120 => k1_hw120.2

def k1_chk121 (v906 : IVec S16 32) : Prop :=
  (∀ a x, ((![v906] : Fin 1 → IVec S16 32) a x).toNat < S4096.size a)
theorem k1_idx156_inb : ∀ (v906 : IVec S16 32) (k1_hw121 : k1_chk121 v906), ∀ a x, ((![v906] : Fin 1 → IVec S16 32) a x).toNat < S4096.size a := fun v906 k1_hw121 => k1_hw121

def k1_chk122 (v966 : IVec S16 32) : Prop :=
  (∀ a x, ((![v966] : Fin 1 → IVec S16 32) a x).toNat < S256.size a) ∧
  (∀ a x, ((![v966] : Fin 1 → IVec S16 32) a x).toNat < S256.size a)
theorem k1_idx157_inb : ∀ (v966 : IVec S16 32) (k1_hw122 : k1_chk122 v966), ∀ a x, ((![v966] : Fin 1 → IVec S16 32) a x).toNat < S256.size a := fun v966 k1_hw122 => k1_hw122.1
theorem k1_idx158_inb : ∀ (v966 : IVec S16 32) (k1_hw122 : k1_chk122 v966), ∀ a x, ((![v966] : Fin 1 → IVec S16 32) a x).toNat < S256.size a := fun v966 k1_hw122 => k1_hw122.2

def k1_chk123 (v971 : IVec S16 32) : Prop :=
  (∀ a x, ((![v971] : Fin 1 → IVec S16 32) a x).toNat < S4096.size a)
theorem k1_idx159_inb : ∀ (v971 : IVec S16 32) (k1_hw123 : k1_chk123 v971), ∀ a x, ((![v971] : Fin 1 → IVec S16 32) a x).toNat < S4096.size a := fun v971 k1_hw123 => k1_hw123

def k1_chk124 (v1031 : IVec S16 32) : Prop :=
  (∀ a x, ((![v1031] : Fin 1 → IVec S16 32) a x).toNat < S256.size a) ∧
  (∀ a x, ((![v1031] : Fin 1 → IVec S16 32) a x).toNat < S256.size a)
theorem k1_idx160_inb : ∀ (v1031 : IVec S16 32) (k1_hw124 : k1_chk124 v1031), ∀ a x, ((![v1031] : Fin 1 → IVec S16 32) a x).toNat < S256.size a := fun v1031 k1_hw124 => k1_hw124.1
theorem k1_idx161_inb : ∀ (v1031 : IVec S16 32) (k1_hw124 : k1_chk124 v1031), ∀ a x, ((![v1031] : Fin 1 → IVec S16 32) a x).toNat < S256.size a := fun v1031 k1_hw124 => k1_hw124.2

def k1_chk125 (v1036 : IVec S16 32) : Prop :=
  (∀ a x, ((![v1036] : Fin 1 → IVec S16 32) a x).toNat < S4096.size a)
theorem k1_idx162_inb : ∀ (v1036 : IVec S16 32) (k1_hw125 : k1_chk125 v1036), ∀ a x, ((![v1036] : Fin 1 → IVec S16 32) a x).toNat < S4096.size a := fun v1036 k1_hw125 => k1_hw125

def k1_chk126 (v1096 : IVec S16 32) : Prop :=
  (∀ a x, ((![v1096] : Fin 1 → IVec S16 32) a x).toNat < S256.size a) ∧
  (∀ a x, ((![v1096] : Fin 1 → IVec S16 32) a x).toNat < S256.size a)
theorem k1_idx163_inb : ∀ (v1096 : IVec S16 32) (k1_hw126 : k1_chk126 v1096), ∀ a x, ((![v1096] : Fin 1 → IVec S16 32) a x).toNat < S256.size a := fun v1096 k1_hw126 => k1_hw126.1
theorem k1_idx164_inb : ∀ (v1096 : IVec S16 32) (k1_hw126 : k1_chk126 v1096), ∀ a x, ((![v1096] : Fin 1 → IVec S16 32) a x).toNat < S256.size a := fun v1096 k1_hw126 => k1_hw126.2

def k1_chk127 (v1101 : IVec S16 32) : Prop :=
  (∀ a x, ((![v1101] : Fin 1 → IVec S16 32) a x).toNat < S4096.size a)
theorem k1_idx165_inb : ∀ (v1101 : IVec S16 32) (k1_hw127 : k1_chk127 v1101), ∀ a x, ((![v1101] : Fin 1 → IVec S16 32) a x).toNat < S4096.size a := fun v1101 k1_hw127 => k1_hw127

def k1_chk128 (v1161 : IVec S16 32) : Prop :=
  (∀ a x, ((![v1161] : Fin 1 → IVec S16 32) a x).toNat < S256.size a) ∧
  (∀ a x, ((![v1161] : Fin 1 → IVec S16 32) a x).toNat < S256.size a)
theorem k1_idx166_inb : ∀ (v1161 : IVec S16 32) (k1_hw128 : k1_chk128 v1161), ∀ a x, ((![v1161] : Fin 1 → IVec S16 32) a x).toNat < S256.size a := fun v1161 k1_hw128 => k1_hw128.1
theorem k1_idx167_inb : ∀ (v1161 : IVec S16 32) (k1_hw128 : k1_chk128 v1161), ∀ a x, ((![v1161] : Fin 1 → IVec S16 32) a x).toNat < S256.size a := fun v1161 k1_hw128 => k1_hw128.2

def k1_chk129 (v1166 : IVec S16 32) : Prop :=
  (∀ a x, ((![v1166] : Fin 1 → IVec S16 32) a x).toNat < S4096.size a)
theorem k1_idx168_inb : ∀ (v1166 : IVec S16 32) (k1_hw129 : k1_chk129 v1166), ∀ a x, ((![v1166] : Fin 1 → IVec S16 32) a x).toNat < S4096.size a := fun v1166 k1_hw129 => k1_hw129

def k1_chk130 (v1226 : IVec S16 32) : Prop :=
  (∀ a x, ((![v1226] : Fin 1 → IVec S16 32) a x).toNat < S256.size a) ∧
  (∀ a x, ((![v1226] : Fin 1 → IVec S16 32) a x).toNat < S256.size a)
theorem k1_idx169_inb : ∀ (v1226 : IVec S16 32) (k1_hw130 : k1_chk130 v1226), ∀ a x, ((![v1226] : Fin 1 → IVec S16 32) a x).toNat < S256.size a := fun v1226 k1_hw130 => k1_hw130.1
theorem k1_idx170_inb : ∀ (v1226 : IVec S16 32) (k1_hw130 : k1_chk130 v1226), ∀ a x, ((![v1226] : Fin 1 → IVec S16 32) a x).toNat < S256.size a := fun v1226 k1_hw130 => k1_hw130.2

def k1_chk131 (v1231 : IVec S16 32) : Prop :=
  (∀ a x, ((![v1231] : Fin 1 → IVec S16 32) a x).toNat < S4096.size a)
theorem k1_idx171_inb : ∀ (v1231 : IVec S16 32) (k1_hw131 : k1_chk131 v1231), ∀ a x, ((![v1231] : Fin 1 → IVec S16 32) a x).toNat < S4096.size a := fun v1231 k1_hw131 => k1_hw131

def k1_chk132 (v1291 : IVec S16 32) : Prop :=
  (∀ a x, ((![v1291] : Fin 1 → IVec S16 32) a x).toNat < S256.size a) ∧
  (∀ a x, ((![v1291] : Fin 1 → IVec S16 32) a x).toNat < S256.size a)
theorem k1_idx172_inb : ∀ (v1291 : IVec S16 32) (k1_hw132 : k1_chk132 v1291), ∀ a x, ((![v1291] : Fin 1 → IVec S16 32) a x).toNat < S256.size a := fun v1291 k1_hw132 => k1_hw132.1
theorem k1_idx173_inb : ∀ (v1291 : IVec S16 32) (k1_hw132 : k1_chk132 v1291), ∀ a x, ((![v1291] : Fin 1 → IVec S16 32) a x).toNat < S256.size a := fun v1291 k1_hw132 => k1_hw132.2

def k1_chk133 (v1296 : IVec S16 32) : Prop :=
  (∀ a x, ((![v1296] : Fin 1 → IVec S16 32) a x).toNat < S4096.size a)
theorem k1_idx174_inb : ∀ (v1296 : IVec S16 32) (k1_hw133 : k1_chk133 v1296), ∀ a x, ((![v1296] : Fin 1 → IVec S16 32) a x).toNat < S4096.size a := fun v1296 k1_hw133 => k1_hw133

def k1_chk134 (v1356 : IVec S16 32) : Prop :=
  (∀ a x, ((![v1356] : Fin 1 → IVec S16 32) a x).toNat < S256.size a) ∧
  (∀ a x, ((![v1356] : Fin 1 → IVec S16 32) a x).toNat < S256.size a)
theorem k1_idx175_inb : ∀ (v1356 : IVec S16 32) (k1_hw134 : k1_chk134 v1356), ∀ a x, ((![v1356] : Fin 1 → IVec S16 32) a x).toNat < S256.size a := fun v1356 k1_hw134 => k1_hw134.1
theorem k1_idx176_inb : ∀ (v1356 : IVec S16 32) (k1_hw134 : k1_chk134 v1356), ∀ a x, ((![v1356] : Fin 1 → IVec S16 32) a x).toNat < S256.size a := fun v1356 k1_hw134 => k1_hw134.2

def k1_chk135 (v1361 : IVec S16 32) : Prop :=
  (∀ a x, ((![v1361] : Fin 1 → IVec S16 32) a x).toNat < S4096.size a)
theorem k1_idx177_inb : ∀ (v1361 : IVec S16 32) (k1_hw135 : k1_chk135 v1361), ∀ a x, ((![v1361] : Fin 1 → IVec S16 32) a x).toNat < S4096.size a := fun v1361 k1_hw135 => k1_hw135

def k1_chk136 (v1421 : IVec S16 32) : Prop :=
  (∀ a x, ((![v1421] : Fin 1 → IVec S16 32) a x).toNat < S256.size a) ∧
  (∀ a x, ((![v1421] : Fin 1 → IVec S16 32) a x).toNat < S256.size a)
theorem k1_idx178_inb : ∀ (v1421 : IVec S16 32) (k1_hw136 : k1_chk136 v1421), ∀ a x, ((![v1421] : Fin 1 → IVec S16 32) a x).toNat < S256.size a := fun v1421 k1_hw136 => k1_hw136.1
theorem k1_idx179_inb : ∀ (v1421 : IVec S16 32) (k1_hw136 : k1_chk136 v1421), ∀ a x, ((![v1421] : Fin 1 → IVec S16 32) a x).toNat < S256.size a := fun v1421 k1_hw136 => k1_hw136.2

def k1_chk137 (v1426 : IVec S16 32) : Prop :=
  (∀ a x, ((![v1426] : Fin 1 → IVec S16 32) a x).toNat < S4096.size a)
theorem k1_idx180_inb : ∀ (v1426 : IVec S16 32) (k1_hw137 : k1_chk137 v1426), ∀ a x, ((![v1426] : Fin 1 → IVec S16 32) a x).toNat < S4096.size a := fun v1426 k1_hw137 => k1_hw137

def k1_chk138 (v1486 : IVec S16 32) : Prop :=
  (∀ a x, ((![v1486] : Fin 1 → IVec S16 32) a x).toNat < S256.size a) ∧
  (∀ a x, ((![v1486] : Fin 1 → IVec S16 32) a x).toNat < S256.size a)
theorem k1_idx181_inb : ∀ (v1486 : IVec S16 32) (k1_hw138 : k1_chk138 v1486), ∀ a x, ((![v1486] : Fin 1 → IVec S16 32) a x).toNat < S256.size a := fun v1486 k1_hw138 => k1_hw138.1
theorem k1_idx182_inb : ∀ (v1486 : IVec S16 32) (k1_hw138 : k1_chk138 v1486), ∀ a x, ((![v1486] : Fin 1 → IVec S16 32) a x).toNat < S256.size a := fun v1486 k1_hw138 => k1_hw138.2

def k1_chk139 (v1491 : IVec S16 32) : Prop :=
  (∀ a x, ((![v1491] : Fin 1 → IVec S16 32) a x).toNat < S4096.size a)
theorem k1_idx183_inb : ∀ (v1491 : IVec S16 32) (k1_hw139 : k1_chk139 v1491), ∀ a x, ((![v1491] : Fin 1 → IVec S16 32) a x).toNat < S4096.size a := fun v1491 k1_hw139 => k1_hw139

def k1_chk140 (v1551 : IVec S16 32) : Prop :=
  (∀ a x, ((![v1551] : Fin 1 → IVec S16 32) a x).toNat < S256.size a) ∧
  (∀ a x, ((![v1551] : Fin 1 → IVec S16 32) a x).toNat < S256.size a)
theorem k1_idx184_inb : ∀ (v1551 : IVec S16 32) (k1_hw140 : k1_chk140 v1551), ∀ a x, ((![v1551] : Fin 1 → IVec S16 32) a x).toNat < S256.size a := fun v1551 k1_hw140 => k1_hw140.1
theorem k1_idx185_inb : ∀ (v1551 : IVec S16 32) (k1_hw140 : k1_chk140 v1551), ∀ a x, ((![v1551] : Fin 1 → IVec S16 32) a x).toNat < S256.size a := fun v1551 k1_hw140 => k1_hw140.2

def k1_chk141 (v1556 : IVec S16 32) : Prop :=
  (∀ a x, ((![v1556] : Fin 1 → IVec S16 32) a x).toNat < S4096.size a)
theorem k1_idx186_inb : ∀ (v1556 : IVec S16 32) (k1_hw141 : k1_chk141 v1556), ∀ a x, ((![v1556] : Fin 1 → IVec S16 32) a x).toNat < S4096.size a := fun v1556 k1_hw141 => k1_hw141

def k1_chk142 (v1616 : IVec S16 32) : Prop :=
  (∀ a x, ((![v1616] : Fin 1 → IVec S16 32) a x).toNat < S256.size a) ∧
  (∀ a x, ((![v1616] : Fin 1 → IVec S16 32) a x).toNat < S256.size a)
theorem k1_idx187_inb : ∀ (v1616 : IVec S16 32) (k1_hw142 : k1_chk142 v1616), ∀ a x, ((![v1616] : Fin 1 → IVec S16 32) a x).toNat < S256.size a := fun v1616 k1_hw142 => k1_hw142.1
theorem k1_idx188_inb : ∀ (v1616 : IVec S16 32) (k1_hw142 : k1_chk142 v1616), ∀ a x, ((![v1616] : Fin 1 → IVec S16 32) a x).toNat < S256.size a := fun v1616 k1_hw142 => k1_hw142.2

def k1_chk143 (v1621 : IVec S16 32) : Prop :=
  (∀ a x, ((![v1621] : Fin 1 → IVec S16 32) a x).toNat < S4096.size a)
theorem k1_idx189_inb : ∀ (v1621 : IVec S16 32) (k1_hw143 : k1_chk143 v1621), ∀ a x, ((![v1621] : Fin 1 → IVec S16 32) a x).toNat < S4096.size a := fun v1621 k1_hw143 => k1_hw143

def k1_chk144 (v1681 : IVec S16 32) : Prop :=
  (∀ a x, ((![v1681] : Fin 1 → IVec S16 32) a x).toNat < S256.size a) ∧
  (∀ a x, ((![v1681] : Fin 1 → IVec S16 32) a x).toNat < S256.size a)
theorem k1_idx190_inb : ∀ (v1681 : IVec S16 32) (k1_hw144 : k1_chk144 v1681), ∀ a x, ((![v1681] : Fin 1 → IVec S16 32) a x).toNat < S256.size a := fun v1681 k1_hw144 => k1_hw144.1
theorem k1_idx191_inb : ∀ (v1681 : IVec S16 32) (k1_hw144 : k1_chk144 v1681), ∀ a x, ((![v1681] : Fin 1 → IVec S16 32) a x).toNat < S256.size a := fun v1681 k1_hw144 => k1_hw144.2

def k1_chk145 (v1686 : IVec S16 32) : Prop :=
  (∀ a x, ((![v1686] : Fin 1 → IVec S16 32) a x).toNat < S4096.size a)
theorem k1_idx192_inb : ∀ (v1686 : IVec S16 32) (k1_hw145 : k1_chk145 v1686), ∀ a x, ((![v1686] : Fin 1 → IVec S16 32) a x).toNat < S4096.size a := fun v1686 k1_hw145 => k1_hw145

def k1_chk146 (v1746 : IVec S16 32) : Prop :=
  (∀ a x, ((![v1746] : Fin 1 → IVec S16 32) a x).toNat < S256.size a) ∧
  (∀ a x, ((![v1746] : Fin 1 → IVec S16 32) a x).toNat < S256.size a)
theorem k1_idx193_inb : ∀ (v1746 : IVec S16 32) (k1_hw146 : k1_chk146 v1746), ∀ a x, ((![v1746] : Fin 1 → IVec S16 32) a x).toNat < S256.size a := fun v1746 k1_hw146 => k1_hw146.1
theorem k1_idx194_inb : ∀ (v1746 : IVec S16 32) (k1_hw146 : k1_chk146 v1746), ∀ a x, ((![v1746] : Fin 1 → IVec S16 32) a x).toNat < S256.size a := fun v1746 k1_hw146 => k1_hw146.2
@[reducible] def k1_t6_loop : Scf.Loop 32 :=
  let c0_i32_142 : BitVec 32 := 0#32
  let c16_i32_143 : BitVec 32 := 16#32
  let v375 : BitVec 32 := Scalar.addi c0_i32_142 c16_i32_143
  let c1_i32_144 : BitVec 32 := 1#32
  ⟨c0_i32_142, v375, c1_i32_144⟩
def k1_off12 (k1_t6 : Fin k1_t6_loop.trips) (c0_i32_229 : BitVec 32) (c0_i32_230 : BitVec 32) : Fin 1 → Nat :=
  let c0_i32_142 : BitVec 32 := 0#32
  let c1_i32_144 : BitVec 32 := 1#32
  let arg20 : BitVec 32 := Scf.iv c0_i32_142 c1_i32_144 k1_t6
  let c512_i32_228 : BitVec 32 := 512#32
  let v581 : BitVec 32 := Scalar.muli arg20 c512_i32_228
  let v582 : BitVec 32 := Scalar.addi v581 c0_i32_229
  let v583 : BitVec 32 := Scalar.addi v582 c0_i32_230
  let v584 : Index := Scalar.indexCast v583
  ![v584.toNat]
def k1_off13 (k1_t6 : Fin k1_t6_loop.trips) (c0_i32_229 : BitVec 32) (c0_i32_230 : BitVec 32) : Fin 1 → Nat :=
  let c0_i32_142 : BitVec 32 := 0#32
  let c1_i32_144 : BitVec 32 := 1#32
  let arg20 : BitVec 32 := Scf.iv c0_i32_142 c1_i32_144 k1_t6
  let c512_i32_228 : BitVec 32 := 512#32
  let v581 : BitVec 32 := Scalar.muli arg20 c512_i32_228
  let v582 : BitVec 32 := Scalar.addi v581 c0_i32_229
  let v583 : BitVec 32 := Scalar.addi v582 c0_i32_230
  let c128_i32_231 : BitVec 32 := 128#32
  let v586 : BitVec 32 := Scalar.addi v583 c128_i32_231
  let v587 : Index := Scalar.indexCast v586
  ![v587.toNat]

def k1_chk147 (v711 : IVec S16 32) : Prop :=
  (∀ a x, ((![v711] : Fin 1 → IVec S16 32) a x).toNat < S4096.size a)
theorem k1_idx195_inb : ∀ (v711 : IVec S16 32) (k1_hw147 : k1_chk147 v711), ∀ a x, ((![v711] : Fin 1 → IVec S16 32) a x).toNat < S4096.size a := fun v711 k1_hw147 => k1_hw147

def k1_chk148 (v771 : IVec S16 32) : Prop :=
  (∀ a x, ((![v771] : Fin 1 → IVec S16 32) a x).toNat < S256.size a) ∧
  (∀ a x, ((![v771] : Fin 1 → IVec S16 32) a x).toNat < S256.size a)
theorem k1_idx196_inb : ∀ (v771 : IVec S16 32) (k1_hw148 : k1_chk148 v771), ∀ a x, ((![v771] : Fin 1 → IVec S16 32) a x).toNat < S256.size a := fun v771 k1_hw148 => k1_hw148.1
theorem k1_idx197_inb : ∀ (v771 : IVec S16 32) (k1_hw148 : k1_chk148 v771), ∀ a x, ((![v771] : Fin 1 → IVec S16 32) a x).toNat < S256.size a := fun v771 k1_hw148 => k1_hw148.2

def k1_chk149 (v776 : IVec S16 32) : Prop :=
  (∀ a x, ((![v776] : Fin 1 → IVec S16 32) a x).toNat < S4096.size a)
theorem k1_idx198_inb : ∀ (v776 : IVec S16 32) (k1_hw149 : k1_chk149 v776), ∀ a x, ((![v776] : Fin 1 → IVec S16 32) a x).toNat < S4096.size a := fun v776 k1_hw149 => k1_hw149

def k1_chk150 (v836 : IVec S16 32) : Prop :=
  (∀ a x, ((![v836] : Fin 1 → IVec S16 32) a x).toNat < S256.size a) ∧
  (∀ a x, ((![v836] : Fin 1 → IVec S16 32) a x).toNat < S256.size a)
theorem k1_idx199_inb : ∀ (v836 : IVec S16 32) (k1_hw150 : k1_chk150 v836), ∀ a x, ((![v836] : Fin 1 → IVec S16 32) a x).toNat < S256.size a := fun v836 k1_hw150 => k1_hw150.1
theorem k1_idx200_inb : ∀ (v836 : IVec S16 32) (k1_hw150 : k1_chk150 v836), ∀ a x, ((![v836] : Fin 1 → IVec S16 32) a x).toNat < S256.size a := fun v836 k1_hw150 => k1_hw150.2

def k1_chk151 (v841 : IVec S16 32) : Prop :=
  (∀ a x, ((![v841] : Fin 1 → IVec S16 32) a x).toNat < S4096.size a)
theorem k1_idx201_inb : ∀ (v841 : IVec S16 32) (k1_hw151 : k1_chk151 v841), ∀ a x, ((![v841] : Fin 1 → IVec S16 32) a x).toNat < S4096.size a := fun v841 k1_hw151 => k1_hw151

def k1_chk152 (v901 : IVec S16 32) : Prop :=
  (∀ a x, ((![v901] : Fin 1 → IVec S16 32) a x).toNat < S256.size a) ∧
  (∀ a x, ((![v901] : Fin 1 → IVec S16 32) a x).toNat < S256.size a)
theorem k1_idx202_inb : ∀ (v901 : IVec S16 32) (k1_hw152 : k1_chk152 v901), ∀ a x, ((![v901] : Fin 1 → IVec S16 32) a x).toNat < S256.size a := fun v901 k1_hw152 => k1_hw152.1
theorem k1_idx203_inb : ∀ (v901 : IVec S16 32) (k1_hw152 : k1_chk152 v901), ∀ a x, ((![v901] : Fin 1 → IVec S16 32) a x).toNat < S256.size a := fun v901 k1_hw152 => k1_hw152.2

def k1_chk153 (v906 : IVec S16 32) : Prop :=
  (∀ a x, ((![v906] : Fin 1 → IVec S16 32) a x).toNat < S4096.size a)
theorem k1_idx204_inb : ∀ (v906 : IVec S16 32) (k1_hw153 : k1_chk153 v906), ∀ a x, ((![v906] : Fin 1 → IVec S16 32) a x).toNat < S4096.size a := fun v906 k1_hw153 => k1_hw153

def k1_chk154 (v966 : IVec S16 32) : Prop :=
  (∀ a x, ((![v966] : Fin 1 → IVec S16 32) a x).toNat < S256.size a) ∧
  (∀ a x, ((![v966] : Fin 1 → IVec S16 32) a x).toNat < S256.size a)
theorem k1_idx205_inb : ∀ (v966 : IVec S16 32) (k1_hw154 : k1_chk154 v966), ∀ a x, ((![v966] : Fin 1 → IVec S16 32) a x).toNat < S256.size a := fun v966 k1_hw154 => k1_hw154.1
theorem k1_idx206_inb : ∀ (v966 : IVec S16 32) (k1_hw154 : k1_chk154 v966), ∀ a x, ((![v966] : Fin 1 → IVec S16 32) a x).toNat < S256.size a := fun v966 k1_hw154 => k1_hw154.2

def k1_chk155 (v971 : IVec S16 32) : Prop :=
  (∀ a x, ((![v971] : Fin 1 → IVec S16 32) a x).toNat < S4096.size a)
theorem k1_idx207_inb : ∀ (v971 : IVec S16 32) (k1_hw155 : k1_chk155 v971), ∀ a x, ((![v971] : Fin 1 → IVec S16 32) a x).toNat < S4096.size a := fun v971 k1_hw155 => k1_hw155

def k1_chk156 (v1031 : IVec S16 32) : Prop :=
  (∀ a x, ((![v1031] : Fin 1 → IVec S16 32) a x).toNat < S256.size a) ∧
  (∀ a x, ((![v1031] : Fin 1 → IVec S16 32) a x).toNat < S256.size a)
theorem k1_idx208_inb : ∀ (v1031 : IVec S16 32) (k1_hw156 : k1_chk156 v1031), ∀ a x, ((![v1031] : Fin 1 → IVec S16 32) a x).toNat < S256.size a := fun v1031 k1_hw156 => k1_hw156.1
theorem k1_idx209_inb : ∀ (v1031 : IVec S16 32) (k1_hw156 : k1_chk156 v1031), ∀ a x, ((![v1031] : Fin 1 → IVec S16 32) a x).toNat < S256.size a := fun v1031 k1_hw156 => k1_hw156.2

def k1_chk157 (v1036 : IVec S16 32) : Prop :=
  (∀ a x, ((![v1036] : Fin 1 → IVec S16 32) a x).toNat < S4096.size a)
theorem k1_idx210_inb : ∀ (v1036 : IVec S16 32) (k1_hw157 : k1_chk157 v1036), ∀ a x, ((![v1036] : Fin 1 → IVec S16 32) a x).toNat < S4096.size a := fun v1036 k1_hw157 => k1_hw157

def k1_chk158 (v1096 : IVec S16 32) : Prop :=
  (∀ a x, ((![v1096] : Fin 1 → IVec S16 32) a x).toNat < S256.size a) ∧
  (∀ a x, ((![v1096] : Fin 1 → IVec S16 32) a x).toNat < S256.size a)
theorem k1_idx211_inb : ∀ (v1096 : IVec S16 32) (k1_hw158 : k1_chk158 v1096), ∀ a x, ((![v1096] : Fin 1 → IVec S16 32) a x).toNat < S256.size a := fun v1096 k1_hw158 => k1_hw158.1
theorem k1_idx212_inb : ∀ (v1096 : IVec S16 32) (k1_hw158 : k1_chk158 v1096), ∀ a x, ((![v1096] : Fin 1 → IVec S16 32) a x).toNat < S256.size a := fun v1096 k1_hw158 => k1_hw158.2

def k1_chk159 (v1101 : IVec S16 32) : Prop :=
  (∀ a x, ((![v1101] : Fin 1 → IVec S16 32) a x).toNat < S4096.size a)
theorem k1_idx213_inb : ∀ (v1101 : IVec S16 32) (k1_hw159 : k1_chk159 v1101), ∀ a x, ((![v1101] : Fin 1 → IVec S16 32) a x).toNat < S4096.size a := fun v1101 k1_hw159 => k1_hw159

def k1_chk160 (v1161 : IVec S16 32) : Prop :=
  (∀ a x, ((![v1161] : Fin 1 → IVec S16 32) a x).toNat < S256.size a) ∧
  (∀ a x, ((![v1161] : Fin 1 → IVec S16 32) a x).toNat < S256.size a)
theorem k1_idx214_inb : ∀ (v1161 : IVec S16 32) (k1_hw160 : k1_chk160 v1161), ∀ a x, ((![v1161] : Fin 1 → IVec S16 32) a x).toNat < S256.size a := fun v1161 k1_hw160 => k1_hw160.1
theorem k1_idx215_inb : ∀ (v1161 : IVec S16 32) (k1_hw160 : k1_chk160 v1161), ∀ a x, ((![v1161] : Fin 1 → IVec S16 32) a x).toNat < S256.size a := fun v1161 k1_hw160 => k1_hw160.2

def k1_chk161 (v1166 : IVec S16 32) : Prop :=
  (∀ a x, ((![v1166] : Fin 1 → IVec S16 32) a x).toNat < S4096.size a)
theorem k1_idx216_inb : ∀ (v1166 : IVec S16 32) (k1_hw161 : k1_chk161 v1166), ∀ a x, ((![v1166] : Fin 1 → IVec S16 32) a x).toNat < S4096.size a := fun v1166 k1_hw161 => k1_hw161

def k1_chk162 (v1226 : IVec S16 32) : Prop :=
  (∀ a x, ((![v1226] : Fin 1 → IVec S16 32) a x).toNat < S256.size a) ∧
  (∀ a x, ((![v1226] : Fin 1 → IVec S16 32) a x).toNat < S256.size a)
theorem k1_idx217_inb : ∀ (v1226 : IVec S16 32) (k1_hw162 : k1_chk162 v1226), ∀ a x, ((![v1226] : Fin 1 → IVec S16 32) a x).toNat < S256.size a := fun v1226 k1_hw162 => k1_hw162.1
theorem k1_idx218_inb : ∀ (v1226 : IVec S16 32) (k1_hw162 : k1_chk162 v1226), ∀ a x, ((![v1226] : Fin 1 → IVec S16 32) a x).toNat < S256.size a := fun v1226 k1_hw162 => k1_hw162.2

def k1_chk163 (v1231 : IVec S16 32) : Prop :=
  (∀ a x, ((![v1231] : Fin 1 → IVec S16 32) a x).toNat < S4096.size a)
theorem k1_idx219_inb : ∀ (v1231 : IVec S16 32) (k1_hw163 : k1_chk163 v1231), ∀ a x, ((![v1231] : Fin 1 → IVec S16 32) a x).toNat < S4096.size a := fun v1231 k1_hw163 => k1_hw163

def k1_chk164 (v1291 : IVec S16 32) : Prop :=
  (∀ a x, ((![v1291] : Fin 1 → IVec S16 32) a x).toNat < S256.size a) ∧
  (∀ a x, ((![v1291] : Fin 1 → IVec S16 32) a x).toNat < S256.size a)
theorem k1_idx220_inb : ∀ (v1291 : IVec S16 32) (k1_hw164 : k1_chk164 v1291), ∀ a x, ((![v1291] : Fin 1 → IVec S16 32) a x).toNat < S256.size a := fun v1291 k1_hw164 => k1_hw164.1
theorem k1_idx221_inb : ∀ (v1291 : IVec S16 32) (k1_hw164 : k1_chk164 v1291), ∀ a x, ((![v1291] : Fin 1 → IVec S16 32) a x).toNat < S256.size a := fun v1291 k1_hw164 => k1_hw164.2

def k1_chk165 (v1296 : IVec S16 32) : Prop :=
  (∀ a x, ((![v1296] : Fin 1 → IVec S16 32) a x).toNat < S4096.size a)
theorem k1_idx222_inb : ∀ (v1296 : IVec S16 32) (k1_hw165 : k1_chk165 v1296), ∀ a x, ((![v1296] : Fin 1 → IVec S16 32) a x).toNat < S4096.size a := fun v1296 k1_hw165 => k1_hw165

def k1_chk166 (v1356 : IVec S16 32) : Prop :=
  (∀ a x, ((![v1356] : Fin 1 → IVec S16 32) a x).toNat < S256.size a) ∧
  (∀ a x, ((![v1356] : Fin 1 → IVec S16 32) a x).toNat < S256.size a)
theorem k1_idx223_inb : ∀ (v1356 : IVec S16 32) (k1_hw166 : k1_chk166 v1356), ∀ a x, ((![v1356] : Fin 1 → IVec S16 32) a x).toNat < S256.size a := fun v1356 k1_hw166 => k1_hw166.1
theorem k1_idx224_inb : ∀ (v1356 : IVec S16 32) (k1_hw166 : k1_chk166 v1356), ∀ a x, ((![v1356] : Fin 1 → IVec S16 32) a x).toNat < S256.size a := fun v1356 k1_hw166 => k1_hw166.2

def k1_chk167 (v1361 : IVec S16 32) : Prop :=
  (∀ a x, ((![v1361] : Fin 1 → IVec S16 32) a x).toNat < S4096.size a)
theorem k1_idx225_inb : ∀ (v1361 : IVec S16 32) (k1_hw167 : k1_chk167 v1361), ∀ a x, ((![v1361] : Fin 1 → IVec S16 32) a x).toNat < S4096.size a := fun v1361 k1_hw167 => k1_hw167

def k1_chk168 (v1421 : IVec S16 32) : Prop :=
  (∀ a x, ((![v1421] : Fin 1 → IVec S16 32) a x).toNat < S256.size a) ∧
  (∀ a x, ((![v1421] : Fin 1 → IVec S16 32) a x).toNat < S256.size a)
theorem k1_idx226_inb : ∀ (v1421 : IVec S16 32) (k1_hw168 : k1_chk168 v1421), ∀ a x, ((![v1421] : Fin 1 → IVec S16 32) a x).toNat < S256.size a := fun v1421 k1_hw168 => k1_hw168.1
theorem k1_idx227_inb : ∀ (v1421 : IVec S16 32) (k1_hw168 : k1_chk168 v1421), ∀ a x, ((![v1421] : Fin 1 → IVec S16 32) a x).toNat < S256.size a := fun v1421 k1_hw168 => k1_hw168.2

def k1_chk169 (v1426 : IVec S16 32) : Prop :=
  (∀ a x, ((![v1426] : Fin 1 → IVec S16 32) a x).toNat < S4096.size a)
theorem k1_idx228_inb : ∀ (v1426 : IVec S16 32) (k1_hw169 : k1_chk169 v1426), ∀ a x, ((![v1426] : Fin 1 → IVec S16 32) a x).toNat < S4096.size a := fun v1426 k1_hw169 => k1_hw169

def k1_chk170 (v1486 : IVec S16 32) : Prop :=
  (∀ a x, ((![v1486] : Fin 1 → IVec S16 32) a x).toNat < S256.size a) ∧
  (∀ a x, ((![v1486] : Fin 1 → IVec S16 32) a x).toNat < S256.size a)
theorem k1_idx229_inb : ∀ (v1486 : IVec S16 32) (k1_hw170 : k1_chk170 v1486), ∀ a x, ((![v1486] : Fin 1 → IVec S16 32) a x).toNat < S256.size a := fun v1486 k1_hw170 => k1_hw170.1
theorem k1_idx230_inb : ∀ (v1486 : IVec S16 32) (k1_hw170 : k1_chk170 v1486), ∀ a x, ((![v1486] : Fin 1 → IVec S16 32) a x).toNat < S256.size a := fun v1486 k1_hw170 => k1_hw170.2

def k1_chk171 (v1491 : IVec S16 32) : Prop :=
  (∀ a x, ((![v1491] : Fin 1 → IVec S16 32) a x).toNat < S4096.size a)
theorem k1_idx231_inb : ∀ (v1491 : IVec S16 32) (k1_hw171 : k1_chk171 v1491), ∀ a x, ((![v1491] : Fin 1 → IVec S16 32) a x).toNat < S4096.size a := fun v1491 k1_hw171 => k1_hw171

def k1_chk172 (v1551 : IVec S16 32) : Prop :=
  (∀ a x, ((![v1551] : Fin 1 → IVec S16 32) a x).toNat < S256.size a) ∧
  (∀ a x, ((![v1551] : Fin 1 → IVec S16 32) a x).toNat < S256.size a)
theorem k1_idx232_inb : ∀ (v1551 : IVec S16 32) (k1_hw172 : k1_chk172 v1551), ∀ a x, ((![v1551] : Fin 1 → IVec S16 32) a x).toNat < S256.size a := fun v1551 k1_hw172 => k1_hw172.1
theorem k1_idx233_inb : ∀ (v1551 : IVec S16 32) (k1_hw172 : k1_chk172 v1551), ∀ a x, ((![v1551] : Fin 1 → IVec S16 32) a x).toNat < S256.size a := fun v1551 k1_hw172 => k1_hw172.2

def k1_chk173 (v1556 : IVec S16 32) : Prop :=
  (∀ a x, ((![v1556] : Fin 1 → IVec S16 32) a x).toNat < S4096.size a)
theorem k1_idx234_inb : ∀ (v1556 : IVec S16 32) (k1_hw173 : k1_chk173 v1556), ∀ a x, ((![v1556] : Fin 1 → IVec S16 32) a x).toNat < S4096.size a := fun v1556 k1_hw173 => k1_hw173

def k1_chk174 (v1616 : IVec S16 32) : Prop :=
  (∀ a x, ((![v1616] : Fin 1 → IVec S16 32) a x).toNat < S256.size a) ∧
  (∀ a x, ((![v1616] : Fin 1 → IVec S16 32) a x).toNat < S256.size a)
theorem k1_idx235_inb : ∀ (v1616 : IVec S16 32) (k1_hw174 : k1_chk174 v1616), ∀ a x, ((![v1616] : Fin 1 → IVec S16 32) a x).toNat < S256.size a := fun v1616 k1_hw174 => k1_hw174.1
theorem k1_idx236_inb : ∀ (v1616 : IVec S16 32) (k1_hw174 : k1_chk174 v1616), ∀ a x, ((![v1616] : Fin 1 → IVec S16 32) a x).toNat < S256.size a := fun v1616 k1_hw174 => k1_hw174.2

def k1_chk175 (v1621 : IVec S16 32) : Prop :=
  (∀ a x, ((![v1621] : Fin 1 → IVec S16 32) a x).toNat < S4096.size a)
theorem k1_idx237_inb : ∀ (v1621 : IVec S16 32) (k1_hw175 : k1_chk175 v1621), ∀ a x, ((![v1621] : Fin 1 → IVec S16 32) a x).toNat < S4096.size a := fun v1621 k1_hw175 => k1_hw175

def k1_chk176 (v1681 : IVec S16 32) : Prop :=
  (∀ a x, ((![v1681] : Fin 1 → IVec S16 32) a x).toNat < S256.size a) ∧
  (∀ a x, ((![v1681] : Fin 1 → IVec S16 32) a x).toNat < S256.size a)
theorem k1_idx238_inb : ∀ (v1681 : IVec S16 32) (k1_hw176 : k1_chk176 v1681), ∀ a x, ((![v1681] : Fin 1 → IVec S16 32) a x).toNat < S256.size a := fun v1681 k1_hw176 => k1_hw176.1
theorem k1_idx239_inb : ∀ (v1681 : IVec S16 32) (k1_hw176 : k1_chk176 v1681), ∀ a x, ((![v1681] : Fin 1 → IVec S16 32) a x).toNat < S256.size a := fun v1681 k1_hw176 => k1_hw176.2

def k1_chk177 (v1686 : IVec S16 32) : Prop :=
  (∀ a x, ((![v1686] : Fin 1 → IVec S16 32) a x).toNat < S4096.size a)
theorem k1_idx240_inb : ∀ (v1686 : IVec S16 32) (k1_hw177 : k1_chk177 v1686), ∀ a x, ((![v1686] : Fin 1 → IVec S16 32) a x).toNat < S4096.size a := fun v1686 k1_hw177 => k1_hw177

def k1_chk178 (v1746 : IVec S16 32) : Prop :=
  (∀ a x, ((![v1746] : Fin 1 → IVec S16 32) a x).toNat < S256.size a) ∧
  (∀ a x, ((![v1746] : Fin 1 → IVec S16 32) a x).toNat < S256.size a)
theorem k1_idx241_inb : ∀ (v1746 : IVec S16 32) (k1_hw178 : k1_chk178 v1746), ∀ a x, ((![v1746] : Fin 1 → IVec S16 32) a x).toNat < S256.size a := fun v1746 k1_hw178 => k1_hw178.1
theorem k1_idx242_inb : ∀ (v1746 : IVec S16 32) (k1_hw178 : k1_chk178 v1746), ∀ a x, ((![v1746] : Fin 1 → IVec S16 32) a x).toNat < S256.size a := fun v1746 k1_hw178 => k1_hw178.2
@[reducible] def k1_t7_loop : Scf.Loop 32 :=
  let c0_i32_146 : BitVec 32 := 0#32
  let c9_i32_147 : BitVec 32 := 9#32
  let v376 : BitVec 32 := Scalar.addi c0_i32_146 c9_i32_147
  let c1_i32_148 : BitVec 32 := 1#32
  ⟨c0_i32_146, v376, c1_i32_148⟩

def k1_chk179 (v653 : IVec S16 32) : Prop :=
  (∀ a x, ((![v653] : Fin 1 → IVec S16 32) a x).toNat < S256.size a)
theorem k1_idx243_inb : ∀ (v653 : IVec S16 32) (k1_hw179 : k1_chk179 v653), ∀ a x, ((![v653] : Fin 1 → IVec S16 32) a x).toNat < S256.size a := fun v653 k1_hw179 => k1_hw179

def k1_chk180 (v664 : IVec S16 32) : Prop :=
  (∀ a x, ((![v664] : Fin 1 → IVec S16 32) a x).toNat < S8200.size a)
theorem k1_idx244_inb : ∀ (v664 : IVec S16 32) (k1_hw180 : k1_chk180 v664), ∀ a x, ((![v664] : Fin 1 → IVec S16 32) a x).toNat < S8200.size a := fun v664 k1_hw180 => k1_hw180

def k1_chk181 (v667 : IVec S16 32) : Prop :=
  (∀ a x, ((![v667] : Fin 1 → IVec S16 32) a x).toNat < S8200.size a)
theorem k1_idx245_inb : ∀ (v667 : IVec S16 32) (k1_hw181 : k1_chk181 v667), ∀ a x, ((![v667] : Fin 1 → IVec S16 32) a x).toNat < S8200.size a := fun v667 k1_hw181 => k1_hw181

def k1_chk182 (v674 : IVec S16 32) : Prop :=
  (∀ a x, ((![v674] : Fin 1 → IVec S16 32) a x).toNat < S4096.size a)
theorem k1_idx246_inb : ∀ (v674 : IVec S16 32) (k1_hw182 : k1_chk182 v674), ∀ a x, ((![v674] : Fin 1 → IVec S16 32) a x).toNat < S4096.size a := fun v674 k1_hw182 => k1_hw182

def k1_chk183 (v677 : IVec S16 32) : Prop :=
  (∀ a x, ((![v677] : Fin 1 → IVec S16 32) a x).toNat < S4096.size a)
theorem k1_idx247_inb : ∀ (v677 : IVec S16 32) (k1_hw183 : k1_chk183 v677), ∀ a x, ((![v677] : Fin 1 → IVec S16 32) a x).toNat < S4096.size a := fun v677 k1_hw183 => k1_hw183

def k1_chk184 (v681 : IVec S16 32) : Prop :=
  (∀ a x, ((![v681] : Fin 1 → IVec S16 32) a x).toNat < S4096.size a)
theorem k1_idx248_inb : ∀ (v681 : IVec S16 32) (k1_hw184 : k1_chk184 v681), ∀ a x, ((![v681] : Fin 1 → IVec S16 32) a x).toNat < S4096.size a := fun v681 k1_hw184 => k1_hw184

def k1_chk185 (v685 : IVec S16 32) : Prop :=
  (∀ a x, ((![v685] : Fin 1 → IVec S16 32) a x).toNat < S4096.size a)
theorem k1_idx249_inb : ∀ (v685 : IVec S16 32) (k1_hw185 : k1_chk185 v685), ∀ a x, ((![v685] : Fin 1 → IVec S16 32) a x).toNat < S4096.size a := fun v685 k1_hw185 => k1_hw185

def k1_chk186 (v689 : IVec S16 32) : Prop :=
  (∀ a x, ((![v689] : Fin 1 → IVec S16 32) a x).toNat < S4096.size a)
theorem k1_idx250_inb : ∀ (v689 : IVec S16 32) (k1_hw186 : k1_chk186 v689), ∀ a x, ((![v689] : Fin 1 → IVec S16 32) a x).toNat < S4096.size a := fun v689 k1_hw186 => k1_hw186

def k1_chk187 (v693 : IVec S16 32) : Prop :=
  (∀ a x, ((![v693] : Fin 1 → IVec S16 32) a x).toNat < S4096.size a)
theorem k1_idx251_inb : ∀ (v693 : IVec S16 32) (k1_hw187 : k1_chk187 v693), ∀ a x, ((![v693] : Fin 1 → IVec S16 32) a x).toNat < S4096.size a := fun v693 k1_hw187 => k1_hw187

def k1_chk188 (v697 : IVec S16 32) : Prop :=
  (∀ a x, ((![v697] : Fin 1 → IVec S16 32) a x).toNat < S4096.size a)
theorem k1_idx252_inb : ∀ (v697 : IVec S16 32) (k1_hw188 : k1_chk188 v697), ∀ a x, ((![v697] : Fin 1 → IVec S16 32) a x).toNat < S4096.size a := fun v697 k1_hw188 => k1_hw188

def k1_chk189 (v701 : IVec S16 32) : Prop :=
  (∀ a x, ((![v701] : Fin 1 → IVec S16 32) a x).toNat < S4096.size a)
theorem k1_idx253_inb : ∀ (v701 : IVec S16 32) (k1_hw189 : k1_chk189 v701), ∀ a x, ((![v701] : Fin 1 → IVec S16 32) a x).toNat < S4096.size a := fun v701 k1_hw189 => k1_hw189

def k1_chk190 (v705 : IVec S16 32) : Prop :=
  (∀ a x, ((![v705] : Fin 1 → IVec S16 32) a x).toNat < S4096.size a)
theorem k1_idx254_inb : ∀ (v705 : IVec S16 32) (k1_hw190 : k1_chk190 v705), ∀ a x, ((![v705] : Fin 1 → IVec S16 32) a x).toNat < S4096.size a := fun v705 k1_hw190 => k1_hw190

def k1_chk191 (v709 : IVec S16 32) : Prop :=
  (∀ a x, ((![v709] : Fin 1 → IVec S16 32) a x).toNat < S4096.size a)
theorem k1_idx255_inb : ∀ (v709 : IVec S16 32) (k1_hw191 : k1_chk191 v709), ∀ a x, ((![v709] : Fin 1 → IVec S16 32) a x).toNat < S4096.size a := fun v709 k1_hw191 => k1_hw191

def k1_chk192 (v713 : IVec S16 32) : Prop :=
  (∀ a x, ((![v713] : Fin 1 → IVec S16 32) a x).toNat < S4096.size a)
theorem k1_idx256_inb : ∀ (v713 : IVec S16 32) (k1_hw192 : k1_chk192 v713), ∀ a x, ((![v713] : Fin 1 → IVec S16 32) a x).toNat < S4096.size a := fun v713 k1_hw192 => k1_hw192

def k1_chk193 (v717 : IVec S16 32) : Prop :=
  (∀ a x, ((![v717] : Fin 1 → IVec S16 32) a x).toNat < S4096.size a)
theorem k1_idx257_inb : ∀ (v717 : IVec S16 32) (k1_hw193 : k1_chk193 v717), ∀ a x, ((![v717] : Fin 1 → IVec S16 32) a x).toNat < S4096.size a := fun v717 k1_hw193 => k1_hw193

def k1_chk194 (v721 : IVec S16 32) : Prop :=
  (∀ a x, ((![v721] : Fin 1 → IVec S16 32) a x).toNat < S4096.size a)
theorem k1_idx258_inb : ∀ (v721 : IVec S16 32) (k1_hw194 : k1_chk194 v721), ∀ a x, ((![v721] : Fin 1 → IVec S16 32) a x).toNat < S4096.size a := fun v721 k1_hw194 => k1_hw194

def k1_chk195 (v725 : IVec S16 32) : Prop :=
  (∀ a x, ((![v725] : Fin 1 → IVec S16 32) a x).toNat < S4096.size a)
theorem k1_idx259_inb : ∀ (v725 : IVec S16 32) (k1_hw195 : k1_chk195 v725), ∀ a x, ((![v725] : Fin 1 → IVec S16 32) a x).toNat < S4096.size a := fun v725 k1_hw195 => k1_hw195

def k1_chk196 (v729 : IVec S16 32) : Prop :=
  (∀ a x, ((![v729] : Fin 1 → IVec S16 32) a x).toNat < S4096.size a)
theorem k1_idx260_inb : ∀ (v729 : IVec S16 32) (k1_hw196 : k1_chk196 v729), ∀ a x, ((![v729] : Fin 1 → IVec S16 32) a x).toNat < S4096.size a := fun v729 k1_hw196 => k1_hw196

def k1_chk197 (v733 : IVec S16 32) : Prop :=
  (∀ a x, ((![v733] : Fin 1 → IVec S16 32) a x).toNat < S4096.size a)
theorem k1_idx261_inb : ∀ (v733 : IVec S16 32) (k1_hw197 : k1_chk197 v733), ∀ a x, ((![v733] : Fin 1 → IVec S16 32) a x).toNat < S4096.size a := fun v733 k1_hw197 => k1_hw197

def k1_chk198 (v737 : IVec S16 32) : Prop :=
  (∀ a x, ((![v737] : Fin 1 → IVec S16 32) a x).toNat < S4096.size a)
theorem k1_idx262_inb : ∀ (v737 : IVec S16 32) (k1_hw198 : k1_chk198 v737), ∀ a x, ((![v737] : Fin 1 → IVec S16 32) a x).toNat < S4096.size a := fun v737 k1_hw198 => k1_hw198

def k1_chk199 (v786 : IVec S16 32) : Prop :=
  (∀ a x, ((![v786] : Fin 1 → IVec S16 32) a x).toNat < S256.size a)
theorem k1_idx263_inb : ∀ (v786 : IVec S16 32) (k1_hw199 : k1_chk199 v786), ∀ a x, ((![v786] : Fin 1 → IVec S16 32) a x).toNat < S256.size a := fun v786 k1_hw199 => k1_hw199

def k1_chk200 (v787 : IVec S16 32) : Prop :=
  (∀ a x, ((![v787] : Fin 1 → IVec S16 32) a x).toNat < S256.size a)
theorem k1_idx264_inb : ∀ (v787 : IVec S16 32) (k1_hw200 : k1_chk200 v787), ∀ a x, ((![v787] : Fin 1 → IVec S16 32) a x).toNat < S256.size a := fun v787 k1_hw200 => k1_hw200

def k1_chk201 (v867 : IVec S16 32) : Prop :=
  (∀ a x, ((![v867] : Fin 1 → IVec S16 32) a x).toNat < S256.size a)
theorem k1_idx265_inb : ∀ (v867 : IVec S16 32) (k1_hw201 : k1_chk201 v867), ∀ a x, ((![v867] : Fin 1 → IVec S16 32) a x).toNat < S256.size a := fun v867 k1_hw201 => k1_hw201

def k1_chk202 (v878 : IVec S16 32) : Prop :=
  (∀ a x, ((![v878] : Fin 1 → IVec S16 32) a x).toNat < S8200.size a)
theorem k1_idx266_inb : ∀ (v878 : IVec S16 32) (k1_hw202 : k1_chk202 v878), ∀ a x, ((![v878] : Fin 1 → IVec S16 32) a x).toNat < S8200.size a := fun v878 k1_hw202 => k1_hw202

def k1_chk203 (v881 : IVec S16 32) : Prop :=
  (∀ a x, ((![v881] : Fin 1 → IVec S16 32) a x).toNat < S8200.size a)
theorem k1_idx267_inb : ∀ (v881 : IVec S16 32) (k1_hw203 : k1_chk203 v881), ∀ a x, ((![v881] : Fin 1 → IVec S16 32) a x).toNat < S8200.size a := fun v881 k1_hw203 => k1_hw203

def k1_chk204 (v888 : IVec S16 32) : Prop :=
  (∀ a x, ((![v888] : Fin 1 → IVec S16 32) a x).toNat < S4096.size a)
theorem k1_idx268_inb : ∀ (v888 : IVec S16 32) (k1_hw204 : k1_chk204 v888), ∀ a x, ((![v888] : Fin 1 → IVec S16 32) a x).toNat < S4096.size a := fun v888 k1_hw204 => k1_hw204

def k1_chk205 (v891 : IVec S16 32) : Prop :=
  (∀ a x, ((![v891] : Fin 1 → IVec S16 32) a x).toNat < S4096.size a)
theorem k1_idx269_inb : ∀ (v891 : IVec S16 32) (k1_hw205 : k1_chk205 v891), ∀ a x, ((![v891] : Fin 1 → IVec S16 32) a x).toNat < S4096.size a := fun v891 k1_hw205 => k1_hw205

def k1_chk206 (v895 : IVec S16 32) : Prop :=
  (∀ a x, ((![v895] : Fin 1 → IVec S16 32) a x).toNat < S4096.size a)
theorem k1_idx270_inb : ∀ (v895 : IVec S16 32) (k1_hw206 : k1_chk206 v895), ∀ a x, ((![v895] : Fin 1 → IVec S16 32) a x).toNat < S4096.size a := fun v895 k1_hw206 => k1_hw206

def k1_chk207 (v899 : IVec S16 32) : Prop :=
  (∀ a x, ((![v899] : Fin 1 → IVec S16 32) a x).toNat < S4096.size a)
theorem k1_idx271_inb : ∀ (v899 : IVec S16 32) (k1_hw207 : k1_chk207 v899), ∀ a x, ((![v899] : Fin 1 → IVec S16 32) a x).toNat < S4096.size a := fun v899 k1_hw207 => k1_hw207

def k1_chk208 (v903 : IVec S16 32) : Prop :=
  (∀ a x, ((![v903] : Fin 1 → IVec S16 32) a x).toNat < S4096.size a)
theorem k1_idx272_inb : ∀ (v903 : IVec S16 32) (k1_hw208 : k1_chk208 v903), ∀ a x, ((![v903] : Fin 1 → IVec S16 32) a x).toNat < S4096.size a := fun v903 k1_hw208 => k1_hw208

def k1_chk209 (v907 : IVec S16 32) : Prop :=
  (∀ a x, ((![v907] : Fin 1 → IVec S16 32) a x).toNat < S4096.size a)
theorem k1_idx273_inb : ∀ (v907 : IVec S16 32) (k1_hw209 : k1_chk209 v907), ∀ a x, ((![v907] : Fin 1 → IVec S16 32) a x).toNat < S4096.size a := fun v907 k1_hw209 => k1_hw209

def k1_chk210 (v911 : IVec S16 32) : Prop :=
  (∀ a x, ((![v911] : Fin 1 → IVec S16 32) a x).toNat < S4096.size a)
theorem k1_idx274_inb : ∀ (v911 : IVec S16 32) (k1_hw210 : k1_chk210 v911), ∀ a x, ((![v911] : Fin 1 → IVec S16 32) a x).toNat < S4096.size a := fun v911 k1_hw210 => k1_hw210

def k1_chk211 (v915 : IVec S16 32) : Prop :=
  (∀ a x, ((![v915] : Fin 1 → IVec S16 32) a x).toNat < S4096.size a)
theorem k1_idx275_inb : ∀ (v915 : IVec S16 32) (k1_hw211 : k1_chk211 v915), ∀ a x, ((![v915] : Fin 1 → IVec S16 32) a x).toNat < S4096.size a := fun v915 k1_hw211 => k1_hw211

def k1_chk212 (v919 : IVec S16 32) : Prop :=
  (∀ a x, ((![v919] : Fin 1 → IVec S16 32) a x).toNat < S4096.size a)
theorem k1_idx276_inb : ∀ (v919 : IVec S16 32) (k1_hw212 : k1_chk212 v919), ∀ a x, ((![v919] : Fin 1 → IVec S16 32) a x).toNat < S4096.size a := fun v919 k1_hw212 => k1_hw212

def k1_chk213 (v923 : IVec S16 32) : Prop :=
  (∀ a x, ((![v923] : Fin 1 → IVec S16 32) a x).toNat < S4096.size a)
theorem k1_idx277_inb : ∀ (v923 : IVec S16 32) (k1_hw213 : k1_chk213 v923), ∀ a x, ((![v923] : Fin 1 → IVec S16 32) a x).toNat < S4096.size a := fun v923 k1_hw213 => k1_hw213

def k1_chk214 (v927 : IVec S16 32) : Prop :=
  (∀ a x, ((![v927] : Fin 1 → IVec S16 32) a x).toNat < S4096.size a)
theorem k1_idx278_inb : ∀ (v927 : IVec S16 32) (k1_hw214 : k1_chk214 v927), ∀ a x, ((![v927] : Fin 1 → IVec S16 32) a x).toNat < S4096.size a := fun v927 k1_hw214 => k1_hw214

def k1_chk215 (v931 : IVec S16 32) : Prop :=
  (∀ a x, ((![v931] : Fin 1 → IVec S16 32) a x).toNat < S4096.size a)
theorem k1_idx279_inb : ∀ (v931 : IVec S16 32) (k1_hw215 : k1_chk215 v931), ∀ a x, ((![v931] : Fin 1 → IVec S16 32) a x).toNat < S4096.size a := fun v931 k1_hw215 => k1_hw215

def k1_chk216 (v935 : IVec S16 32) : Prop :=
  (∀ a x, ((![v935] : Fin 1 → IVec S16 32) a x).toNat < S4096.size a)
theorem k1_idx280_inb : ∀ (v935 : IVec S16 32) (k1_hw216 : k1_chk216 v935), ∀ a x, ((![v935] : Fin 1 → IVec S16 32) a x).toNat < S4096.size a := fun v935 k1_hw216 => k1_hw216

def k1_chk217 (v939 : IVec S16 32) : Prop :=
  (∀ a x, ((![v939] : Fin 1 → IVec S16 32) a x).toNat < S4096.size a)
theorem k1_idx281_inb : ∀ (v939 : IVec S16 32) (k1_hw217 : k1_chk217 v939), ∀ a x, ((![v939] : Fin 1 → IVec S16 32) a x).toNat < S4096.size a := fun v939 k1_hw217 => k1_hw217

def k1_chk218 (v943 : IVec S16 32) : Prop :=
  (∀ a x, ((![v943] : Fin 1 → IVec S16 32) a x).toNat < S4096.size a)
theorem k1_idx282_inb : ∀ (v943 : IVec S16 32) (k1_hw218 : k1_chk218 v943), ∀ a x, ((![v943] : Fin 1 → IVec S16 32) a x).toNat < S4096.size a := fun v943 k1_hw218 => k1_hw218

def k1_chk219 (v947 : IVec S16 32) : Prop :=
  (∀ a x, ((![v947] : Fin 1 → IVec S16 32) a x).toNat < S4096.size a)
theorem k1_idx283_inb : ∀ (v947 : IVec S16 32) (k1_hw219 : k1_chk219 v947), ∀ a x, ((![v947] : Fin 1 → IVec S16 32) a x).toNat < S4096.size a := fun v947 k1_hw219 => k1_hw219

def k1_chk220 (v951 : IVec S16 32) : Prop :=
  (∀ a x, ((![v951] : Fin 1 → IVec S16 32) a x).toNat < S4096.size a)
theorem k1_idx284_inb : ∀ (v951 : IVec S16 32) (k1_hw220 : k1_chk220 v951), ∀ a x, ((![v951] : Fin 1 → IVec S16 32) a x).toNat < S4096.size a := fun v951 k1_hw220 => k1_hw220

def k1_chk221 (v1000 : IVec S16 32) : Prop :=
  (∀ a x, ((![v1000] : Fin 1 → IVec S16 32) a x).toNat < S256.size a)
theorem k1_idx285_inb : ∀ (v1000 : IVec S16 32) (k1_hw221 : k1_chk221 v1000), ∀ a x, ((![v1000] : Fin 1 → IVec S16 32) a x).toNat < S256.size a := fun v1000 k1_hw221 => k1_hw221

def k1_chk222 (v1001 : IVec S16 32) : Prop :=
  (∀ a x, ((![v1001] : Fin 1 → IVec S16 32) a x).toNat < S256.size a)
theorem k1_idx286_inb : ∀ (v1001 : IVec S16 32) (k1_hw222 : k1_chk222 v1001), ∀ a x, ((![v1001] : Fin 1 → IVec S16 32) a x).toNat < S256.size a := fun v1001 k1_hw222 => k1_hw222

def k1_chk223 (v457 : IVec S16 32) : Prop :=
  (∀ a x, ((![v457] : Fin 1 → IVec S16 32) a x).toNat < S256.size a)
theorem k1_idx287_inb : ∀ (v457 : IVec S16 32) (k1_hw223 : k1_chk223 v457), ∀ a x, ((![v457] : Fin 1 → IVec S16 32) a x).toNat < S256.size a := fun v457 k1_hw223 => k1_hw223

def k1_chk224 (v468 : IVec S16 32) : Prop :=
  (∀ a x, ((![v468] : Fin 1 → IVec S16 32) a x).toNat < S8200.size a)
theorem k1_idx288_inb : ∀ (v468 : IVec S16 32) (k1_hw224 : k1_chk224 v468), ∀ a x, ((![v468] : Fin 1 → IVec S16 32) a x).toNat < S8200.size a := fun v468 k1_hw224 => k1_hw224

def k1_chk225 (v471 : IVec S16 32) : Prop :=
  (∀ a x, ((![v471] : Fin 1 → IVec S16 32) a x).toNat < S8200.size a)
theorem k1_idx289_inb : ∀ (v471 : IVec S16 32) (k1_hw225 : k1_chk225 v471), ∀ a x, ((![v471] : Fin 1 → IVec S16 32) a x).toNat < S8200.size a := fun v471 k1_hw225 => k1_hw225

def k1_chk226 (v552 : IVec S16 32) : Prop :=
  (∀ a x, ((![v552] : Fin 1 → IVec S16 32) a x).toNat < S256.size a)
theorem k1_idx290_inb : ∀ (v552 : IVec S16 32) (k1_hw226 : k1_chk226 v552), ∀ a x, ((![v552] : Fin 1 → IVec S16 32) a x).toNat < S256.size a := fun v552 k1_hw226 => k1_hw226

def k1_chk227 (v563 : IVec S16 32) : Prop :=
  (∀ a x, ((![v563] : Fin 1 → IVec S16 32) a x).toNat < S8200.size a)
theorem k1_idx291_inb : ∀ (v563 : IVec S16 32) (k1_hw227 : k1_chk227 v563), ∀ a x, ((![v563] : Fin 1 → IVec S16 32) a x).toNat < S8200.size a := fun v563 k1_hw227 => k1_hw227

def k1_chk228 (v566 : IVec S16 32) : Prop :=
  (∀ a x, ((![v566] : Fin 1 → IVec S16 32) a x).toNat < S8200.size a)
theorem k1_idx292_inb : ∀ (v566 : IVec S16 32) (k1_hw228 : k1_chk228 v566), ∀ a x, ((![v566] : Fin 1 → IVec S16 32) a x).toNat < S8200.size a := fun v566 k1_hw228 => k1_hw228
def k1_off14 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_30 : BitVec 32 := 24#32
  let v117 : BitVec 32 := Scalar.muli v1 c24_i32_30
  let c8192_i32_31 : BitVec 32 := 8192#32
  let v118 : BitVec 32 := Scalar.muli v117 c8192_i32_31
  ![v118.toNat]
def k1_off15 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_36_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S4096x512 : Shape := ⟨2, ![4096, 512]⟩
abbrev S4096x3x256x2 : Shape := ⟨4, ![4096, 3, 256, 2]⟩
abbrev S_ : Shape := ⟨0, ![]⟩
abbrev S4096x3x256x1 : Shape := ⟨4, ![4096, 3, 256, 1]⟩
abbrev S4096x3x256 : Shape := ⟨3, ![4096, 3, 256]⟩
abbrev S1 : Shape := ⟨1, ![1]⟩
abbrev S1x1x1x1 : Shape := ⟨4, ![1, 1, 1, 1]⟩
abbrev S4096x3x10x2 : Shape := ⟨4, ![4096, 3, 10, 2]⟩
abbrev S4096x3x10 : Shape := ⟨3, ![4096, 3, 10]⟩
abbrev S4096x3 : Shape := ⟨2, ![4096, 3]⟩

abbrev nBuf : Space → Nat
  | .hbm => 92
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3x256x2, .f32⟩
  | .hbm, ⟨3, _⟩ => ⟨S4096x3x256x2, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x3x256x1, .f32⟩
  | .hbm, ⟨11, _⟩ => ⟨S4096x3x256, .f32⟩
  | .hbm, ⟨12, _⟩ => ⟨S4096x3x256x1, .f32⟩
  | .hbm, ⟨13, _⟩ => ⟨S4096x3x256, .f32⟩
  | .hbm, ⟨14, _⟩ => ⟨S4096x3x256, .f32⟩
  | .hbm, ⟨15, _⟩ => ⟨S4096x3x256, .f32⟩
  | .hbm, ⟨16, _⟩ => ⟨S4096x3x256, .i32⟩
  | .hbm, ⟨17, _⟩ => ⟨S4096x3x256, .f32⟩
  | .hbm, ⟨18, _⟩ => ⟨S4096x3x256, .i32⟩
  | .hbm, ⟨19, _⟩ => ⟨S4096x3x256x1, .i32⟩
  | .hbm, ⟨20, _⟩ => ⟨S_, .i32⟩
  | .hbm, ⟨21, _⟩ => ⟨S4096x3x256x1, .i32⟩
  | .hbm, ⟨22, _⟩ => ⟨S4096x3x256x1, .i1⟩
  | .hbm, ⟨23, _⟩ => ⟨S_, .i32⟩
  | .hbm, ⟨24, _⟩ => ⟨S4096x3x256x1, .i32⟩
  | .hbm, ⟨25, _⟩ => ⟨S4096x3x256x1, .i32⟩
  | .hbm, ⟨26, _⟩ => ⟨S4096x3x256x1, .i32⟩
  | .hbm, ⟨27, _⟩ => ⟨S1, .i32⟩
  | .hbm, ⟨28, _⟩ => ⟨S_, .i32⟩
  | .hbm, ⟨29, _⟩ => ⟨S4096x3x256x1, .i32⟩
  | .hbm, ⟨30, _⟩ => ⟨S4096x3x256x1, .i1⟩
  | .hbm, ⟨31, _⟩ => ⟨S1x1x1x1, .i32⟩
  | .hbm, ⟨32, _⟩ => ⟨S4096x3x256x1, .i32⟩
  | .hbm, ⟨33, _⟩ => ⟨S4096x3x256x1, .i1⟩
  | .hbm, ⟨34, _⟩ => ⟨S4096x3x256x1, .i1⟩
  | .hbm, ⟨35, _⟩ => ⟨S_, .i1⟩
  | .hbm, ⟨36, _⟩ => ⟨S4096x3x256, .i1⟩
  | .hbm, ⟨37, _⟩ => ⟨S4096x3x256x2, .f32⟩
  | .hbm, ⟨38, _⟩ => ⟨S4096x3x256x2, .i1⟩
  | .hbm, ⟨39, _⟩ => ⟨S_, .f32⟩
  | .hbm, ⟨40, _⟩ => ⟨S4096x3x256x2, .f32⟩
  | .hbm, ⟨41, _⟩ => ⟨S4096x3x256x2, .f32⟩
  | .hbm, ⟨42, _⟩ => ⟨S4096x3x10x2, .f32⟩
  | .hbm, ⟨43, _⟩ => ⟨S4096x3x256x1, .f32⟩
  | .hbm, ⟨44, _⟩ => ⟨S4096x3x256, .f32⟩
  | .hbm, ⟨45, _⟩ => ⟨S4096x3x256x1, .f32⟩
  | .hbm, ⟨46, _⟩ => ⟨S4096x3x256, .f32⟩
  | .hbm, ⟨47, _⟩ => ⟨S4096x3x256, .f32⟩
  | .hbm, ⟨48, _⟩ => ⟨S4096x3x256, .f32⟩
  | .hbm, ⟨49, _⟩ => ⟨S4096x3x256, .i32⟩
  | .hbm, ⟨50, _⟩ => ⟨S4096x3x256, .f32⟩
  | .hbm, ⟨51, _⟩ => ⟨S4096x3x256, .i32⟩
  | .hbm, ⟨52, _⟩ => ⟨S4096x3x256x1, .i32⟩
  | .hbm, ⟨53, _⟩ => ⟨S_, .i32⟩
  | .hbm, ⟨54, _⟩ => ⟨S4096x3x256x1, .i32⟩
  | .hbm, ⟨55, _⟩ => ⟨S4096x3x256x1, .i1⟩
  | .hbm, ⟨56, _⟩ => ⟨S_, .i32⟩
  | .hbm, ⟨57, _⟩ => ⟨S4096x3x256x1, .i32⟩
  | .hbm, ⟨58, _⟩ => ⟨S4096x3x256x1, .i32⟩
  | .hbm, ⟨59, _⟩ => ⟨S4096x3x256x1, .i32⟩
  | .hbm, ⟨60, _⟩ => ⟨S1, .i32⟩
  | .hbm, ⟨61, _⟩ => ⟨S_, .i32⟩
  | .hbm, ⟨62, _⟩ => ⟨S4096x3x256x1, .i32⟩
  | .hbm, ⟨63, _⟩ => ⟨S4096x3x256x1, .i1⟩
  | .hbm, ⟨64, _⟩ => ⟨S1x1x1x1, .i32⟩
  | .hbm, ⟨65, _⟩ => ⟨S4096x3x256x1, .i32⟩
  | .hbm, ⟨66, _⟩ => ⟨S4096x3x256x1, .i1⟩
  | .hbm, ⟨67, _⟩ => ⟨S4096x3x256x1, .i1⟩
  | .hbm, ⟨68, _⟩ => ⟨S_, .i1⟩
  | .hbm, ⟨69, _⟩ => ⟨S4096x3x256, .i1⟩
  | .hbm, ⟨70, _⟩ => ⟨S4096x3x256x2, .f32⟩
  | .hbm, ⟨71, _⟩ => ⟨S4096x3x256x2, .i1⟩
  | .hbm, ⟨72, _⟩ => ⟨S_, .f32⟩
  | .hbm, ⟨73, _⟩ => ⟨S4096x3x256x2, .f32⟩
  | .hbm, ⟨74, _⟩ => ⟨S4096x3x256x2, .f32⟩
  | .hbm, ⟨75, _⟩ => ⟨S4096x3x10x2, .f32⟩
  | .hbm, ⟨76, _⟩ => ⟨S4096x3x10x2, .f32⟩
  | .hbm, ⟨77, _⟩ => ⟨S4096x3x10x2, .f32⟩
  | .hbm, ⟨78, _⟩ => ⟨S_, .f32⟩
  | .hbm, ⟨79, _⟩ => ⟨S4096x3x10, .f32⟩
  | .hbm, ⟨80, _⟩ => ⟨S_, .f32⟩
  | .hbm, ⟨81, _⟩ => ⟨S4096x3, .f32⟩
  | .hbm, ⟨82, _⟩ => ⟨S_, .f32⟩
  | .hbm, ⟨83, _⟩ => ⟨S4096x3, .f32⟩
  | .hbm, ⟨84, _⟩ => ⟨S4096x3, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1_0 : Ref sig .tc := ⟨.hbm, 17, rfl⟩
abbrev main_v10 : Ref sig .tc := ⟨.hbm, 18, rfl⟩
abbrev main_v11 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_1 : Ref sig .tc := ⟨.hbm, 27, rfl⟩
abbrev main_call1_c_2 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_c_3 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call2_v0 : Ref sig .tc := ⟨.hbm, 49, rfl⟩
abbrev main_call2_v1_0 : Ref sig .tc := ⟨.hbm, 50, rfl⟩
abbrev main_v20 : Ref sig .tc := ⟨.hbm, 51, rfl⟩
abbrev main_v21 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_c_1 : Ref sig .tc := ⟨.hbm, 60, rfl⟩
abbrev main_call3_c_2 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_c_3 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_cst_1 : Ref sig .tc := ⟨.hbm, 78, rfl⟩
abbrev main_v26 : Ref sig .tc := ⟨.hbm, 79, rfl⟩
abbrev main_cst_2 : Ref sig .tc := ⟨.hbm, 80, rfl⟩
abbrev main_v27 : Ref sig .tc := ⟨.hbm, 81, rfl⟩
abbrev main_cst_3 : Ref sig .tc := ⟨.hbm, 82, rfl⟩
abbrev main_v28 : Ref sig .tc := ⟨.hbm, 83, rfl⟩
abbrev main_v29 : Ref sig .tc := ⟨.hbm, 84, rfl⟩
abbrev main_cst_4 : Ref sig .tc := ⟨.hbm, 85, rfl⟩
abbrev main_v30 : Ref sig .tc := ⟨.hbm, 86, rfl⟩
abbrev main_cst_5 : Ref sig .tc := ⟨.hbm, 87, rfl⟩
abbrev main_v31 : Ref sig .tc := ⟨.hbm, 88, rfl⟩
abbrev main_cst_6 : Ref sig .tc := ⟨.hbm, 89, rfl⟩
abbrev main_v32 : Ref sig .tc := ⟨.hbm, 90, rfl⟩
abbrev main_v33 : Ref sig .tc := ⟨.hbm, 91, rfl⟩

abbrev nD : Nat := 1
abbrev τ : Topo := Topo.v7x

variable {F : FTy → Type} [FloatOps F]
-- ==== Proof.Local.lean ====
/- A weakest precondition for the straight-line part of a tile's body: a program that only loads, stores and assumes is
   run over a plain assignment of contents to the tile's own buffers, outside the separation logic; `sound` brings the
   result back as a `wp`. -/
module

public import Idealize.ShloMosaic.Rules
public import Idealize.ShloMosaic.Lib.Scf
public import Idealize.ShloMosaic.Lib.SparseCore.Quiescent

@[expose] public section

noncomputable section

namespace Cert.Proof.Local

open Idealize.ShloMosaic
open Idealize.SL Idealize.SL.RA Idealize.SL.BI Idealize.SL.Sem Idealize.SL.ProofMode
open scoped Idealize.SL.BI
open Idealize.SL.BI.BIBase Idealize.SL.BI.Laws

variable {nD : Nat} {τ : Topo} {sig : RefSig} {Val : EltTy → Type} {Λ : Labels} {p : Proc τ}

/-- What every buffer the processor names holds. -/
abbrev St (sig : RefSig) (Val : EltTy → Type) (p : Proc τ) : Type := ∀ b : Ref sig p.kind, b.ty.Contents Val

/-- The contents with those of one buffer replaced. -/
def put (σ : St sig Val p) (b : Ref sig p.kind) (f : b.ty.Contents Val) : St sig Val p := Function.update σ b f

theorem put_same (σ : St sig Val p) (b : Ref sig p.kind) (f : b.ty.Contents Val) : put σ b f b = f := Function.update_self ..
theorem put_other (σ : St sig Val p) {b b' : Ref sig p.kind} (f : b.ty.Contents Val) (h : b' ≠ b) : put σ b f b' = σ b' :=
  Function.update_of_ne h ..

/-- One effect: a load and a store of an owned buffer, and an assumption; nothing else has a clause. -/
def stepI (S : Finset (Ref sig p.kind)) {β : Type} (e : TpuEff nD τ sig Val Λ p β) (σ : St sig Val p) (K : β → St sig Val p → Prop) : Prop :=
  match e with
  | .load m r _ => m.view.ref ∈ S ∧ K (m.view.readAt Val r (σ m.view.ref)) σ
  | .store m r w M _ _ => m.view.ref ∈ S ∧ K ⟨⟩ (put σ m.view.ref ((m.access r).write Val (σ m.view.ref) w M))
  | .assume P _ => ∃ h : P, K ⟨h⟩ σ
  | _ => False

/-- The program runs from `σ` and ends in a value and contents of which `Q` holds. -/
def I (S : Finset (Ref sig p.kind)) {α : Type} : Prog (TpuEff nD τ sig Val Λ p) α → St sig Val p → (α → St sig Val p → Prop) → Prop
  | .ret a, σ, Q => Q a σ
  | .op e k, σ, Q => stepI S e σ fun x σ' => I S (k x) σ' Q

variable {S : Finset (Ref sig p.kind)} {α β : Type}

theorem stepI_mono {e : TpuEff nD τ sig Val Λ p β} {σ : St sig Val p} {K K' : β → St sig Val p → Prop} (h : ∀ x σ', K x σ' → K' x σ')
    (hs : stepI S e σ K) : stepI S e σ K' := by
  cases e
  case load => exact ⟨hs.1, h _ _ hs.2⟩
  case store => exact ⟨hs.1, h _ _ hs.2⟩
  case assume => exact hs.imp fun _ hk => h _ _ hk
  all_goals exact hs.elim

theorem I_mono {q : Prog (TpuEff nD τ sig Val Λ p) α} {σ : St sig Val p} {Q Q' : α → St sig Val p → Prop} (h : ∀ x σ', Q x σ' → Q' x σ')
    (hs : I S q σ Q) : I S q σ Q' := by
  induction q generalizing σ with
  | ret a => exact h _ _ hs
  | op e k ih => exact stepI_mono (fun x σ' => ih x) hs

theorem I_bind {q : Prog (TpuEff nD τ sig Val Λ p) α} {k : α → Prog (TpuEff nD τ sig Val Λ p) β} {σ : St sig Val p} {Q : β → St sig Val p → Prop}
    (hs : I S q σ fun x σ' => I S (k x) σ' Q) : I S (q >>= k) σ Q := by
  induction q generalizing σ with
  | ret a => exact hs
  | op e c ih => exact stepI_mono (fun x σ' => ih x) hs

theorem I_for {w : Nat} {lb ub st : BitVec w} {hok : Scf.OK lb ub st} {init : α}
    {body : Fin (Scf.trips lb ub st) → α → Prog (TpuEff nD τ sig Val Λ p) α} {σ : St sig Val p} {Q : α → St sig Val p → Prop}
    (Inv : Nat → α → St sig Val p → Prop) (h0 : Inv 0 init σ)
    (hstep : ∀ (k : Fin (Scf.trips lb ub st)) a σ', Inv k a σ' → I S (body k a) σ' fun a' σ'' => Inv (k + 1) a' σ'')
    (hend : ∀ a σ', Inv (Scf.trips lb ub st) a σ' → Q a σ') : I S (Scf.for lb ub st hok init body) σ Q := by
  rw [Scf.for_eq]
  generalize hn : Scf.trips lb ub st = n at *
  have key : ∀ (l : List (Fin n)) (j : Nat), (∀ i (hi : i < l.length), ((l[i] : Fin n) : Nat) = j + i) → j + l.length = n →
      ∀ a σ', Inv j a σ' → I S (Scf.forFrom body l a) σ' Q := by
    intro l
    induction l with
    | nil => intro j _ hj a σ' h; exact hend a σ' (by simpa using hj ▸ h)
    | cons k l ih =>
      intro j hl hj a σ' h
      have hk : (k : Nat) = j := hl 0 (by simp)
      refine I_bind (I_mono (fun a' σ'' h' => ih (j + 1) (fun i hi => ?_) (by simp at hj; omega) a' σ'' (hk ▸ h')) (hstep k a σ' (hk ▸ h)))
      have := hl (i + 1) (by simpa using hi)
      simp only [List.getElem_cons_succ] at this; omega
  exact key _ 0 (by simp) (by simp) init σ h0

/-- Two effects alike, continued alike. -/
theorem op_congr {e e' : TpuEff nD τ sig Val Λ p β} {k k' : β → Prog (TpuEff nD τ sig Val Λ p) α} (he : e = e') (hk : ∀ x, k x = k' x) :
    Prog.op e k = Prog.op e' k' := by
  subst he; exact congrArg _ (funext hk)

/-- An assumption of the same proposition, however it is decided. -/
theorem assume_congr {P P' : Prop} {d : Decidable P} {d' : Decidable P'} {k : PLift P → Prog (TpuEff nD τ sig Val Λ p) α}
    {k' : PLift P' → Prog (TpuEff nD τ sig Val Λ p) α} (hP : P = P') (hk : ∀ h h', k ⟨h⟩ = k' ⟨h'⟩) :
    Prog.op (.assume P d) k = Prog.op (.assume P' d') k' := by
  subst hP
  obtain rfl : d = d' := Subsingleton.elim _ _
  exact congrArg _ (funext fun h => hk h.down h.down)

theorem bind_congr {q q' : Prog (TpuEff nD τ sig Val Λ p) α} {k k' : α → Prog (TpuEff nD τ sig Val Λ p) β} (hq : q = q') (hk : ∀ x, k x = k' x) :
    Prog.bind q k = Prog.bind q' k' := by
  subst hq; exact congrArg _ (funext hk)

/-- The same where the left side is bound once more. -/
theorem bind_congr2 {γ : Type} {q q' : Prog (TpuEff nD τ sig Val Λ p) α} {k : α → Prog (TpuEff nD τ sig Val Λ p) β}
    {l : β → Prog (TpuEff nD τ sig Val Λ p) γ} {k' : α → Prog (TpuEff nD τ sig Val Λ p) γ} (hq : q = q') (hk : ∀ x, Prog.bind (k x) l = k' x) :
    Prog.bind (Prog.bind q k) l = Prog.bind q' k' := by
  subst hq
  rw [show Prog.bind (Prog.bind q k) l = Prog.bind q fun x => Prog.bind (k x) l from bind_assoc q k l]
  exact congrArg _ (funext hk)

theorem ret_congr {x : α} {k : α → Prog (TpuEff nD τ sig Val Λ p) β} {q : Prog (TpuEff nD τ sig Val Λ p) β} (h : k x = q) : Prog.bind (.ret x) k = q := h

theorem ret_congr2 {γ : Type} {x : α} {k : α → Prog (TpuEff nD τ sig Val Λ p) β} {l : β → Prog (TpuEff nD τ sig Val Λ p) γ}
    {q : Prog (TpuEff nD τ sig Val Λ p) γ} (h : Prog.bind (k x) l = q) : Prog.bind (Prog.bind (.ret x) k) l = q := h

theorem for_congr {w : Nat} {lb ub st : BitVec w} {hok : Scf.OK lb ub st} {init : α}
    {body body' : Fin (Scf.trips lb ub st) → α → Prog (TpuEff nD τ sig Val Λ p) α} (h : ∀ k a, body k a = body' k a) :
    Scf.for lb ub st hok init body = Scf.for lb ub st hok init body' :=
  congrArg _ (funext fun k => funext (h k))

/-! ## Back into the logic -/

section Sound

variable {Ix : Type} [DecidableEq Ix] {Name : Type} [DecidableEq Name] {U : Type} [URA U] {Lvl : Type} [Preorder Lvl]
local notation "𝕄" => MT nD τ sig Ix Val Name U Lvl

/-- The buffers of `S`, whole, at `σ`. -/
def Own (d : Dev nD) (S : Finset (Ref sig p.kind)) (σ : St sig Val p) : sProp 𝕄 :=
  bigSep S fun b => (Thread.loc (nD := nD) (d, p) b ↦{fullShare} σ b)

variable {defs : Defs nD τ sig Val Λ} (𝒱 : Variants) (d : Dev nD) (bd : Option 𝒱.V) {Γ : PendingWaitsCtx sig Ix} (E : Set Name)

theorem sound {q : Prog (TpuEff nD τ sig Val Λ p) α} {σ : St sig Val p} {Q : α → St sig Val p → Prop} (hI : I S q σ Q) :
    (Own d S σ : sProp 𝕄) ⊢ wp frame (wpE' defs 𝒱 ((d, p) : Thread nD τ) bd Γ) E q fun a => iprop(∃ σ', ⌜Q a σ'⌝ ∗ Own d S σ') := by
  classical
  induction q generalizing σ with
  | ret a =>
    rw [wp_ret]
    iintro H; imodintro; iexists σ; isplitr
    · ipureintro; exact hI
    · iexact H
  | op e k ih =>
    cases e
    case load m r hl =>
      obtain ⟨hm, hk⟩ := hI
      unfold Own
      rw [SparseCore.bigSep_erase' hm]
      iintro ⟨H, Hr⟩
      iapply (wp_load 𝒱 ((d, p) : Thread nD τ) bd E (m := m) (S := Finset.univ) (Finset.subset_univ _)) $$ H
      iintro H
      iapply (ih _ hk)
      unfold Own
      rw [SparseCore.bigSep_erase' hm]
      isplitl [H] <;> iassumption
    case store m r w M hl hm' =>
      obtain ⟨hm, hk⟩ := hI
      unfold Own
      rw [SparseCore.bigSep_erase' hm]
      iintro ⟨H, Hr⟩
      iapply (wp_store 𝒱 ((d, p) : Thread nD τ) bd E (m := m) (r := r) (S := Finset.univ) (f := σ m.view.ref) (Finset.subset_univ _)) $$ H
      iintro H
      iapply (ih _ hk)
      unfold Own
      rw [SparseCore.bigSep_erase' hm, put_same]
      isplitl [H]
      · iexact H
      · iapply (Entails.of_eq (bigSep_congr fun b hb => by rw [put_other _ _ (Finset.ne_of_mem_erase hb)]))
        iexact Hr
    case assume P dec =>
      obtain ⟨h, hk⟩ := hI
      exact (ih _ hk).trans (wp_assume 𝒱 ((d, p) : Thread nD τ) bd E h)
    all_goals exact hI.elim

end Sound

end Cert.Proof.Local

end
-- ==== Proof.Mem.lean ====
/- Reading and writing a tile's buffers by word number: what a load, a gather and a scatter of a one-axis buffer give,
   and how a stored buffer reads back. -/
module

public import proofs.«01_k».proof.Proof.Local

@[expose] public section

noncomputable section

namespace Cert.Proof.Local

open Idealize.ShloMosaic Idealize.SL.Sem

abbrev V1 (N : Nat) : Shape := ⟨1, ![N]⟩

/-- Word `n` of a one-axis buffer, as its index (numbers past the end wrap). -/
def ix1 {N : Nat} (hN : 0 < N) (n : Nat) : (V1 N).Idx := fun a => ⟨n % N, by rw [Fin.eq_zero a]; exact Nat.mod_lt _ hN⟩

/-- Word `n` of a one-axis buffer's contents. -/
def at1 {N : Nat} [h : NeZero N] {X : Type} (f : (V1 N).Idx → X) (n : Nat) : X := f (ix1 (Nat.pos_of_ne_zero h.out) n)

/-- The word number of an index. -/
def wd {N : Nat} (i : (V1 N).Idx) : Nat := (i 0).val

theorem wd_lt {N : Nat} (i : (V1 N).Idx) : wd i < N := (i 0).isLt

theorem wd_ext {N : Nat} {i j : (V1 N).Idx} (h : wd i = wd j) : i = j := by
  funext a; rw [Fin.eq_zero a]; exact Fin.ext h

theorem wd_ix1 {N : Nat} (hN : 0 < N) {n : Nat} (h : n < N) : wd (ix1 hN n) = n := Nat.mod_eq_of_lt h

theorem at1_wd {N : Nat} [NeZero N] {X : Type} (f : (V1 N).Idx → X) (i : (V1 N).Idx) : at1 f (wd i) = f i :=
  congrArg f (wd_ext (wd_ix1 _ (wd_lt i)))

theorem ix1_ofLane {N : Nat} (hN : 0 < N) (k : Fin N) : (Shape.ofLane (d := ![N]) k : (V1 N).Idx) = ix1 hN k.val :=
  wd_ext (by rw [wd_ix1 hN k.isLt]; rfl)

section Idx

variable {F : FTy → Type} [FloatOps F] {e : EltTy} {N : Nat} [NeZero N] {L : Nat}

/-- A gather reads the named word. -/
theorem loadIdx_at (f : Vec F (V1 N) e) (v : IVec (V1 L) 32) (h : ∀ a x, ((![v] : Fin 1 → IVec (V1 L) 32) a x).toNat < (V1 N).size a) (x : (V1 L).Idx) :
    loadIdx (F := F) f ![v] h x = at1 f (v x).toNat :=
  congrArg f (wd_ext ((wd_ix1 _ (h 0 x)).symm))

def put1 (v : IVec (V1 L) 32) (w : Vec F (V1 L) e) (mask : IVec (V1 L) 1) (g : Vec F (V1 N) e) (k : Fin L) : Vec F (V1 N) e :=
  if mask (Shape.ofLane (d := ![L]) k) = 1 then fun j => if wd j = (v (Shape.ofLane (d := ![L]) k)).toNat then w (Shape.ofLane (d := ![L]) k) else g j else g

theorem storeIdx_eq (f : Vec F (V1 N) e) (v : IVec (V1 L) 32) (w : Vec F (V1 L) e) (mask : IVec (V1 L) 1)
    (h : ∀ a x, ((![v] : Fin 1 → IVec (V1 L) 32) a x).toNat < (V1 N).size a) :
    storeIdx (F := F) f ![v] w mask false h = (List.finRange L).foldl (put1 v w mask) f := by
  unfold storeIdx
  congr 1
  funext g k
  unfold put1
  by_cases hm : mask (Shape.ofLane (d := ![L]) k) = 1
  · simp only [hm, if_true, Bool.false_eq_true, if_false]
    funext j
    refine if_congr ?_ rfl rfl
    constructor
    · intro hj; exact hj 0
    · intro hj a; rw [Fin.eq_zero a]; exact hj
  · simp only [hm, if_false]

theorem fold_miss (v : IVec (V1 L) 32) (w : Vec F (V1 L) e) (mask : IVec (V1 L) 1) (j : (V1 N).Idx) (l : List (Fin L))
    (hl : ∀ k ∈ l, mask (Shape.ofLane (d := ![L]) k) = 1 → (v (Shape.ofLane (d := ![L]) k)).toNat ≠ wd j) (f : Vec F (V1 N) e) :
    l.foldl (put1 v w mask) f j = f j := by
  induction l generalizing f with
  | nil => rfl
  | cons k l ih =>
    rw [List.foldl_cons, ih (fun k' hk' => hl k' (List.mem_cons_of_mem _ hk'))]
    unfold put1
    split
    · next hm => exact if_neg (Ne.symm (hl k (List.mem_cons_self ..) hm))
    · rfl

theorem fold_hit (v : IVec (V1 L) 32) (w : Vec F (V1 L) e) (mask : IVec (V1 L) 1) (j : (V1 N).Idx) (k : Fin L) (l : List (Fin L)) (hk : k ∈ l)
    (hm : mask (Shape.ofLane (d := ![L]) k) = 1) (hj : (v (Shape.ofLane (d := ![L]) k)).toNat = wd j)
    (hl : ∀ k' ∈ l, mask (Shape.ofLane (d := ![L]) k') = 1 → (v (Shape.ofLane (d := ![L]) k')).toNat = wd j → k' = k) (f : Vec F (V1 N) e) :
    l.foldl (put1 v w mask) f j = w (Shape.ofLane (d := ![L]) k) := by
  induction l generalizing f with
  | nil => cases hk
  | cons a l ih =>
    rw [List.foldl_cons]
    by_cases hkl : k ∈ l
    · exact ih hkl (fun k' hk' => hl k' (List.mem_cons_of_mem _ hk')) _
    · have ha : k = a := (List.mem_cons.mp hk).resolve_right hkl
      subst ha
      rw [fold_miss]
      · unfold put1; rw [if_pos hm]; exact if_pos hj.symm
      · intro k' hk' hm' he
        exact hkl (hl k' (List.mem_cons_of_mem _ hk') hm' he ▸ hk')

/-- A scatter leaves a word no set lane names, -/
theorem storeIdx_miss {f : Vec F (V1 N) e} {v : IVec (V1 L) 32} {w : Vec F (V1 L) e} {mask : IVec (V1 L) 1}
    {h : ∀ a x, ((![v] : Fin 1 → IVec (V1 L) 32) a x).toNat < (V1 N).size a} {n : Nat} (hn : n < N)
    (hx : ∀ x, mask x = 1 → (v x).toNat ≠ n) : at1 (storeIdx (F := F) f ![v] w mask false h) n = at1 f n := by
  unfold at1
  rw [storeIdx_eq, fold_miss]
  intro k _ hm; rw [wd_ix1 _ hn]; exact hx _ hm

/-- and puts the lane's value at the word only it names. -/
theorem storeIdx_hit {f : Vec F (V1 N) e} {v : IVec (V1 L) 32} {w : Vec F (V1 L) e} {mask : IVec (V1 L) 1}
    {h : ∀ a x, ((![v] : Fin 1 → IVec (V1 L) 32) a x).toNat < (V1 N).size a} {n : Nat} (x : (V1 L).Idx) (hm : mask x = 1) (hn : (v x).toNat = n)
    (hx : ∀ y, mask y = 1 → (v y).toNat = n → y = x) : at1 (storeIdx (F := F) f ![v] w mask false h) n = w x := by
  have hN : n < N := hn ▸ h 0 x
  obtain ⟨k, rfl⟩ : ∃ k : Fin L, Shape.ofLane (d := ![L]) k = x := ⟨⟨wd x, wd_lt x⟩, wd_ext rfl⟩
  unfold at1
  rw [storeIdx_eq]
  refine fold_hit v w mask _ k _ (List.mem_finRange _) hm (by rw [hn, wd_ix1 _ hN]) (fun k' _ hm' he => ?_) f
  have := hx _ hm' (by rw [he, wd_ix1 _ hN])
  exact Fin.ext (congrArg wd this)

theorem st_miss {f g : Vec F (V1 N) e} {v : IVec (V1 L) 32} {w : Vec F (V1 L) e} {mask : IVec (V1 L) 1}
    {h : ∀ a x, ((![v] : Fin 1 → IVec (V1 L) 32) a x).toNat < (V1 N).size a} (hg : g = storeIdx (F := F) f ![v] w mask false h) {n : Nat} (hn : n < N)
    (hx : ∀ x, mask x = 1 → (v x).toNat ≠ n) : at1 g n = at1 f n := by
  rw [hg]; exact storeIdx_miss hn hx

theorem st_hit {f g : Vec F (V1 N) e} {v : IVec (V1 L) 32} {w : Vec F (V1 L) e} {mask : IVec (V1 L) 1}
    {h : ∀ a x, ((![v] : Fin 1 → IVec (V1 L) 32) a x).toNat < (V1 N).size a} (hg : g = storeIdx (F := F) f ![v] w mask false h) {n : Nat}
    (x : (V1 L).Idx) (hm : mask x = 1) (hn : (v x).toNat = n) (hx : ∀ y, mask y = 1 → (v y).toNat = n → y = x) : at1 g n = w x := by
  rw [hg]; exact storeIdx_hit x hm hn hx

end Idx

/-! ## Memrefs -/

section Mem

variable {nD : Nat} {τ : Topo} {sig : RefSig} {Val : EltTy → Type} {Λ : Labels} {p : Proc τ} {sp : Space} {s : Shape} {e : EltTy}

/-- What a memref's buffer holds under it. -/
def rd (m : Memref sig p.kind sp s e) (σ : St sig Val p) : s.Idx → Val e := m.view.read Val (σ m.view.ref)

theorem rd_congr {m : Memref sig p.kind sp s e} {σ σ' : St sig Val p} (h : σ' m.view.ref = σ m.view.ref) : rd m σ' = rd m σ := by
  unfold rd; rw [h]

theorem readAt_whole (m : Memref sig p.kind sp s e) (σ : St sig Val p) : m.view.readAt Val (.whole s) (σ m.view.ref) = rd m σ := by
  funext x
  refine congrArg (rd m σ) (funext fun a => Fin.ext ?_)
  show 0 + 1 * (x a).val = (x a).val
  omega

theorem rd_put_whole (m : Memref sig p.kind sp s e) (σ : St sig Val p) (w : s.Idx → Val e) :
    rd m (put σ m.view.ref ((m.access (.whole s)).write Val (σ m.view.ref) w Finset.univ)) = w := by
  unfold rd
  rw [put_same]
  funext x
  have h := congrFun (View.read_write_univ (v := m.access (.whole s)) (Val := Val) (σ m.view.ref) w) x
  refine Eq.trans (congrArg (View.read Val m.view _) (funext fun a => Fin.ext ?_)) h
  show (x a).val = 0 + 1 * (x a).val
  omega

theorem readAt_unit1 {N L : Nat} [NeZero N] (m : Memref sig p.kind sp (V1 N) e) (σ : St sig Val p) (off : Fin 1 → Nat)
    (h : ∀ a, off a + (V1 L).size a ≤ (V1 N).size a) (x : (V1 L).Idx) :
    m.view.readAt Val (Rect.unit (s := V1 N) off (V1 L).size h).toLoadRect (σ m.view.ref) x = at1 (rd m σ) (off 0 + wd x) := by
  refine congrArg (rd m σ) (wd_ext ?_)
  have h0 : off 0 + L ≤ N := h 0
  have := wd_lt x
  rw [wd_ix1 _ (by omega)]
  show off 0 + 1 * (x 0).val = off 0 + wd x
  unfold wd; omega

/-- The contents agree off some buffers. -/
def Same (T : Finset (Ref sig p.kind)) (σ σ' : St sig Val p) : Prop := ∀ b, b ∉ T → σ' b = σ b

theorem Same.refl (T : Finset (Ref sig p.kind)) (σ : St sig Val p) : Same T σ σ := fun _ _ => rfl

theorem Same.trans {T : Finset (Ref sig p.kind)} {σ σ' σ'' : St sig Val p} (h : Same T σ σ') (h' : Same T σ' σ'') : Same T σ σ'' :=
  fun b hb => (h' b hb).trans (h b hb)

theorem Same.mono {T T' : Finset (Ref sig p.kind)} {σ σ' : St sig Val p} (h : Same T σ σ') (hT : T ⊆ T') : Same T' σ σ' :=
  fun b hb => h b fun hb' => hb (hT hb')

theorem Same.put {T : Finset (Ref sig p.kind)} {σ σ' : St sig Val p} (h : Same T σ σ') {b : Ref sig p.kind} (hb : b ∈ T) (f : b.ty.Contents Val) :
    Same T σ (put σ' b f) := fun b' hb' => (put_other σ' f fun (he : b' = b) => hb' (by rw [he]; exact hb)).trans (h b' hb')

theorem Same.rd {T : Finset (Ref sig p.kind)} {σ σ' : St sig Val p} (h : Same T σ σ') {m : Memref sig p.kind sp s e} (hm : m.view.ref ∉ T) :
    rd m σ' = rd m σ := rd_congr (h _ hm)

theorem rd_put_ne {sp' : Space} {s' : Shape} {e' : EltTy} {m : Memref sig p.kind sp s e} (m' : Memref sig p.kind sp' s' e') (σ : St sig Val p)
    (hne : m.view.ref ≠ m'.view.ref) (f : m'.view.ref.ty.Contents Val) : Local.rd m (Local.put σ m'.view.ref f) = Local.rd m σ :=
  rd_congr (put_other σ f hne)

end Mem

end Cert.Proof.Local

end
-- ==== Proof.Row.lean ====
/- One row of a tile's persistence build, written once: the loads of the row's sixteen pairs of chunks, then per chunk
   the scatter of the differences, their maximum and its lowest lane. -/
module

public import proofs.«01_k».proof.Proof.Local
public import proofs.«01_k».proof.Proof.Gen.KernelIdeal

@[expose] public section

noncomputable section

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F]

abbrev TP (p : Proc τ) (α : Type) : Type 1 := Prog (TpuEff nD τ sig (Elt F) Λ₀ p) α

/-- Every word of a vector of words names an element of a buffer of `n`. -/
def InB (s : Shape) (v : Fin s.rank → IVec S16 32) : Prop := ∀ a x, (v a x).toNat < s.size a

/-- The maximum of the sixteen lanes, folded from lane 0. -/
def cmOf (v : FVec F S16 .f32) : F .f32 :=
  have e0 : F .f32 := extractAt ![0] (extractStridedSlice S1 ![0] v slices_S16_o0_S1) inpos_S1_p0
  have e1 : F .f32 := extractAt ![0] (extractStridedSlice S1 ![1] v slices_S16_o1_S1) inpos_S1_p0
  have e2 : F .f32 := extractAt ![0] (extractStridedSlice S1 ![2] v slices_S16_o2_S1) inpos_S1_p0
  have e3 : F .f32 := extractAt ![0] (extractStridedSlice S1 ![3] v slices_S16_o3_S1) inpos_S1_p0
  have e4 : F .f32 := extractAt ![0] (extractStridedSlice S1 ![4] v slices_S16_o4_S1) inpos_S1_p0
  have e5 : F .f32 := extractAt ![0] (extractStridedSlice S1 ![5] v slices_S16_o5_S1) inpos_S1_p0
  have e6 : F .f32 := extractAt ![0] (extractStridedSlice S1 ![6] v slices_S16_o6_S1) inpos_S1_p0
  have e7 : F .f32 := extractAt ![0] (extractStridedSlice S1 ![7] v slices_S16_o7_S1) inpos_S1_p0
  have e8 : F .f32 := extractAt ![0] (extractStridedSlice S1 ![8] v slices_S16_o8_S1) inpos_S1_p0
  have e9 : F .f32 := extractAt ![0] (extractStridedSlice S1 ![9] v slices_S16_o9_S1) inpos_S1_p0
  have e10 : F .f32 := extractAt ![0] (extractStridedSlice S1 ![10] v slices_S16_o10_S1) inpos_S1_p0
  have e11 : F .f32 := extractAt ![0] (extractStridedSlice S1 ![11] v slices_S16_o11_S1) inpos_S1_p0
  have e12 : F .f32 := extractAt ![0] (extractStridedSlice S1 ![12] v slices_S16_o12_S1) inpos_S1_p0
  have e13 : F .f32 := extractAt ![0] (extractStridedSlice S1 ![13] v slices_S16_o13_S1) inpos_S1_p0
  have e14 : F .f32 := extractAt ![0] (extractStridedSlice S1 ![14] v slices_S16_o14_S1) inpos_S1_p0
  have e15 : F .f32 := extractAt ![0] (extractStridedSlice S1 ![15] v slices_S16_o15_S1) inpos_S1_p0
  (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf e0 e1) e2) e3) e4) e5) e6) e7) e8) e9) e10) e11) e12) e13) e14) e15)

/-- The lowest lane holding `cm` (15 where none does). -/
def amOf (v2 : IVec S16 32) (v : FVec F S16 .f32) (cm : F .f32) : BitVec 32 :=
  extractAt ![15] (xori (scan .min (xori (select (cmpf .oeq v (broadcast S16 cm)) v2 (broadcast S16 15#32)) (broadcast S16 2147483648#32))) (broadcast S16 2147483648#32)) inpos_S16_p15

variable {ci : grid1.Coords}

abbrev PR (i : grid1.Coords) : Proc τ := .scVector ((i 0).castLE hcore1) ((i 1).castLE hsub1)

/-- The offset of a row's chunk of births, and of deaths. -/
def bOff (r c1 c2 : BitVec 32) : Fin 1 → Nat := ![(Scalar.indexCast (Scalar.addi (Scalar.addi (Scalar.muli r 512#32) c1) c2)).toNat]
def dOff (r c1 c2 : BitVec 32) : Fin 1 → Nat := ![(Scalar.indexCast (Scalar.addi (Scalar.addi (Scalar.addi (Scalar.muli r 512#32) c1) c2) 128#32)).toNat]

def RowInb (r : BitVec 32) : Prop := ∀ (r₁ : Fin 2) (r₂ : Fin 8),
  (∀ a, bOff r (BitVec.ofNat 32 (256 * r₁.val)) (BitVec.ofNat 32 (16 * r₂.val)) a + S16.size a ≤ S8200.size a)
  ∧ (∀ a, dOff r (BitVec.ofNat 32 (256 * r₁.val)) (BitVec.ofNat 32 (16 * r₂.val)) a + S16.size a ≤ S8200.size a)

/-- The loads of the chunks `c`, `c + 1`, …, the first chunks' pairs first in the list handed on. -/
def loadsP (buf : Memref sig .scVector .vmem S8200 .f32) (r : BitVec 32) (hr : RowInb r) :
    List (Fin 2 × Fin 8) → (List (FVec F S16 .f32 × FVec F S16 .f32) → TP (F := F) (PR ci) PUnit) → TP (F := F) (PR ci) PUnit
  | [], k => k []
  | c :: cs, k =>
    .op (.load buf (Rect.unit (s := S8200) (bOff r (BitVec.ofNat 32 (256 * c.1.val)) (BitVec.ofNat 32 (16 * c.2.val))) S16.size (hr c.1 c.2).1).toLoadRect (View.loadsAt_vmem h_S16)) fun (b : Vec F S16 .f32) =>
    .op (.load buf (Rect.unit (s := S8200) (dOff r (BitVec.ofNat 32 (256 * c.1.val)) (BitVec.ofNat 32 (16 * c.2.val))) S16.size (hr c.1 c.2).2).toLoadRect (View.loadsAt_vmem h_S16)) fun (d : Vec F S16 .f32) =>
    loadsP buf r hr cs fun l => k ((b, d) :: l)

/-- One chunk: its differences into `pt`, their maximum and its lowest lane into `m` and `a`. -/
def chunkP (pt : Memref sig .scVector .vmem S4096 .f32) (m : Memref sig .scVector .vmem S256 .f32) (a : Memref sig .scVector .vmem S256 .i32)
    (r : BitVec 32) (v2 : IVec S16 32) (v6 : IVec S16 1) (addr : IVec S16 32) (c : Nat) (bd : FVec F S16 .f32 × FVec F S16 .f32)
    (k : TP (F := F) (PR ci) PUnit) : TP (F := F) (PR ci) PUnit :=
  .op (.assume (InB S4096 ![addi addr (broadcast S16 (BitVec.ofNat 32 (256 * c)))]) (Classical.propDecidable _)) fun h1 =>
  .op (.load pt (.whole S4096) (View.loadsAt_whole (View.loads_vmem h_S4096))) fun f =>
  .op (.store pt (.whole S4096) (storeIdx (F := F) (e := .f32) f ![addi addr (broadcast S16 (BitVec.ofNat 32 (256 * c)))] (subf bd.2 bd.1) (fun _ => 1#1) false h1.down) Finset.univ (View.stores_vmem_bits_univ h_S4096 rfl) (.inl rfl)) fun _ =>
  .op (.assume (InB S256 ![broadcast S16 (Scalar.addi (BitVec.ofNat 32 (16 * c)) r)] ∧ InB S256 ![broadcast S16 (Scalar.addi (BitVec.ofNat 32 (16 * c)) r)]) (Classical.propDecidable _)) fun h2 =>
  .op (.load m (.whole S256) (View.loadsAt_whole (View.loads_vmem h_S256))) fun f =>
  .op (.store m (.whole S256) (storeIdx (F := F) (e := .f32) f ![broadcast S16 (Scalar.addi (BitVec.ofNat 32 (16 * c)) r)] (broadcast S16 (cmOf (subf bd.2 bd.1))) v6 false h2.down.1) Finset.univ (View.stores_vmem_bits_univ h_S256 rfl) (.inl rfl)) fun _ =>
  .op (.load a (.whole S256) (View.loadsAt_whole (View.loads_vmem h_S256))) fun f =>
  .op (.store a (.whole S256) (storeIdx (F := F) (e := .i32) f ![broadcast S16 (Scalar.addi (BitVec.ofNat 32 (16 * c)) r)]
    (broadcast S16 (Scalar.addi (amOf v2 (subf bd.2 bd.1) (cmOf (subf bd.2 bd.1))) (BitVec.ofNat 32 (16 * c)))) v6 false h2.down.2) Finset.univ (View.stores_vmem_bits_univ h_S256 rfl) (.inl rfl)) fun _ =>
  k

def chunksP (pt : Memref sig .scVector .vmem S4096 .f32) (m : Memref sig .scVector .vmem S256 .f32) (a : Memref sig .scVector .vmem S256 .i32)
    (r : BitVec 32) (v2 : IVec S16 32) (v6 : IVec S16 1) (addr : IVec S16 32) :
    Nat → List (FVec F S16 .f32 × FVec F S16 .f32) → TP (F := F) (PR ci) PUnit
  | _, [] => .ret ⟨⟩
  | c, bd :: l => chunkP pt m a r v2 v6 addr c bd (chunksP pt m a r v2 v6 addr (c + 1) l)

/-- The chunks of a row, in the order they are loaded. -/
def chunkIx : List (Fin 2 × Fin 8) :=
  [(0, 0), (0, 1), (0, 2), (0, 3), (0, 4), (0, 5), (0, 6), (0, 7), (1, 0), (1, 1), (1, 2), (1, 3), (1, 4), (1, 5), (1, 6), (1, 7)]

def rowP (buf : Memref sig .scVector .vmem S8200 .f32) (pt : Memref sig .scVector .vmem S4096 .f32) (m : Memref sig .scVector .vmem S256 .f32)
    (a : Memref sig .scVector .vmem S256 .i32) (v2 : IVec S16 32) (v6 : IVec S16 1) (r : BitVec 32) (hr : RowInb r) : TP (F := F) (PR ci) PUnit :=
  loadsP buf r hr chunkIx fun l =>
    chunksP pt m a r v2 v6 (addi (muli v2 (broadcast S16 16#32)) (andi (addi (broadcast S16 r) v2) (broadcast S16 15#32))) 0 l

end Cert.Proof.Tile

end
-- ==== Proof.Select.lean ====
/- One selection, written once: the argmax over the sixteen chunk maxima, the selected point's birth and death, and the
   maintenance of the selected chunk; then a group's whole computation and the tile's body over them. -/
module

public import proofs.«01_k».proof.Proof.Row

@[expose] public section

noncomputable section

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F] {ci : grid1.Coords} {α : Type}

def nth {β : Type} (d : β) : List β → Nat → β
  | [], _ => d
  | b :: _, 0 => b
  | _ :: l, n + 1 => nth d l n

/-- The larger of two values, with its index; the first of two equal ones. -/
def pick (p q : FVec F S16 .f32 × IVec S16 32) : FVec F S16 .f32 × IVec S16 32 :=
  (select (cmpf .ogt q.1 p.1) q.1 p.1, select (cmpf .ogt q.1 p.1) q.2 p.2)

/-- The largest of sixteen values, with its index, by halves. -/
def tree (g : Nat → FVec F S16 .f32 × IVec S16 32) : FVec F S16 .f32 × IVec S16 32 :=
  pick (pick (pick (pick (g 0) (g 1)) (pick (g 2) (g 3))) (pick (pick (g 4) (g 5)) (pick (g 6) (g 7))))
    (pick (pick (pick (g 8) (g 9)) (pick (g 10) (g 11))) (pick (pick (g 12) (g 13)) (pick (g 14) (g 15))))

/-- The sixteen indices of a register's chunks. -/
def ix16 : List (Fin 16) := [0, 1, 2, 3, 4, 5, 6, 7, 8, 9, 10, 11, 12, 13, 14, 15]

theorem mInb (c : Fin 16) : ∀ a, (![16 * c.val] : Fin 1 → Nat) a + S16.size a ≤ S256.size a := by
  intro a; fin_cases a; have := c.isLt; simp; omega

def negV : FVec F S16 .f32 := broadcast S16 (Named.named κ "neg" 0xFF7FC99E#32)

/-- The loads of the chunk maxima. -/
def loadsM (m : Memref sig .scVector .vmem S256 .f32) :
    List (Fin 16) → (List (FVec F S16 .f32) → TP (F := F) (PR ci) α) → TP (F := F) (PR ci) α
  | [], k => k []
  | c :: cs, k =>
    .op (.load m (Rect.unit (s := S256) ![16 * c.val] S16.size (mInb c)).toLoadRect (View.loadsAt_vmem h_S16)) fun (b : Vec F S16 .f32) =>
    loadsM m cs fun l => k (b :: l)

/-- The index of the chunk with the largest maximum, from the maxima. -/
def cbOf (v3 : FVec F S16 .f32) (l : List (FVec F S16 .f32)) : IVec S16 32 :=
  (tree fun c => (nth v3 l c, broadcast S16 (BitVec.ofNat 32 c))).2

/-- The selected point's offset in the group's buffer. -/
def dbase (v2 ps : IVec S16 32) : IVec S16 32 :=
  addi (addi (muli v2 (broadcast S16 512#32)) (muli (shrsi ps (broadcast S16 7#32)) (broadcast S16 256#32))) (andi ps (broadcast S16 127#32))

/-- The selected chunk's first word, the selected point, its birth and its death. -/
def pickP (buf : Memref sig .scVector .vmem S8200 .f32) (m : Memref sig .scVector .vmem S256 .f32) (a : Memref sig .scVector .vmem S256 .i32)
    (v2 : IVec S16 32) (v3 : FVec F S16 .f32)
    (k : IVec S16 32 → IVec S16 32 → FVec F S16 .f32 → FVec F S16 .f32 → TP (F := F) (PR ci) α) : TP (F := F) (PR ci) α :=
  loadsM m ix16 fun l =>
  .op (.assume (InB S256 ![addi (muli (cbOf v3 l) (broadcast S16 16#32)) v2]) (Classical.propDecidable _)) fun h1 =>
  .op (.load a (.whole S256) (View.loadsAt_whole (View.loads_vmem h_S256))) fun f =>
  have ps : IVec S16 32 := loadIdx (F := F) (e := .i32) f ![addi (muli (cbOf v3 l) (broadcast S16 16#32)) v2] h1.down
  .op (.assume (InB S8200 ![dbase v2 ps]) (Classical.propDecidable _)) fun h2 =>
  .op (.load buf (.whole S8200) (View.loadsAt_whole (View.loads_vmem h_S8200))) fun f2 =>
  .op (.assume (InB S8200 ![addi (dbase v2 ps) (broadcast S16 128#32)]) (Classical.propDecidable _)) fun h3 =>
  .op (.load buf (.whole S8200) (View.loadsAt_whole (View.loads_vmem h_S8200))) fun f3 =>
  k (muli (cbOf v3 l) (broadcast S16 16#32)) ps (loadIdx (F := F) (e := .f32) f2 ![dbase v2 ps] h2.down)
    (loadIdx (F := F) (e := .f32) f3 ![addi (dbase v2 ps) (broadcast S16 128#32)] h3.down)

/-- The gathers of the selected chunk's points. -/
def gathersP (pt : Memref sig .scVector .vmem S4096 .f32) (b16 : IVec S16 32) (kv : Nat → IVec S16 32) :
    List (Fin 16) → (List (FVec F S16 .f32) → TP (F := F) (PR ci) α) → TP (F := F) (PR ci) α
  | [], k => k []
  | c :: cs, k =>
    .op (.assume (InB S4096 ![addi b16 (kv c.val)]) (Classical.propDecidable _)) fun h =>
    .op (.load pt (.whole S4096) (View.loadsAt_whole (View.loads_vmem h_S4096))) fun f =>
    gathersP pt b16 kv cs fun l => k (loadIdx (F := F) (e := .f32) f ![addi b16 (kv c.val)] h.down :: l)

def maintT (v3 : FVec F S16 .f32) (cb16 : IVec S16 32) (l : List (FVec F S16 .f32)) : FVec F S16 .f32 × IVec S16 32 :=
  tree fun j => (nth v3 l j, addi cb16 (broadcast S16 (BitVec.ofNat 32 j)))

def selectP (buf : Memref sig .scVector .vmem S8200 .f32) (pt : Memref sig .scVector .vmem S4096 .f32) (m : Memref sig .scVector .vmem S256 .f32)
    (a : Memref sig .scVector .vmem S256 .i32) (v2 : IVec S16 32) (v3 : FVec F S16 .f32) (kv : Nat → IVec S16 32)
    (k : FVec F S16 .f32 → FVec F S16 .f32 → TP (F := F) (PR ci) α) : TP (F := F) (PR ci) α :=
  pickP buf m a v2 v3 fun cb16 ps b d =>
  .op (.assume (InB S4096 ![addi (muli ps (broadcast S16 16#32)) (andi (addi v2 ps) (broadcast S16 15#32))]) (Classical.propDecidable _)) fun h =>
  .op (.load pt (.whole S4096) (View.loadsAt_whole (View.loads_vmem h_S4096))) fun f =>
  .op (.store pt (.whole S4096) (storeIdx (F := F) (e := .f32) f ![addi (muli ps (broadcast S16 16#32)) (andi (addi v2 ps) (broadcast S16 15#32))] v3
    (fun _ => 1#1) false h.down) Finset.univ (View.stores_vmem_bits_univ h_S4096 rfl) (.inl rfl)) fun _ =>
  gathersP pt (muli cb16 (broadcast S16 16#32)) kv ix16 fun l =>
  .op (.assume (InB S256 ![addi cb16 v2]) (Classical.propDecidable _)) fun h1 =>
  .op (.load m (.whole S256) (View.loadsAt_whole (View.loads_vmem h_S256))) fun f1 =>
  .op (.store m (.whole S256) (storeIdx (F := F) (e := .f32) f1 ![addi cb16 v2] (maintT v3 cb16 l).1 (fun _ => 1#1) false h1.down) Finset.univ
    (View.stores_vmem_bits_univ h_S256 rfl) (.inl rfl)) fun _ =>
  .op (.assume (InB S256 ![addi cb16 v2]) (Classical.propDecidable _)) fun h2 =>
  .op (.load a (.whole S256) (View.loadsAt_whole (View.loads_vmem h_S256))) fun f2 =>
  .op (.store a (.whole S256) (storeIdx (F := F) (e := .i32) f2 ![addi cb16 v2] (maintT v3 cb16 l).2 (fun _ => 1#1) false h2.down) Finset.univ
    (View.stores_vmem_bits_univ h_S256 rfl) (.inl rfl)) fun _ =>
  k b d

/-- A selected pair's contribution to the sum. -/
def accV (acc b1 d1 b2 d2 : FVec F S16 .f32) : FVec F S16 .f32 :=
  addf (addf acc (mulf (subf b1 b2) (subf b1 b2))) (mulf (subf d1 d2) (subf d1 d2))

section Group

variable (b1 b2 : Memref sig .scVector .vmem S8200 .f32) (p1 p2 : Memref sig .scVector .vmem S4096 .f32)
  (m1 : Memref sig .scVector .vmem S256 .f32) (a1 : Memref sig .scVector .vmem S256 .i32)
  (m2 : Memref sig .scVector .vmem S256 .f32) (a2 : Memref sig .scVector .vmem S256 .i32)
  (v2 : IVec S16 32) (v3 : FVec F S16 .f32) (v6 : IVec S16 1) (kv : Nat → IVec S16 32)

/-- A round of selections, the selected points removed. -/
def kstepP (acc : FVec F S16 .f32) : TP (F := F) (PR ci) (FVec F S16 .f32) :=
  selectP b1 p1 m1 a1 v2 v3 kv fun s1 t1 => selectP b2 p2 m2 a2 v2 v3 kv fun s2 t2 => .ret (accV acc s1 t1 s2 t2)

/-- The last round, nothing removed. -/
def lastP (acc : FVec F S16 .f32) (k : FVec F S16 .f32 → TP (F := F) (PR ci) α) : TP (F := F) (PR ci) α :=
  pickP b1 m1 a1 v2 v3 fun _ _ s1 t1 => pickP b2 m2 a2 v2 v3 fun _ _ s2 t2 => k (accV acc s1 t1 s2 t2)

theorem rowInb (k : Fin k1_t2_loop.trips) : RowInb (Scf.iv 0#32 1#32 k) := fun r₁ r₂ => ⟨k1_off4_inb k r₁ r₂, k1_off5_inb k r₁ r₂⟩

def buildP (b : Memref sig .scVector .vmem S8200 .f32) (p : Memref sig .scVector .vmem S4096 .f32) (m : Memref sig .scVector .vmem S256 .f32)
    (a : Memref sig .scVector .vmem S256 .i32) : TP (F := F) (PR ci) PUnit :=
  Scf.for 0#32 16#32 1#32 k1_t2_ok ⟨⟩ fun k _ => rowP b p m a v2 v6 (Scf.iv 0#32 1#32 k) (rowInb k)

def roundsP (acc : FVec F S16 .f32) : TP (F := F) (PR ci) (FVec F S16 .f32) :=
  Scf.for 0#32 9#32 1#32 k1_t4_ok acc fun _ acc => kstepP b1 b2 p1 p2 m1 a1 m2 a2 v2 v3 kv acc

/-- A group's computation, handing the sum on. -/
def computeP (acc : FVec F S16 .f32) (k : FVec F S16 .f32 → TP (F := F) (PR ci) α) : TP (F := F) (PR ci) α :=
  .bind (buildP v2 v6 b1 p1 m1 a1) fun _ => .bind (buildP v2 v6 b2 p2 m2 a2) fun _ =>
  .bind (roundsP b1 b2 p1 p2 m1 a1 m2 a2 v2 v3 kv acc) fun acc => lastP b1 b2 m1 a1 m2 a2 v2 v3 acc k

end Group

/-- The start of the copies of a group of both tables, and the wait for them. -/
def startP (t1 t2 : Memref sig .scVector .hbm S6291456 .f32) (b1 b2 : Memref sig .scVector .vmem S8200 .f32) (s : DmaSems sig S_)
    (off : Fin 1 → Nat) (h : ∀ a, off a + S8192.size a ≤ S6291456.size a) (k : TP (F := F) (PR ci) α) : TP (F := F) (PR ci) α :=
  .op (.enqueueDma (t1.slice (Rect.unit (s := S6291456) off S8192.size h) (fun _ => rfl))
    (.here (b1.slice (Rect.unit (s := S8200) ![0] S8192.size inb_S8200_S8192_0) (fun _ => rfl))) (.dma s.sem) (View.wordExact_bits rfl) (View.wordExact_bits rfl) ⟨Or.inl rfl, trivial⟩) fun _ =>
  .op (.enqueueDma (t2.slice (Rect.unit (s := S6291456) off S8192.size h) (fun _ => rfl))
    (.here (b2.slice (Rect.unit (s := S8200) ![0] S8192.size inb_S8200_S8192_0) (fun _ => rfl))) (.dma s.sem) (View.wordExact_bits rfl) (View.wordExact_bits rfl) ⟨Or.inl rfl, trivial⟩) fun _ =>
  k

def awaitP (t1 t2 : Memref sig .scVector .hbm S6291456 .f32) (b1 b2 : Memref sig .scVector .vmem S8200 .f32) (s : DmaSems sig S_)
    (off : Fin 1 → Nat) (h : ∀ a, off a + S8192.size a ≤ S6291456.size a) (k : TP (F := F) (PR ci) α) : TP (F := F) (PR ci) α :=
  .op (.waitDma2 s.sem (t1.slice (Rect.unit (s := S6291456) off S8192.size h) (fun _ => rfl))
    (b1.slice (Rect.unit (s := S8200) ![0] S8192.size inb_S8200_S8192_0) (fun _ => rfl)) (View.wordExact_bits rfl) (View.wordExact_bits rfl)) fun _ =>
  .op (.waitDma2 s.sem (t2.slice (Rect.unit (s := S6291456) off S8192.size h) (fun _ => rfl))
    (b2.slice (Rect.unit (s := S8200) ![0] S8192.size inb_S8200_S8192_0) (fun _ => rfl)) (View.wordExact_bits rfl) (View.wordExact_bits rfl)) fun _ =>
  k

/-- The lanes' numbers, the mask of lane 0, and where the `j`-th point of a chunk lies from the chunk's first word. -/
def laneV : IVec S16 32 := iota .scVector S16 32 [0] iota_S16_d0_w32_scVector
def mask0 : IVec S16 1 := cmpi .eq laneV (broadcast S16 0#32)
def kvec (j : Nat) : IVec S16 32 := addi (broadcast S16 (BitVec.ofNat 32 (16 * j))) (andi (addi laneV (broadcast S16 (BitVec.ofNat 32 j))) (broadcast S16 15#32))
def kvL (kv : Nat → IVec S16 32) : List (IVec S16 32) :=
  [kv 0, kv 1, kv 2, kv 3, kv 4, kv 5, kv 6, kv 7, kv 8, kv 9, kv 10, kv 11, kv 12, kv 13, kv 14, kv 15]

section Body

variable (i : grid1.Coords) (t1 t2 : Memref sig .scVector .hbm S6291456 .f32) (out : Memref sig .scVector .hbm S32x16 .f32)
  (b1a b2a b1b b2b : Memref sig .scVector .vmem S8200 .f32) (p1 p2 : Memref sig .scVector .vmem S4096 .f32)
  (m1 : Memref sig .scVector .vmem S256 .f32) (a1 : Memref sig .scVector .vmem S256 .i32)
  (m2 : Memref sig .scVector .vmem S256 .f32) (a2 : Memref sig .scVector .vmem S256 .i32)
  (acv : Memref sig .scVector .vmem S16 .f32) (hacv : acv.IsWhole) (sa sb sc : DmaSems sig S_)

/-- A trip: a pair of groups. -/
def pairP (k : Fin k1_t1_loop.trips) (acc : FVec F S16 .f32) : TP (F := F) (PR i) (FVec F S16 .f32) :=
  startP t1 t2 b1b b2b sb (k1_off2 i k) (k1_off2_inb i k) <|
  awaitP t1 t2 b1a b2a sa (k1_off3 i) (k1_off3_inb i) <|
  computeP b1a b2a p1 p2 m1 a1 m2 a2 laneV negV mask0 (nth laneV (kvL kvec)) acc fun acc =>
  startP t1 t2 b1a b2a sa (k1_off8 i k) (k1_off8_inb i k) <|
  awaitP t1 t2 b1b b2b sb (k1_off9 i) (k1_off9_inb i) <|
  computeP b1b b2b p1 p2 m1 a1 m2 a2 laneV negV mask0 (nth laneV (kvL kvec)) acc .ret

def tailP (acc : FVec F S16 .f32) : TP (F := F) (PR i) PUnit :=
  awaitP t1 t2 b1a b2a sa (k1_off14 i) (k1_off14_inb i) <|
  .op (.load acv (Rect.unit (s := S16) ![0] S16.size inb_S16_S16_0).toLoadRect (View.loadsAt_vmem h_S16)) fun _ =>
  .op (.store acv (Rect.unit (s := S16) ![0] S16.size inb_S16_S16_0) acc Finset.univ (View.stores_vmem_bits_univ h_S16 rfl) (.inl rfl)) fun _ =>
  .op (.enqueueDma acv (.here ((out.slice (Rect.unit (s := S32x16) (k1_off15 i) S1x16.size (k1_off15_inb i)) (fun _ => rfl)).squeeze S16 squeezes_S1x16_S16))
    (.dma sc.sem) hacv.wordExact ((View.wordExact_bits rfl).reshape _ _) ⟨Or.inl rfl, trivial⟩) fun _ =>
  .op (.waitDma2 sc.sem acv ((out.slice (Rect.unit (s := S32x16) (k1_off15 i) S1x16.size (k1_off15_inb i)) (fun _ => rfl)).squeeze S16 squeezes_S1x16_S16)
    hacv.wordExact ((View.wordExact_bits rfl).reshape _ _)) fun _ =>
  .ret ⟨⟩

def bodyP : TP (F := F) (PR i) PUnit :=
  startP t1 t2 b1a b2a sa (k1_off1 i) (k1_off1_inb i) <|
  .bind (Scf.for 0#32 12#32 1#32 k1_t1_ok (broadcast S16 (Scalar.ofBits .f32 0x00000000#32) : FVec F S16 .f32)
    fun k acc => pairP i t1 t2 b1a b2a b1b b2b p1 p2 m1 a1 m2 a2 sa sb k acc) fun acc =>
  tailP i t1 t2 out b1a b2a acv hacv sa sc acc

end Body

end Cert.Proof.Tile

end
-- ==== Proof.Lane.lean ====
/- One row's selections, as plain functions: the row's points, its chunk maxima and where they lie, the largest of
   sixteen, a removal; and that a tile's lanes compute exactly these, each lane its own row. -/
module

public import proofs.«01_k».proof.Proof.Mem
public import proofs.«01_k».proof.Proof.Select

@[expose] public section

noncomputable section

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F]

/-! ## The row functions -/

/-- The larger of two values with what goes with it, the first where neither is larger. -/
def pickG {X : Type} (p q : F .f32 × X) : F .f32 × X := if FloatOps.cmpf .ogt q.1 p.1 = 1 then q else p

def treeG {X : Type} (g : Nat → F .f32 × X) : F .f32 × X :=
  pickG (pickG (pickG (pickG (g 0) (g 1)) (pickG (g 2) (g 3))) (pickG (pickG (g 4) (g 5)) (pickG (g 6) (g 7))))
    (pickG (pickG (pickG (g 8) (g 9)) (pickG (g 10) (g 11))) (pickG (pickG (g 12) (g 13)) (pickG (g 14) (g 15))))

/-- The largest of sixteen values and its number. -/
def best (v : Nat → F .f32) : F .f32 × Nat := treeG fun c => (v c, c)

theorem pickG_or {X : Type} (p q : F .f32 × X) : pickG p q = p ∨ pickG p q = q := by
  unfold pickG; split <;> simp

theorem pickG_ind {X : Type} (C : F .f32 × X → Prop) {p q : F .f32 × X} (hp : C p) (hq : C q) : C (pickG p q) := by
  rcases pickG_or p q with h | h <;> rw [h] <;> assumption

theorem treeG_ind {X : Type} (C : F .f32 × X → Prop) {g : Nat → F .f32 × X} (h : ∀ c < 16, C (g c)) : C (treeG g) := by
  unfold treeG
  refine pickG_ind C (pickG_ind C (pickG_ind C (pickG_ind C ?_ ?_) (pickG_ind C ?_ ?_)) (pickG_ind C (pickG_ind C ?_ ?_) (pickG_ind C ?_ ?_)))
    (pickG_ind C (pickG_ind C (pickG_ind C ?_ ?_) (pickG_ind C ?_ ?_)) (pickG_ind C (pickG_ind C ?_ ?_) (pickG_ind C ?_ ?_))) <;>
    exact h _ (by omega)

theorem pickG_map {X Y : Type} (f : X → Y) (p q : F .f32 × X) :
    pickG (p.1, f p.2) (q.1, f q.2) = ((pickG p q).1, f (pickG p q).2) := by
  unfold pickG; split <;> rfl

theorem treeG_map {X Y : Type} (f : X → Y) (g : Nat → F .f32 × X) :
    treeG (fun c => ((g c).1, f (g c).2)) = ((treeG g).1, f (treeG g).2) := by
  unfold treeG; simp only [pickG_map]

theorem best_lt (v : Nat → F .f32) : (best v).2 < 16 := treeG_ind (fun p => p.2 < 16) fun _ h => h
theorem best_fst (v : Nat → F .f32) : (best v).1 = v (best v).2 := treeG_ind (fun p => p.1 = v p.2) fun _ _ => rfl

theorem treeG_congr {X : Type} {g g' : Nat → F .f32 × X} (h : ∀ c < 16, g c = g' c) : treeG g = treeG g' := by
  unfold treeG
  rw [h 0 (by omega), h 1 (by omega), h 2 (by omega), h 3 (by omega), h 4 (by omega), h 5 (by omega), h 6 (by omega), h 7 (by omega), h 8 (by omega),
    h 9 (by omega), h 10 (by omega), h 11 (by omega), h 12 (by omega), h 13 (by omega), h 14 (by omega), h 15 (by omega)]

theorem best_congr {v v' : Nat → F .f32} (h : ∀ c < 16, v c = v' c) : best v = best v' := treeG_congr fun c hc => by rw [h c hc]

/-- The sixteen values' maximum, folded from the first. -/
def cmN (v : Nat → F .f32) : F .f32 := (List.range 15).foldl (fun x l => Scalar.maximumf x (v (l + 1))) (v 0)

/-- Where a value first lies among sixteen (15 where nowhere). -/
def amN (v : Nat → F .f32) (cm : F .f32) : Nat :=
  (List.range 15).foldl (fun x l => min x (if FloatOps.cmpf .oeq (v (l + 1)) cm = 1 then l + 1 else 15))
    (if FloatOps.cmpf .oeq (v 0) cm = 1 then 0 else 15)

theorem foldl_congr {A B : Type} {f g : A → B → A} (l : List B) (h : ∀ b ∈ l, ∀ a, f a b = g a b) (a : A) : l.foldl f a = l.foldl g a := by
  induction l generalizing a with
  | nil => rfl
  | cons b l ih =>
    rw [List.foldl_cons, List.foldl_cons, h b (List.mem_cons_self ..)]
    exact ih (fun b' hb' => h b' (List.mem_cons_of_mem _ hb')) _

theorem cmN_congr {v v' : Nat → F .f32} (h : ∀ l < 16, v l = v' l) : cmN v = cmN v' := by
  unfold cmN
  rw [h 0 (by omega)]
  exact foldl_congr _ (fun l hl a => by rw [h (l + 1) (by have := List.mem_range.mp hl; omega)]) _

theorem amN_congr {v v' : Nat → F .f32} (h : ∀ l < 16, v l = v' l) (cm : F .f32) : amN v cm = amN v' cm := by
  unfold amN
  rw [h 0 (by omega)]
  exact foldl_congr _ (fun l hl a => by rw [h (l + 1) (by have := List.mem_range.mp hl; omega)]) _

/-- A row: its 256 points, the sixteen chunks' maxima and the points they are. -/
structure RowSt (F : FTy → Type) where
  P : Nat → F .f32
  M : Nat → F .f32
  A : Nat → Nat

/-- The births and deaths of row `r` of a group, in the group's buffer. -/
def pos (r n : Nat) : Nat := r * 512 + n / 128 * 256 + n % 128
def persN (B : Nat → F .f32) (r n : Nat) : F .f32 := FloatOps.subf (B (pos r n + 128)) (B (pos r n))

def initRow (B : Nat → F .f32) (r : Nat) : RowSt F where
  P := persN B r
  M c := cmN fun l => persN B r (16 * c + l)
  A c := 16 * c + amN (fun l => persN B r (16 * c + l)) (cmN fun l => persN B r (16 * c + l))

def RowSt.cb (st : RowSt F) : Nat := (best st.M).2

/-- The point a round selects. -/
def RowSt.sel (st : RowSt F) : Nat := st.A st.cb

/-- The row without the selected point, `neg` in its place. -/
def stepRow (neg : F .f32) (st : RowSt F) : RowSt F where
  P n := if n = st.sel then neg else st.P n
  M c := if c = st.cb then (best fun j => if 16 * st.cb + j = st.sel then neg else st.P (16 * st.cb + j)).1 else st.M c
  A c := if c = st.cb then 16 * st.cb + (best fun j => if 16 * st.cb + j = st.sel then neg else st.P (16 * st.cb + j)).2 else st.A c

/-- Both rows' removal, and the selected pair's contribution. -/
def accS (acc b1 d1 b2 d2 : F .f32) : F .f32 :=
  FloatOps.addf (FloatOps.addf acc (FloatOps.mulf (FloatOps.subf b1 b2) (FloatOps.subf b1 b2))) (FloatOps.mulf (FloatOps.subf d1 d2) (FloatOps.subf d1 d2))

structure PairSt (F : FTy → Type) where
  s1 : RowSt F
  s2 : RowSt F
  acc : F .f32

def contrib (B1 B2 : Nat → F .f32) (r : Nat) (p : PairSt F) : F .f32 :=
  accS p.acc (B1 (pos r p.s1.sel)) (B1 (pos r p.s1.sel + 128)) (B2 (pos r p.s2.sel)) (B2 (pos r p.s2.sel + 128))

def stepPair (neg : F .f32) (B1 B2 : Nat → F .f32) (r : Nat) (p : PairSt F) : PairSt F := ⟨stepRow neg p.s1, stepRow neg p.s2, contrib B1 B2 r p⟩

def pairAfter (neg : F .f32) (B1 B2 : Nat → F .f32) (r : Nat) (acc : F .f32) (n : Nat) : PairSt F :=
  (stepPair neg B1 B2 r)^[n] ⟨initRow B1 r, initRow B2 r, acc⟩

/-- A row's ten rounds. -/
def groupAcc (neg : F .f32) (B1 B2 : Nat → F .f32) (r : Nat) (acc : F .f32) : F .f32 := (pairAfter neg B1 B2 r acc 10).acc

/-- A row's points name points. -/
def Valid (st : RowSt F) : Prop := ∀ c < 16, st.A c / 16 = c

theorem amN_lt (v : Nat → F .f32) (cm : F .f32) : amN v cm < 16 := by
  unfold amN
  generalize List.range 15 = l
  have h0 : (if FloatOps.cmpf .oeq (v 0) cm = 1 then 0 else 15) < 16 := by split <;> omega
  generalize (if FloatOps.cmpf .oeq (v 0) cm = 1 then 0 else 15) = x at *
  induction l generalizing x with
  | nil => exact h0
  | cons a l ih => exact ih _ (Nat.lt_of_le_of_lt (Nat.min_le_left _ _) h0)

theorem valid_init (B : Nat → F .f32) (r : Nat) : Valid (initRow B r) := by
  intro c hc
  show (16 * c + amN _ _) / 16 = c
  have := amN_lt (fun l => persN B r (16 * c + l)) (cmN fun l => persN B r (16 * c + l)); omega

theorem valid_step {neg : F .f32} {st : RowSt F} (h : Valid st) : Valid (stepRow neg st) := by
  intro c hc
  show (if c = st.cb then _ else st.A c) / 16 = c
  split
  · next he =>
      have := best_lt fun j => if 16 * st.cb + j = st.sel then neg else st.P (16 * st.cb + j)
      omega
  · exact h c hc

theorem Valid.lt {st : RowSt F} (h : Valid st) {c : Nat} (hc : c < 16) : st.A c < 256 := by have := h c hc; omega
theorem RowSt.cb_lt (st : RowSt F) : st.cb < 16 := best_lt _
theorem Valid.sel_lt {st : RowSt F} (h : Valid st) : st.sel < 256 := h.lt st.cb_lt
theorem Valid.sel_div {st : RowSt F} (h : Valid st) : st.sel / 16 = st.cb := h _ st.cb_lt

theorem valid_pair (neg : F .f32) (B1 B2 : Nat → F .f32) (r : Nat) (acc : F .f32) (n : Nat) :
    Valid (pairAfter neg B1 B2 r acc n).s1 ∧ Valid (pairAfter neg B1 B2 r acc n).s2 := by
  induction n with
  | zero => exact ⟨valid_init _ _, valid_init _ _⟩
  | succ n ih =>
    unfold pairAfter
    rw [Function.iterate_succ_apply']
    exact ⟨valid_step ih.1, valid_step ih.2⟩

theorem persN_congr {B B' : Nat → F .f32} (h : ∀ n < 8192, B n = B' n) {r n : Nat} (hr : r < 16) (hn : n < 256) : persN B r n = persN B' r n := by
  unfold persN
  rw [h (pos r n + 128) (by unfold pos; omega), h (pos r n) (by unfold pos; omega)]

/-! ## The lanes -/

theorem pick_at (p q : FVec F S16 .f32 × IVec S16 32) (x : S16.Idx) :
    ((pick p q).1 x, (pick p q).2 x) = pickG (p.1 x, p.2 x) (q.1 x, q.2 x) := by
  show (Scalar.select (FloatOps.cmpf .ogt (q.1 x) (p.1 x)) (q.1 x) (p.1 x), Scalar.select (FloatOps.cmpf .ogt (q.1 x) (p.1 x)) (q.2 x) (p.2 x)) = _
  unfold pickG Scalar.select; split <;> rfl

theorem tree_at (g : Nat → FVec F S16 .f32 × IVec S16 32) (x : S16.Idx) :
    ((tree g).1 x, (tree g).2 x) = treeG fun c => ((g c).1 x, (g c).2 x) := by
  unfold tree treeG; simp only [pick_at]

theorem tree_best (v : Nat → FVec F S16 .f32) (ix : Nat → IVec S16 32) (x : S16.Idx) :
    (tree fun c => (v c, ix c)).1 x = (best fun c => v c x).1 ∧ (tree fun c => (v c, ix c)).2 x = ix (best fun c => v c x).2 x := by
  have h := tree_at (fun c => (v c, ix c)) x
  have h' := treeG_map (fun c => ix c x) fun c => (v c x, c)
  exact ⟨congrArg Prod.fst (h.trans h'), congrArg Prod.snd (h.trans h')⟩

theorem ext1 {X : Type} (k : Nat) (w : S16.Idx → X) (hk : k < 16) (h : S16.Slices ![k] S1) (h' : ∀ a, (![0] : Fin 1 → Nat) a < S1.size a) :
    extractAt ![0] (extractStridedSlice S1 ![k] w h) h' = at1 w k := by
  refine congrArg w (wd_ext ?_)
  rw [wd_ix1 _ hk]
  rfl

theorem cmOf_eq (w : FVec F S16 .f32) : cmOf w = cmN fun l => at1 w l := by
  unfold cmOf cmN
  rw [ext1 0 w (by omega), ext1 1 w (by omega), ext1 2 w (by omega), ext1 3 w (by omega), ext1 4 w (by omega), ext1 5 w (by omega), ext1 6 w (by omega),
    ext1 7 w (by omega), ext1 8 w (by omega), ext1 9 w (by omega), ext1 10 w (by omega), ext1 11 w (by omega), ext1 12 w (by omega), ext1 13 w (by omega),
    ext1 14 w (by omega), ext1 15 w (by omega)]
  rfl

theorem laneV_at (x : S16.Idx) : laneV x = BitVec.ofNat 32 (wd x) := by
  show BitVec.ofNat 32 (0 * 16 + (x 0).val) = _
  rw [Nat.zero_mul, Nat.zero_add]; rfl

theorem laneV_nat (x : S16.Idx) : (laneV x).toNat = wd x := by
  rw [laneV_at, BitVec.toNat_ofNat]
  have := wd_lt x; omega

theorem min_flip : ∀ a b : Fin 16, IntOp.minui (BitVec.ofNat 32 a.val ^^^ 2147483648#32) (BitVec.ofNat 32 b.val ^^^ 2147483648#32)
    = BitVec.ofNat 32 (min a.val b.val) ^^^ 2147483648#32 := by decide

theorem fold_flip (G : Nat → Nat) (hG : ∀ k < 16, G k < 16) (l : List (Fin 16)) (a : Nat) (ha : a < 16) :
    l.foldl (fun r k => IntOp.minui r (BitVec.ofNat 32 (G k.val) ^^^ 2147483648#32)) (BitVec.ofNat 32 a ^^^ 2147483648#32)
      = BitVec.ofNat 32 (l.foldl (fun r k => min r (G k.val)) a) ^^^ 2147483648#32 := by
  induction l generalizing a with
  | nil => rfl
  | cons k l ih =>
    rw [List.foldl_cons, List.foldl_cons, min_flip ⟨a, ha⟩ ⟨G k.val, hG _ k.isLt⟩]
    exact ih _ (Nat.lt_of_le_of_lt (Nat.min_le_left _ _) ha)

theorem scan_last (u : IVec S16 32) (z : Fin 16 → BitVec 32) (h : ∀ k : Fin 16, u (Shape.ofLane (d := ![16]) k) = z k) :
    scan .min u (fun a => ⟨(![15] : Fin 1 → Nat) a, inpos_S16_p15 a⟩) =
      ((List.finRange 16).filter fun k => decide (0 < k.val ∧ k.val ≤ 15)).foldl (fun r k => IntOp.minui r (z k)) (z 0) := by
  obtain rfl : (fun k : Fin 16 => u (Shape.ofLane (d := ![16]) k)) = z := funext h
  rfl

theorem fold_fin (g : Nat → Nat) : ((List.finRange 16).filter fun k => decide (0 < k.val ∧ k.val ≤ 15)).foldl (fun r k => min r (g k.val)) (g 0)
    = (List.range 15).foldl (fun x l => min x (g (l + 1))) (g 0) := by
  rw [show ((List.finRange 16).filter fun k => decide (0 < k.val ∧ k.val ≤ 15)) = (List.finRange 15).map Fin.succ by decide,
    show List.range 15 = (List.finRange 15).map (fun k => k.val) by decide, List.foldl_map, List.foldl_map]
  rfl

theorem amOf_nat (w : FVec F S16 .f32) (cm : F .f32) : (amOf laneV w cm).toNat = amN (fun l => at1 w l) cm := by
  let G : Nat → Nat := fun k => if FloatOps.cmpf .oeq (at1 w k) cm = 1 then k else 15
  have hG : ∀ k < 16, G k < 16 := fun k hk => by show (if _ then _ else _) < 16; split <;> omega
  have hv : ∀ k : Fin 16, xori (select (cmpf .oeq w (broadcast S16 cm)) laneV (broadcast S16 15#32)) (broadcast S16 2147483648#32) (Shape.ofLane (d := ![16]) k)
      = BitVec.ofNat 32 (G k.val) ^^^ 2147483648#32 := by
    intro k
    show Scalar.select (FloatOps.cmpf .oeq (w (Shape.ofLane (d := ![16]) k)) cm) (laneV (Shape.ofLane (d := ![16]) k)) 15#32 ^^^ 2147483648#32 = _
    rw [laneV_at, show (Shape.ofLane (d := ![16]) k : S16.Idx) = ix1 (N := 16) (by omega) k.val from ix1_ofLane (N := 16) _ k]
    show Scalar.select (FloatOps.cmpf .oeq (at1 w k.val) cm) (BitVec.ofNat 32 (k.val % 16)) 15#32 ^^^ _ = BitVec.ofNat 32 (if FloatOps.cmpf .oeq (at1 w k.val) cm = 1 then k.val else 15) ^^^ _
    rw [Nat.mod_eq_of_lt k.isLt]
    unfold Scalar.select; split <;> rfl
  have hs : amOf laneV w cm = BitVec.ofNat 32 (amN (fun l => at1 w l) cm) := by
    have hq := scan_last (xori (select (cmpf .oeq w (broadcast S16 cm)) laneV (broadcast S16 15#32)) (broadcast S16 2147483648#32)) (fun k => BitVec.ofNat 32 (G k.val) ^^^ 2147483648#32) hv
    have he : amOf laneV w cm = scan .min (xori (select (cmpf .oeq w (broadcast S16 cm)) laneV (broadcast S16 15#32)) (broadcast S16 2147483648#32))
      (fun a => ⟨(![15] : Fin 1 → Nat) a, inpos_S16_p15 a⟩) ^^^ 2147483648#32 := rfl
    rw [he, hq]
    rw [show (((0 : Fin 16) : Nat)) = 0 from rfl, fold_flip G hG _ _ (hG 0 (by omega)), BitVec.xor_assoc, BitVec.xor_self, BitVec.xor_zero]
    exact congrArg (BitVec.ofNat 32) (fold_fin G)
  rw [hs, BitVec.toNat_ofNat]
  have := amN_lt (fun l => at1 w l) cm; omega

/-! ## Words -/

theorem add_nat {a b : BitVec 32} (h : a.toNat + b.toNat < 2 ^ 32) : (IntOp.addi a b).toNat = a.toNat + b.toNat := by
  show (a + b).toNat = _; rw [BitVec.toNat_add]; exact Nat.mod_eq_of_lt h

theorem mul_nat {a b : BitVec 32} (h : a.toNat * b.toNat < 2 ^ 32) : (IntOp.muli a b).toNat = a.toNat * b.toNat := by
  show (a * b).toNat = _; rw [BitVec.toNat_mul]; exact Nat.mod_eq_of_lt h

theorem and15 (a : BitVec 32) : (IntOp.andi a 15#32).toNat = a.toNat % 16 := by
  show (a &&& 15#32).toNat = _; rw [BitVec.toNat_and]; exact Nat.and_two_pow_sub_one_eq_mod _ 4

theorem and127 (a : BitVec 32) : (IntOp.andi a 127#32).toNat = a.toNat % 128 := by
  show (a &&& 127#32).toNat = _; rw [BitVec.toNat_and]; exact Nat.and_two_pow_sub_one_eq_mod _ 7

theorem shr7 {a : BitVec 32} (h : a.toNat < 256) : (IntOp.shrsi .vector a 7#32).toNat = a.toNat / 128 := by
  show (if (7#32).toNat < 32 then a.sshiftRight' 7#32 else _).toNat = _
  rw [if_pos (by decide)]
  show (a.sshiftRight 7).toNat = _
  rw [BitVec.sshiftRight_eq_of_msb_false, BitVec.toNat_ushiftRight, Nat.shiftRight_eq_div_pow]
  rw [BitVec.msb_eq_decide]; simp; omega

theorem ofNat_nat {n : Nat} (h : n < 2 ^ 32) : (BitVec.ofNat 32 n).toNat = n := by rw [BitVec.toNat_ofNat]; exact Nat.mod_eq_of_lt h

end Cert.Proof.Tile

end
-- ==== Proof.Build.lean ====
/- The persistence build: after it, each row's points, chunk maxima and their places lie where the selections look for
   them. -/
module

public import proofs.«01_k».proof.Proof.Lane

@[expose] public section

noncomputable section

namespace Cert.Proof.Local

open Idealize.ShloMosaic Idealize.SL.Sem

variable {nD : Nat} {τ : Topo} {sig : RefSig} {Val : EltTy → Type} {Λ : Labels} {p : Proc τ} {c : CoreSpace} {s : Shape} {e : EltTy}
variable {S : Finset (Ref sig p.kind)} {α : Type} {σ : St sig Val p} {Q : α → St sig Val p → Prop}

theorem I_load {m : Memref sig p.kind c s e} {hl : m.view.LoadsAt (LoadRect.whole s)} {k : (s.Idx → Val e) → Prog (TpuEff nD τ sig Val Λ p) α}
    (h : m.view.ref ∈ S) (hk : I S (k (rd m σ)) σ Q) : I S (.op (.load m (.whole s) hl) k) σ Q :=
  ⟨h, by rw [readAt_whole]; exact hk⟩

theorem I_store {m : Memref sig p.kind c s e} {w : s.Idx → Val e} {h1 h2} {k : PUnit → Prog (TpuEff nD τ sig Val Λ p) α}
    (h : m.view.ref ∈ S) (hk : ∀ σ', Same {m.view.ref} σ σ' → rd m σ' = w → I S (k ⟨⟩) σ' Q) :
    I S (.op (.store m (.whole s) w Finset.univ h1 h2) k) σ Q :=
  ⟨h, hk _ ((Same.refl _ _).put (Finset.mem_singleton_self _) _) (rd_put_whole m σ w)⟩

theorem I_assume {P : Prop} {d : Decidable P} {k : PLift P → Prog (TpuEff nD τ sig Val Λ p) α} (h : P) (hk : I S (k ⟨h⟩) σ Q) :
    I S (.op (.assume P d) k) σ Q := ⟨h, hk⟩

end Cert.Proof.Local

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F] {ci : grid1.Coords} {S : Finset (Ref sig .scVector)}

abbrev TS (F : FTy → Type) (ci : grid1.Coords) : Type := St sig (Elt F) (PR ci)

/-- The buffers of one table's rows are the tile's own and distinct. -/
structure Side (S : Finset (Ref sig .scVector)) (b : Memref sig .scVector .vmem S8200 .f32) (pt : Memref sig .scVector .vmem S4096 .f32)
    (m : Memref sig .scVector .vmem S256 .f32) (a : Memref sig .scVector .vmem S256 .i32) : Prop where
  hb : b.view.ref ∈ S
  hp : pt.view.ref ∈ S
  hm : m.view.ref ∈ S
  ha : a.view.ref ∈ S
  bp : b.view.ref ≠ pt.view.ref
  bm : b.view.ref ≠ m.view.ref
  ba : b.view.ref ≠ a.view.ref
  pm : pt.view.ref ≠ m.view.ref
  pa : pt.view.ref ≠ a.view.ref
  ma : m.view.ref ≠ a.view.ref

section
variable (pt : Memref sig .scVector .vmem S4096 .f32) (m : Memref sig .scVector .vmem S256 .f32) (a : Memref sig .scVector .vmem S256 .i32)

/-- What a side's computation writes. -/
def TT : Finset (Ref sig .scVector) := {pt.view.ref, m.view.ref, a.view.ref}

def ptAt (σ : TS F ci) (r n : Nat) : F .f32 := at1 (N := 4096) (X := F .f32) (rd (p := PR ci) pt σ) (n * 16 + (r + n) % 16)
def mAt (σ : TS F ci) (r c : Nat) : F .f32 := at1 (N := 256) (X := F .f32) (rd (p := PR ci) m σ) (16 * c + r)
def aAt (σ : TS F ci) (r c : Nat) : Nat := (at1 (N := 256) (X := BitVec 32) (rd (p := PR ci) a σ) (16 * c + r)).toNat
end

def bAt (b : Memref sig .scVector .vmem S8200 .f32) (σ : TS F ci) (n : Nat) : F .f32 := at1 (N := 8200) (X := F .f32) (rd (p := PR ci) b σ) n

section
variable (pt : Memref sig .scVector .vmem S4096 .f32) (m : Memref sig .scVector .vmem S256 .f32) (a : Memref sig .scVector .vmem S256 .i32)

/-- The rows' states, in the buffers. -/
def Rep (st : Nat → RowSt F) (σ : TS F ci) : Prop :=
  ∀ r < 16, (∀ n < 256, ptAt pt σ r n = (st r).P n) ∧ ∀ c < 16, mAt m σ r c = (st r).M c ∧ aAt a σ r c = (st r).A c

/-- The rows before `R`, and row `R`'s chunks before `C`, are built. -/
def Built (B : Nat → F .f32) (R C : Nat) (σ : TS F ci) : Prop :=
  ∀ r < 16, (∀ n < 256, (r < R ∨ r = R ∧ n < 16 * C) → ptAt pt σ r n = (initRow B r).P n)
    ∧ ∀ c < 16, (r < R ∨ r = R ∧ c < C) → mAt m σ r c = (initRow B r).M c ∧ aAt a σ r c = (initRow B r).A c
end

section
variable {b : Memref sig .scVector .vmem S8200 .f32} {pt : Memref sig .scVector .vmem S4096 .f32}
  {m : Memref sig .scVector .vmem S256 .f32} {a : Memref sig .scVector .vmem S256 .i32}

theorem ptAt_congr {σ σ' : TS F ci} (h : rd (p := PR ci) pt σ' = rd (p := PR ci) pt σ) (r n : Nat) : ptAt pt σ' r n = ptAt pt σ r n := by
  unfold ptAt; rw [h]

theorem mAt_congr {σ σ' : TS F ci} (h : rd (p := PR ci) m σ' = rd (p := PR ci) m σ) (r n : Nat) : mAt m σ' r n = mAt m σ r n := by
  unfold mAt; rw [h]

theorem aAt_congr {σ σ' : TS F ci} (h : rd (p := PR ci) a σ' = rd (p := PR ci) a σ) (r n : Nat) : aAt a σ' r n = aAt a σ r n := by
  unfold aAt; rw [h]

theorem mask0_iff (x : S16.Idx) : mask0 x = 1 ↔ wd x = 0 := by
  show BitVec.ofBool (laneV x == 0#32) = 1 ↔ _
  have h := laneV_nat x
  constructor
  · intro he
    by_cases hx : laneV x = 0#32
    · rw [← h, hx]; rfl
    · rw [beq_eq_false_iff_ne.mpr hx] at he; exact absurd he (by decide)
  · intro he
    have : laneV x = 0#32 := BitVec.eq_of_toNat_eq (by rw [h, he]; rfl)
    rw [this]; rfl

def rowAddr (rb : BitVec 32) : IVec S16 32 :=
  addi (muli laneV (broadcast S16 16#32)) (andi (addi (broadcast S16 rb) laneV) (broadcast S16 15#32))

theorem addr_nat {rb : BitVec 32} (hR : rb.toNat < 16) {C : Nat} (hC : C < 16) (x : S16.Idx) :
    (addi (rowAddr rb) (broadcast S16 (BitVec.ofNat 32 (256 * C))) x).toNat
      = (16 * C + wd x) * 16 + (rb.toNat + (16 * C + wd x)) % 16 := by
  have hx := wd_lt x
  have hl := laneV_nat x
  have e1 : (IntOp.muli (laneV x) 16#32).toNat = wd x * 16 := by
    rw [mul_nat (by rw [hl]; show wd x * 16 < _; omega), hl]; rfl
  have e2 : (IntOp.andi (IntOp.addi rb (laneV x)) 15#32).toNat = (rb.toNat + wd x) % 16 := by
    rw [and15, add_nat (by rw [hl]; omega), hl]
  have e3 : (IntOp.addi (IntOp.muli (laneV x) 16#32) (IntOp.andi (IntOp.addi rb (laneV x)) 15#32)).toNat = wd x * 16 + (rb.toNat + wd x) % 16 := by
    rw [add_nat (by rw [e1, e2]; omega), e1, e2]
  have e4 : (BitVec.ofNat 32 (256 * C)).toNat = 256 * C := ofNat_nat (by omega)
  show (IntOp.addi (IntOp.addi (IntOp.muli (laneV x) 16#32) (IntOp.andi (IntOp.addi rb (laneV x)) 15#32)) (BitVec.ofNat 32 (256 * C))).toNat = _
  rw [add_nat (by rw [e3, e4]; omega), e3, e4]
  omega

theorem mix_nat {rb : BitVec 32} (hR : rb.toNat < 16) {C : Nat} (hC : C < 16) : (Scalar.addi (BitVec.ofNat 32 (16 * C)) rb).toNat = 16 * C + rb.toNat := by
  show (IntOp.addi _ _).toNat = _
  rw [add_nat (by rw [ofNat_nat (by omega)]; omega), ofNat_nat (by omega)]

theorem amix_nat {q : BitVec 32} (hq : q.toNat < 16) {C : Nat} (hC : C < 16) : (Scalar.addi q (BitVec.ofNat 32 (16 * C))).toNat = 16 * C + q.toNat := by
  show (IntOp.addi _ _).toNat = _
  rw [add_nat (by rw [ofNat_nat (by omega)]; omega), ofNat_nat (by omega), Nat.add_comm]

/-- One chunk of one row. -/
theorem chunk_spec (hS : Side S b pt m a) {B : Nat → F .f32} {rb : BitVec 32} (hR : rb.toNat < 16) {C : Nat} (hC : C < 16)
    {bd : FVec F S16 .f32 × FVec F S16 .f32} (hbd : ∀ x, subf bd.2 bd.1 x = persN B rb.toNat (16 * C + wd x)) {k : TP (F := F) (PR ci) PUnit} {σ : TS F ci}
    {Q : PUnit → TS F ci → Prop} (hI : Built pt m a B rb.toNat C σ)
    (hk : ∀ σ', Same (p := PR ci) (TT pt m a) σ σ' → Built pt m a B rb.toNat (C + 1) σ' → I (p := PR ci) S k σ' Q) :
    I (p := PR ci) S (chunkP pt m a rb laneV mask0 (rowAddr rb) C bd k) σ Q := by
  unfold chunkP
  have hv : ∀ l < 16, at1 (X := F .f32) (subf bd.2 bd.1) l = persN B rb.toNat (16 * C + l) := fun l hl =>
    (hbd _).trans (by rw [wd_ix1 _ hl])
  have hcm : cmOf (subf bd.2 bd.1) = cmN fun l => persN B rb.toNat (16 * C + l) := (cmOf_eq _).trans (cmN_congr hv)
  have hcmv : cmOf (subf bd.2 bd.1) = (initRow B rb.toNat).M C := hcm
  refine I_assume (fun a' x => ?_) (I_load hS.hp (I_store hS.hp fun σ1 s1 r1 => ?_))
  · rw [Fin.eq_zero a']
    show (addi (rowAddr rb) (broadcast S16 (BitVec.ofNat 32 (256 * C))) x).toNat < 4096
    rw [addr_nat hR hC]; have := wd_lt x; omega
  have hin : InB S256 ![broadcast S16 (Scalar.addi (BitVec.ofNat 32 (16 * C)) rb)] := fun a' x => by
    rw [Fin.eq_zero a']
    show (Scalar.addi (BitVec.ofNat 32 (16 * C)) rb).toNat < 256
    rw [mix_nat hR hC]; omega
  refine I_assume ⟨hin, hin⟩ (I_load hS.hm (I_store hS.hm fun σ2 s2 r2 => I_load hS.ha (I_store hS.ha fun σ3 s3 r3 => hk σ3 ?_ ?_)))
  · refine ((s1.mono ?_).trans (s2.mono ?_)).trans (s3.mono ?_) <;> intro z hz <;> unfold TT <;> simp_all
  have rp : rd (p := PR ci) pt σ3 = rd (p := PR ci) pt σ1 := by
    rw [s3.rd (by simpa using hS.pa), s2.rd (by simpa using hS.pm)]
  have rm : rd (p := PR ci) m σ3 = rd (p := PR ci) m σ2 := s3.rd (by simpa using hS.ma)
  have rm1 : rd (p := PR ci) m σ1 = rd (p := PR ci) m σ := s1.rd (by simpa using hS.pm.symm)
  have ra2 : rd (p := PR ci) a σ2 = rd (p := PR ci) a σ := by
    rw [s2.rd (by simpa using hS.ma.symm), s1.rd (by simpa using hS.pa.symm)]
  intro r hr
  refine ⟨fun n hn hd => ?_, fun c hc hd => ⟨?_, ?_⟩⟩
  · by_cases hh : r = rb.toNat ∧ 16 * C ≤ n
    · obtain ⟨rfl, hn'⟩ := hh
      have hlt : n - 16 * C < 16 := by omega
      have hx : wd (ix1 (N := 16) (by omega) (n - 16 * C)) = n - 16 * C := wd_ix1 _ hlt
      unfold ptAt
      rw [rp]
      refine (st_hit (F := F) r1 (ix1 (N := 16) (by omega) (n - 16 * C)) rfl ?_ fun y _ hy => ?_).trans ?_
      · refine (addr_nat hR hC _).trans ?_
        rw [hx]; omega
      · have hy' := (addr_nat hR hC y).symm.trans hy
        have := wd_lt y
        exact wd_ext (by rw [hx]; omega)
      · rw [hbd, hx, show 16 * C + (n - 16 * C) = n by omega]; rfl
    · refine Eq.trans ?_ ((hI r hr).1 n hn (by omega))
      unfold ptAt
      rw [rp]
      refine st_miss (F := F) r1 (by omega) fun x _ hx => ?_
      have hx' := (addr_nat hR hC x).symm.trans hx
      have := wd_lt x
      omega
  · by_cases hh : r = rb.toNat ∧ c = C
    · obtain ⟨rfl, rfl⟩ := hh
      unfold mAt
      rw [rm]
      refine (st_hit (F := F) r2 (ix1 (N := 16) (by omega) 0) ((mask0_iff _).mpr (wd_ix1 _ (by omega))) (mix_nat hR hC) fun y hy _ => ?_).trans hcmv
      exact wd_ext (by rw [(mask0_iff y).mp hy, wd_ix1 _ (by omega)])
    · refine Eq.trans ?_ ((hI r hr).2 c hc (by omega)).1
      unfold mAt
      rw [rm, ← rm1]
      refine st_miss (F := F) r2 (by omega) fun x _ hx => ?_
      have hx' := (mix_nat hR hC).symm.trans hx
      omega
  · by_cases hh : r = rb.toNat ∧ c = C
    · obtain ⟨rfl, rfl⟩ := hh
      have ham : (amOf laneV (subf bd.2 bd.1) (cmOf (subf bd.2 bd.1))).toNat
          = amN (fun l => persN B rb.toNat (16 * c + l)) (cmN fun l => persN B rb.toNat (16 * c + l)) := by
        rw [hcm, amOf_nat]; exact amN_congr hv _
      have h3 := st_hit (F := F) (e := .i32) r3 (ix1 (N := 16) (by omega) 0) ((mask0_iff _).mpr (wd_ix1 _ (by omega))) (mix_nat hR hC)
        fun y hy _ => wd_ext (by rw [(mask0_iff y).mp hy, wd_ix1 _ (by omega)])
      refine (congrArg BitVec.toNat h3).trans ?_
      refine (amix_nat (by rw [ham]; exact amN_lt _ _) hC).trans ?_
      rw [ham]; rfl
    · refine Eq.trans ?_ ((hI r hr).2 c hc (by omega)).2
      have h3 := st_miss (F := F) (e := .i32) r3 (n := 16 * c + r) (by omega) fun x _ hx => by
        have hx' := (mix_nat hR hC).symm.trans hx
        omega
      rw [ra2] at h3
      exact congrArg BitVec.toNat h3

theorem chunks_spec (hS : Side S b pt m a) {B : Nat → F .f32} {rb : BitVec 32} (hR : rb.toNat < 16) (l : List (FVec F S16 .f32 × FVec F S16 .f32)) :
    ∀ (C : Nat) (_ : C + l.length = 16) (_ : ∀ i (hi : i < l.length) x, subf (l[i]).2 (l[i]).1 x = persN B rb.toNat (16 * (C + i) + wd x)) (σ : TS F ci)
      (Q : PUnit → TS F ci → Prop), Built pt m a B rb.toNat C σ →
      (∀ σ', Same (p := PR ci) (TT pt m a) σ σ' → Built pt m a B rb.toNat 16 σ' → Q ⟨⟩ σ') →
      I (p := PR ci) S (chunksP pt m a rb laneV mask0 (rowAddr rb) C l) σ Q := by
  induction l with
  | nil =>
    intro C hC _ σ Q hI hk
    obtain rfl : C = 16 := hC
    exact hk σ (Same.refl _ _) hI
  | cons bd l ih =>
    intro C hC hl σ Q hI hk
    rw [List.length_cons] at hC
    refine chunk_spec hS hR (by omega) (fun x => hl 0 (by simp) x) hI fun σ' hs hI' => ?_
    refine ih (C + 1) (by omega) (fun i hi x => ?_) σ' Q hI' fun σ'' hs' => hk σ'' (hs.trans hs')
    have := hl (i + 1) (by simpa using hi) x
    rw [List.getElem_cons_succ] at this
    rw [this, show C + (i + 1) = C + 1 + i by omega]

/-! ## A row's loads, the rows -/

/-- The births and deaths of a chunk of row `r`. -/
def chB (b : Memref sig .scVector .vmem S8200 .f32) (σ : TS F ci) (r : Nat) (c : Fin 2 × Fin 8) : FVec F S16 .f32 × FVec F S16 .f32 :=
  (fun x => bAt b σ (r * 512 + 256 * c.1.val + 16 * c.2.val + wd x), fun x => bAt b σ (r * 512 + 256 * c.1.val + 16 * c.2.val + 128 + wd x))

theorem bOff_nat {rb : BitVec 32} (hR : rb.toNat < 16) (c : Fin 2 × Fin 8) :
    bOff rb (BitVec.ofNat 32 (256 * c.1.val)) (BitVec.ofNat 32 (16 * c.2.val)) 0 = rb.toNat * 512 + 256 * c.1.val + 16 * c.2.val := by
  have h1 := c.1.isLt
  have h2 := c.2.isLt
  show (IntOp.addi (IntOp.addi (IntOp.muli rb 512#32) _) _).toNat = _
  have e1 : (IntOp.muli rb 512#32).toNat = rb.toNat * 512 := mul_nat (by show rb.toNat * 512 < _; omega)
  have e2 : (BitVec.ofNat 32 (256 * c.1.val)).toNat = 256 * c.1.val := ofNat_nat (by omega)
  have e3 : (BitVec.ofNat 32 (16 * c.2.val)).toNat = 16 * c.2.val := ofNat_nat (by omega)
  have e4 := add_nat (a := IntOp.muli rb 512#32) (b := BitVec.ofNat 32 (256 * c.1.val)) (by omega)
  rw [add_nat (by omega)]; omega

theorem dOff_nat {rb : BitVec 32} (hR : rb.toNat < 16) (c : Fin 2 × Fin 8) :
    dOff rb (BitVec.ofNat 32 (256 * c.1.val)) (BitVec.ofNat 32 (16 * c.2.val)) 0 = rb.toNat * 512 + 256 * c.1.val + 16 * c.2.val + 128 := by
  have h1 := c.1.isLt
  have h2 := c.2.isLt
  have hb : (IntOp.addi (IntOp.addi (IntOp.muli rb 512#32) (BitVec.ofNat 32 (256 * c.1.val))) (BitVec.ofNat 32 (16 * c.2.val))).toNat = _ := bOff_nat hR c
  show (IntOp.addi (IntOp.addi (IntOp.addi (IntOp.muli rb 512#32) _) _) 128#32).toNat = _
  rw [add_nat (by rw [hb]; show _ + 128 < _; omega), hb]; rfl

theorem loads_spec (hb : b.view.ref ∈ S) {rb : BitVec 32} (hR : rb.toNat < 16) (hr : RowInb rb) {σ : TS F ci} {Q : PUnit → TS F ci → Prop} (l : List (Fin 2 × Fin 8)) :
    ∀ (k : List (FVec F S16 .f32 × FVec F S16 .f32) → TP (F := F) (PR ci) PUnit),
      I (p := PR ci) S (k (l.map (chB b σ rb.toNat))) σ Q → I (p := PR ci) S (loadsP b rb hr l k) σ Q := by
  induction l with
  | nil => intro k hk; exact hk
  | cons c l ih =>
    intro k hk
    refine ⟨hb, hb, ih _ ?_⟩
    have hB := funext (readAt_unit1 (Val := Elt F) (p := PR ci) (L := 16) b σ (bOff rb (BitVec.ofNat 32 (256 * c.1.val)) (BitVec.ofNat 32 (16 * c.2.val))) (hr c.1 c.2).1)
    have hD := funext (readAt_unit1 (Val := Elt F) (p := PR ci) (L := 16) b σ (dOff rb (BitVec.ofNat 32 (256 * c.1.val)) (BitVec.ofNat 32 (16 * c.2.val))) (hr c.1 c.2).2)
    rw [bOff_nat hR] at hB
    rw [dOff_nat hR] at hD
    refine Eq.mp (congrArg (fun z => I (p := PR ci) S (k (z :: l.map (chB b σ rb.toNat))) σ Q) ?_) hk
    exact Prod.ext hB.symm hD.symm

theorem row_spec (hS : Side S b pt m a) {rb : BitVec 32} (hR : rb.toNat < 16) (hr : RowInb rb) {B : Nat → F .f32} {σ : TS F ci} (hB : ∀ n, bAt b σ n = B n)
    {Q : PUnit → TS F ci → Prop} (hI : Built pt m a B rb.toNat 0 σ)
    (hk : ∀ σ', Same (p := PR ci) (TT pt m a) σ σ' → Built pt m a B (rb.toNat + 1) 0 σ' → Q ⟨⟩ σ') :
    I (p := PR ci) S (rowP b pt m a laneV mask0 rb hr) σ Q := by
  refine loads_spec hS.hb hR hr _ _ (chunks_spec hS hR (B := B) _ 0 rfl (fun i hi x => ?_) σ Q hI fun σ' hs hb' => hk σ' hs fun r hr' => ?_)
  · have hx := wd_lt x
    have hi' : i < 16 := hi
    rw [List.getElem_map]
    have hc : ∀ j : Fin 16, (chunkIx[j.val]'(j.isLt)).1.val * 8 + (chunkIx[j.val]'(j.isLt)).2.val = j.val := by decide
    have hci := hc ⟨i, hi'⟩
    dsimp only at hci
    generalize chunkIx[i] = c at hci ⊢
    have h1 := c.1.isLt
    have h2 := c.2.isLt
    show FloatOps.subf (bAt b σ _) (bAt b σ _) = FloatOps.subf (B _) (B _)
    rw [hB, hB]
    unfold pos
    refine congrArg₂ FloatOps.subf (congrArg B ?_) (congrArg B ?_) <;> omega
  · refine ⟨fun n hn hd => (hb' r hr').1 n hn (by omega), fun c hc hd => (hb' r hr').2 c hc (by omega)⟩

theorem bAt_same {T : Finset (Ref sig .scVector)} {σ σ' : TS F ci} (h : Same (p := PR ci) T σ σ') (hT : b.view.ref ∉ T) (n : Nat) : bAt b σ' n = bAt b σ n := by
  unfold bAt; rw [h.rd hT]

theorem Side.nb (hS : Side S b pt m a) : b.view.ref ∉ TT pt m a := by
  unfold TT; simp [hS.bp, hS.bm, hS.ba]

theorem iv_nat {k : Nat} (hk : k < 16) : (Scf.iv 0#32 1#32 k).toNat = k := by
  show (0#32 + BitVec.ofNat 32 k * 1#32).toNat = k
  rw [BitVec.mul_one, BitVec.zero_add]; exact ofNat_nat (by omega)

theorem build_spec (hS : Side S b pt m a) {B : Nat → F .f32} {σ : TS F ci} (hB : ∀ n, bAt b σ n = B n)
    {Q : PUnit → TS F ci → Prop} (hk : ∀ σ', Same (p := PR ci) (TT pt m a) σ σ' → Rep pt m a (initRow B) σ' → Q ⟨⟩ σ') :
    I (p := PR ci) S (buildP laneV mask0 b pt m a) σ Q := by
  have ht : Scf.trips 0#32 16#32 1#32 = 16 := by decide
  refine I_for (fun n _ σ' => Same (p := PR ci) (TT pt m a) σ σ' ∧ Built pt m a B n 0 σ') ⟨Same.refl _ _, fun r hr => ?_⟩ (fun k x σ' h => ?_) (fun x σ' h => ?_)
  · exact ⟨fun n _ h => by omega, fun c _ h => by omega⟩
  · have hk16 : k.val < 16 := Nat.lt_of_lt_of_eq k.isLt ht
    refine row_spec hS (by rw [iv_nat hk16]; exact hk16) _ (fun n => (bAt_same h.1 hS.nb n).trans (hB n)) (by rw [iv_nat hk16]; exact h.2) fun σ'' hs hb' => ⟨h.1.trans hs, ?_⟩
    rw [iv_nat hk16] at hb'; exact hb'
  · rw [ht] at h
    exact hk σ' h.1 fun r hr => ⟨fun n hn => (h.2 r hr).1 n hn (by omega), fun c hc => (h.2 r hr).2 c hc (by omega)⟩

end

end Cert.Proof.Tile

end
-- ==== Proof.Rounds.lean ====
/- A round of selections: each lane takes its own row's largest point, and leaves its row without it. -/
module

public import proofs.«01_k».proof.Proof.Build

@[expose] public section

noncomputable section

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F] {ci : grid1.Coords} {S : Finset (Ref sig .scVector)} {α : Type}
variable {b : Memref sig .scVector .vmem S8200 .f32} {pt : Memref sig .scVector .vmem S4096 .f32}
  {m : Memref sig .scVector .vmem S256 .f32} {a : Memref sig .scVector .vmem S256 .i32}

theorem I_val {p : Proc τ} {T : Finset (Ref sig p.kind)} {β : Type} {σ : St sig (Elt F) p} {Q : α → St sig (Elt F) p → Prop} {k : β → TP (F := F) p α} {v w : β} (h : v = w)
    (hk : I T (k w) σ Q) : I T (k v) σ Q := by rw [h]; exact hk

/-- The value a removed point gets. -/
def negF : F .f32 := Named.named κ "neg" 0xFF7FC99E#32

theorem nth_ix16 {β : Type} (d : β) (g : Fin 16 → β) (c : Fin 16) : nth d (ix16.map g) c.val = g c := by
  fin_cases c <;> rfl

theorem loadsM_spec (hm : m.view.ref ∈ S) {σ : TS F ci} {Q : α → TS F ci → Prop} (l : List (Fin 16)) :
    ∀ (k : List (FVec F S16 .f32) → TP (F := F) (PR ci) α),
      I (p := PR ci) S (k (l.map fun c x => mAt m σ (wd x) c.val)) σ Q → I (p := PR ci) S (loadsM m l k) σ Q := by
  induction l with
  | nil => intro k hk; exact hk
  | cons c l ih =>
    intro k hk
    refine ⟨hm, ih _ ?_⟩
    have hM := funext (readAt_unit1 (Val := Elt F) (p := PR ci) (L := 16) m σ ![16 * c.val] (mInb c))
    refine Eq.mp (congrArg (fun z => I (p := PR ci) S (k (z :: l.map fun c x => mAt m σ (wd x) c.val)) σ Q) ?_) hk
    exact hM.symm

theorem cbOf_nat {v3 : FVec F S16 .f32} {st : Nat → RowSt F} {σ : TS F ci} (h : Rep pt m a st σ) (x : S16.Idx) :
    cbOf v3 (ix16.map fun c x => mAt m σ (wd x) c.val) x = BitVec.ofNat 32 (st (wd x)).cb := by
  have hx := wd_lt x
  refine (tree_best _ (fun c => broadcast S16 (BitVec.ofNat 32 c)) x).2.trans ?_
  show BitVec.ofNat 32 (best _).2 = BitVec.ofNat 32 (best _).2
  refine congrArg (fun q : F .f32 × Nat => BitVec.ofNat 32 q.2) (best_congr (F := F) fun c hc => ?_)
  exact (congrFun (nth_ix16 v3 (fun (c : Fin 16) (x : S16.Idx) => mAt (F := F) (ci := ci) m σ (wd x) c.val) ⟨c, hc⟩) x).trans ((h _ hx).2 c hc).1

theorem maintT_at (v3 : FVec F S16 .f32) (cb16 : IVec S16 32) (l : List (FVec F S16 .f32)) (x : S16.Idx) :
    (maintT v3 cb16 l).1 x = (best fun j => nth v3 l j x).1
      ∧ (maintT v3 cb16 l).2 x = IntOp.addi (cb16 x) (BitVec.ofNat 32 (best fun j => nth v3 l j x).2) := by
  have h := tree_best (fun j => nth v3 l j) (fun j => addi cb16 (broadcast S16 (BitVec.ofNat 32 j))) x
  exact ⟨h.1, h.2⟩

theorem inB1 {N : Nat} {v : IVec S16 32} (h : ∀ x, (v x).toNat < N) : InB (V1 N) ![v] := fun a x => by rw [Fin.eq_zero a]; exact h x

attribute [local irreducible] cbOf maintT

theorem dbase_nat {ps : IVec S16 32} {x : S16.Idx} (h : (ps x).toNat < 256) : (dbase laneV ps x).toNat = pos (wd x) (ps x).toNat := by
  have hx := wd_lt x
  have hl := laneV_nat x
  have e1 : (IntOp.muli (laneV x) 512#32).toNat = wd x * 512 := (mul_nat (by rw [hl]; show wd x * 512 < _; omega)).trans (by rw [hl]; rfl)
  have e2 := shr7 h
  have e3 : (IntOp.muli (IntOp.shrsi .vector (ps x) 7#32) 256#32).toNat = (ps x).toNat / 128 * 256 :=
    (mul_nat (by rw [e2]; show (ps x).toNat / 128 * 256 < _; omega)).trans (by rw [e2]; rfl)
  have e4 := and127 (ps x)
  have e5 := add_nat (a := IntOp.muli (laneV x) 512#32) (b := IntOp.muli (IntOp.shrsi .vector (ps x) 7#32) 256#32) (by omega)
  show (IntOp.addi (IntOp.addi (IntOp.muli (laneV x) 512#32) (IntOp.muli (IntOp.shrsi .vector (ps x) 7#32) 256#32)) (IntOp.andi (ps x) 127#32)).toNat = _
  rw [add_nat (by omega)]
  unfold pos
  omega

/-- What follows the choice of the points, -/
def pickTail (b : Memref sig .scVector .vmem S8200 .f32) (k : IVec S16 32 → IVec S16 32 → FVec F S16 .f32 → FVec F S16 .f32 → TP (F := F) (PR ci) α)
    (cb16 ps : IVec S16 32) : TP (F := F) (PR ci) α :=
  .op (.assume (InB S8200 ![dbase laneV ps]) (Classical.propDecidable _)) fun h2 =>
  .op (.load b (.whole S8200) (View.loadsAt_whole (View.loads_vmem h_S8200))) fun f2 =>
  .op (.assume (InB S8200 ![addi (dbase laneV ps) (broadcast S16 128#32)]) (Classical.propDecidable _)) fun h3 =>
  .op (.load b (.whole S8200) (View.loadsAt_whole (View.loads_vmem h_S8200))) fun f3 =>
  k cb16 ps (loadIdx (F := F) (e := .f32) f2 ![dbase laneV ps] h2.down)
    (loadIdx (F := F) (e := .f32) f3 ![addi (dbase laneV ps) (broadcast S16 128#32)] h3.down)

/-- and the choice of the chunks. -/
def pickMid (b : Memref sig .scVector .vmem S8200 .f32) (a : Memref sig .scVector .vmem S256 .i32)
    (k : IVec S16 32 → IVec S16 32 → FVec F S16 .f32 → FVec F S16 .f32 → TP (F := F) (PR ci) α) (cb : IVec S16 32) : TP (F := F) (PR ci) α :=
  .op (.assume (InB S256 ![addi (muli cb (broadcast S16 16#32)) laneV]) (Classical.propDecidable _)) fun h1 =>
  .op (.load a (.whole S256) (View.loadsAt_whole (View.loads_vmem h_S256))) fun f =>
  pickTail b k (muli cb (broadcast S16 16#32)) (loadIdx (F := F) (e := .i32) f ![addi (muli cb (broadcast S16 16#32)) laneV] h1.down)

theorem tail_spec (hb : b.view.ref ∈ S) {sel : Nat → Nat} (hs : ∀ r, sel r < 256) {σ : TS F ci} {Q : α → TS F ci → Prop}
    {k : IVec S16 32 → IVec S16 32 → FVec F S16 .f32 → FVec F S16 .f32 → TP (F := F) (PR ci) α} {cb16 ps : IVec S16 32} (e3 : ∀ x, (ps x).toNat = sel (wd x))
    (hk : ∀ bb dd, (∀ x, bb x = bAt b σ (pos (wd x) (sel (wd x)))) → (∀ x, dd x = bAt b σ (pos (wd x) (sel (wd x)) + 128)) → I (p := PR ci) S (k cb16 ps bb dd) σ Q) :
    I (p := PR ci) S (pickTail b k cb16 ps) σ Q := by
  have hlt : ∀ x : S16.Idx, (ps x).toNat < 256 := fun x => by rw [e3]; exact hs _
  have hp : ∀ x : S16.Idx, pos (wd x) (sel (wd x)) < 8064 := fun x => by
    have := hs (wd x)
    have hx := wd_lt x
    unfold pos; omega
  have e4 : ∀ x : S16.Idx, (dbase laneV ps x).toNat = pos (wd x) (sel (wd x)) := fun x => by rw [dbase_nat (hlt x), e3]
  have e5 : ∀ x : S16.Idx, (addi (dbase laneV ps) (broadcast S16 128#32) x).toNat = pos (wd x) (sel (wd x)) + 128 := fun x => by
    have := hp x
    show (IntOp.addi (dbase laneV ps x) 128#32).toNat = _
    rw [add_nat (by rw [e4]; show _ + 128 < _; omega), e4]; rfl
  have h4 : InB S8200 ![dbase laneV ps] := inB1 fun x => by
    have := hp x
    rw [e4 x]; omega
  have h5 : InB S8200 ![addi (dbase laneV ps) (broadcast S16 128#32)] := inB1 fun x => by
    have := hp x
    rw [e5 x]; omega
  refine I_assume h4 (I_load hb (I_assume h5 (I_load hb ?_)))
  refine hk _ _ (fun x => (loadIdx_at (F := F) (e := .f32) _ _ h4 x).trans ?_) (fun x => (loadIdx_at (F := F) (e := .f32) _ _ h5 x).trans ?_)
  · exact congrArg (bAt b σ) (e4 x)
  · exact congrArg (bAt b σ) (e5 x)

theorem lane16_nat {cb16 : IVec S16 32} {cb : Nat → Nat} (hc : ∀ r, cb r < 16) (e1 : ∀ x, (cb16 x).toNat = 16 * cb (wd x)) (x : S16.Idx) :
    (addi cb16 laneV x).toNat = 16 * cb (wd x) + wd x := by
  have hc := hc (wd x)
  have hx := wd_lt x
  show (IntOp.addi (cb16 x) (laneV x)).toNat = _
  rw [add_nat (by rw [e1, laneV_nat]; omega), e1, laneV_nat]

theorem lane16_in {cb16 : IVec S16 32} {cb : Nat → Nat} (hc : ∀ r, cb r < 16) (e1 : ∀ x, (cb16 x).toNat = 16 * cb (wd x)) : InB S256 ![addi cb16 laneV] :=
  inB1 fun x => by
    have hc' := hc (wd x)
    have hx := wd_lt x
    rw [lane16_nat hc e1]; omega

theorem pick_spec (hS : Side S b pt m a) {v3 : FVec F S16 .f32} {st : Nat → RowSt F} (hv : ∀ r, Valid (st r)) {σ : TS F ci} (h : Rep pt m a st σ)
    {Q : α → TS F ci → Prop} {k : IVec S16 32 → IVec S16 32 → FVec F S16 .f32 → FVec F S16 .f32 → TP (F := F) (PR ci) α}
    (hk : ∀ cb16 ps bb dd, (∀ x, (cb16 x).toNat = 16 * (st (wd x)).cb) → (∀ x, (ps x).toNat = (st (wd x)).sel) →
      (∀ x, bb x = bAt b σ (pos (wd x) (st (wd x)).sel)) → (∀ x, dd x = bAt b σ (pos (wd x) (st (wd x)).sel + 128)) → I (p := PR ci) S (k cb16 ps bb dd) σ Q) :
    I (p := PR ci) S (pickP b m a laneV v3 k) σ Q := by
  have key : ∀ cb : IVec S16 32, (∀ x, cb x = BitVec.ofNat 32 (st (wd x)).cb) → I (p := PR ci) S (pickMid b a k cb) σ Q := fun cb e0 => by
    have e1 : ∀ x : S16.Idx, (muli cb (broadcast S16 16#32) x).toNat = 16 * (st (wd x)).cb := fun x => by
      have hc := (st (wd x)).cb_lt
      show (IntOp.muli (cb x) 16#32).toNat = _
      rw [e0]
      have := ofNat_nat (n := (st (wd x)).cb) (by omega)
      rw [mul_nat (by rw [this]; show _ * 16 < _; omega), this, Nat.mul_comm]; rfl
    have hc : ∀ r, (st r).cb < 16 := fun r => (st r).cb_lt
    refine I_assume (lane16_in hc e1) (I_load hS.ha (tail_spec hS.hb (fun r => (hv r).sel_lt) (fun x => ?_) fun bb dd => hk _ _ bb dd e1 fun x => ?_)) <;>
    · refine (congrArg BitVec.toNat (loadIdx_at (F := F) (e := .i32) _ _ _ x)).trans ?_
      rw [lane16_nat hc e1 x]
      exact ((h _ (wd_lt x)).2 _ (hc _)).2
  exact loadsM_spec hS.hm ix16 (fun l => pickMid b a k (cbOf v3 l)) (key _ (cbOf_nat h))

theorem kv_eq {c : Nat} (hc : c < 16) : nth laneV (kvL kvec) c = kvec c := by
  have h : ∀ c : Fin 16, nth laneV (kvL kvec) c.val = kvec c.val := fun c => by fin_cases c <;> rfl
  exact h ⟨c, hc⟩

theorem kv_nat {c : Nat} (hc : c < 16) (x : S16.Idx) : (kvec c x).toNat = 16 * c + (wd x + c) % 16 := by
  have hx := wd_lt x
  have e0 : (BitVec.ofNat 32 c).toNat = c := ofNat_nat (by omega)
  have e1 : (BitVec.ofNat 32 (16 * c)).toNat = 16 * c := ofNat_nat (by omega)
  have e2 : (IntOp.andi (IntOp.addi (laneV x) (BitVec.ofNat 32 c)) 15#32).toNat = (wd x + c) % 16 := by
    rw [and15, add_nat (by rw [laneV_nat, e0]; omega), laneV_nat, e0]
  show (IntOp.addi (BitVec.ofNat 32 (16 * c)) (IntOp.andi (IntOp.addi (laneV x) (BitVec.ofNat 32 c)) 15#32)).toNat = _
  rw [add_nat (by omega)]; omega

theorem gathers_spec (hp : pt.view.ref ∈ S) {σ : TS F ci} {Q : α → TS F ci → Prop} {b16 : IVec S16 32} {cb : Nat → Nat} (hcb : ∀ r, cb r < 16)
    (hb : ∀ x, (b16 x).toNat = 256 * cb (wd x)) (l : List (Fin 16)) :
    ∀ (k : List (FVec F S16 .f32) → TP (F := F) (PR ci) α),
      I (p := PR ci) S (k (l.map fun c x => ptAt pt σ (wd x) (16 * cb (wd x) + c.val))) σ Q →
      I (p := PR ci) S (gathersP pt b16 (nth laneV (kvL kvec)) l k) σ Q := by
  induction l with
  | nil => intro k hk; exact hk
  | cons c l ih =>
    intro k hk
    have hc := c.isLt
    have e : ∀ x : S16.Idx, (addi b16 (nth laneV (kvL kvec) c.val) x).toNat = (16 * cb (wd x) + c.val) * 16 + (wd x + (16 * cb (wd x) + c.val)) % 16 := fun x => by
      have h1 := hb x
      have h2 := kv_nat hc x
      have h3 := hcb (wd x)
      rw [kv_eq hc]
      show (IntOp.addi (b16 x) (kvec c.val x)).toNat = _
      rw [add_nat (by omega)]; omega
    have hin : InB S4096 ![addi b16 (nth laneV (kvL kvec) c.val)] := inB1 fun x => by
      have h3 := hcb (wd x)
      rw [e x]; omega
    have hv : loadIdx (F := F) (e := .f32) (rd (p := PR ci) pt σ) ![addi b16 (nth laneV (kvL kvec) c.val)] hin
        = fun x => ptAt pt σ (wd x) (16 * cb (wd x) + c.val) := funext fun x => by
      refine (loadIdx_at (F := F) (e := .f32) _ _ hin x).trans ?_
      rw [e]; rfl
    refine I_assume hin (I_load hp (ih _ ?_))
    rw [hv]
    exact hk

/-- The removal, -/
theorem pt_after {ad : IVec S16 32} {sel : Nat → Nat} (hs : ∀ r, sel r < 256) (e1 : ∀ x, (ad x).toNat = sel (wd x) * 16 + (wd x + sel (wd x)) % 16)
    {σ σ1 : TS F ci} {w : FVec F S16 .f32} {hin : InB S4096 ![ad]}
    (r1 : rd (p := PR ci) pt σ1 = storeIdx (F := F) (e := .f32) (rd (p := PR ci) pt σ) ![ad] w (fun _ => 1#1) false hin) {r n : Nat} (hr : r < 16) (hn : n < 256) :
    ptAt pt σ1 r n = if n = sel r then w (ix1 (N := 16) (by omega) r) else ptAt pt σ r n := by
  have hwr : wd (ix1 (N := 16) (by omega) r) = r := wd_ix1 _ hr
  split
  · next he =>
    refine st_hit (F := F) r1 (ix1 (N := 16) (by omega) r) rfl ((e1 _).trans (by rw [hwr, he])) fun y _ hy => wd_ext ?_
    have hy' := (e1 y).symm.trans hy
    have hy2 := wd_lt y
    have hy3 := hs (wd y)
    rw [hwr]
    have : sel (wd y) = n := by omega
    omega
  · next he =>
    refine st_miss (F := F) r1 (by omega) fun y _ hy => he ?_
    have hy' := (e1 y).symm.trans hy
    have hy2 := wd_lt y
    have h1 : sel (wd y) = n := by omega
    have h2 : wd y = r := by omega
    rw [← h2, h1]

/-- and a chunk's word, after the store of every lane's. -/
theorem word_after {e : EltTy} {ad : IVec S16 32} {cb : Nat → Nat} (e1 : ∀ x, (ad x).toNat = 16 * cb (wd x) + wd x)
    {f g : Vec F S256 e} {w : Vec F S16 e} {hin : InB S256 ![ad]}
    (r1 : g = storeIdx (F := F) f ![ad] w (fun _ => 1#1) false hin) {r c : Nat} (hr : r < 16) (hc : c < 16) :
    at1 (N := 256) g (16 * c + r) = if c = cb r then w (ix1 (N := 16) (by omega) r) else at1 (N := 256) f (16 * c + r) := by
  have hwr : wd (ix1 (N := 16) (by omega) r) = r := wd_ix1 _ hr
  split
  · next he =>
    refine st_hit (F := F) r1 (ix1 (N := 16) (by omega) r) rfl ((e1 _).trans (by rw [hwr, he])) fun y _ hy => wd_ext ?_
    have hy' := (e1 y).symm.trans hy
    have hy2 := wd_lt y
    rw [hwr]; omega
  · next he =>
    refine st_miss (F := F) r1 (by omega) fun y _ hy => he ?_
    have hy' := (e1 y).symm.trans hy
    have hy2 := wd_lt y
    have h1 : cb (wd y) = c := by omega
    have h2 : wd y = r := by omega
    rw [← h2, h1]

theorem maint_best {σ1 : TS F ci} {st : Nat → RowSt F} (p1 : ∀ r < 16, ∀ n < 256, ptAt pt σ1 r n = (stepRow negF (st r)).P n) (cb16 : IVec S16 32) (x : S16.Idx) :
    (maintT negV cb16 (ix16.map fun c x => ptAt pt σ1 (wd x) (16 * (st (wd x)).cb + c.val))).1 x
        = (best fun j => if 16 * (st (wd x)).cb + j = (st (wd x)).sel then negF else (st (wd x)).P (16 * (st (wd x)).cb + j)).1
      ∧ (maintT negV cb16 (ix16.map fun c x => ptAt pt σ1 (wd x) (16 * (st (wd x)).cb + c.val))).2 x
        = IntOp.addi (cb16 x) (BitVec.ofNat 32 (best fun j => if 16 * (st (wd x)).cb + j = (st (wd x)).sel then negF else (st (wd x)).P (16 * (st (wd x)).cb + j)).2) := by
  have hbest : (best fun j => nth negV (ix16.map fun c x => ptAt pt σ1 (wd x) (16 * (st (wd x)).cb + c.val)) j x)
      = best fun j => if 16 * (st (wd x)).cb + j = (st (wd x)).sel then negF else (st (wd x)).P (16 * (st (wd x)).cb + j) :=
    best_congr fun j hj => by
      have hc := (st (wd x)).cb_lt
      refine (congrFun (nth_ix16 negV (fun (c : Fin 16) (x : S16.Idx) => ptAt (F := F) (ci := ci) pt σ1 (wd x) (16 * (st (wd x)).cb + c.val)) ⟨j, hj⟩) x).trans ?_
      exact p1 _ (wd_lt x) _ (by show _ + j < _; omega)
  rw [← hbest]
  exact maintT_at _ _ _ x

theorem select_spec (hS : Side S b pt m a) {st : Nat → RowSt F} (hv : ∀ r, Valid (st r)) {σ : TS F ci} (h : Rep pt m a st σ)
    {Q : α → TS F ci → Prop} {k : FVec F S16 .f32 → FVec F S16 .f32 → TP (F := F) (PR ci) α}
    (hk : ∀ bb dd σ', Same (p := PR ci) (TT pt m a) σ σ' → Rep pt m a (fun r => stepRow negF (st r)) σ' →
      (∀ x, bb x = bAt b σ (pos (wd x) (st (wd x)).sel)) → (∀ x, dd x = bAt b σ (pos (wd x) (st (wd x)).sel + 128)) → I (p := PR ci) S (k bb dd) σ' Q) :
    I (p := PR ci) S (selectP b pt m a laneV negV (nth laneV (kvL kvec)) k) σ Q := by
  refine pick_spec hS hv h fun cb16 ps bb dd hcb hps hbb hdd => ?_
  have e1 : ∀ x : S16.Idx, (addi (muli ps (broadcast S16 16#32)) (andi (addi laneV ps) (broadcast S16 15#32)) x).toNat
      = (st (wd x)).sel * 16 + (wd x + (st (wd x)).sel) % 16 := fun x => by
    have hs := (hv (wd x)).sel_lt
    have hp := hps x
    have hl := laneV_nat x
    have hx := wd_lt x
    have a1 : (IntOp.muli (ps x) 16#32).toNat = (ps x).toNat * 16 := mul_nat (by show _ * 16 < _; omega)
    have a2 : (IntOp.andi (IntOp.addi (laneV x) (ps x)) 15#32).toNat = (wd x + (st (wd x)).sel) % 16 := by
      rw [and15, add_nat (by omega), hl, hp]
    show (IntOp.addi (IntOp.muli (ps x) 16#32) (IntOp.andi (IntOp.addi (laneV x) (ps x)) 15#32)).toNat = _
    rw [add_nat (by omega)]; omega
  have e2 : ∀ x : S16.Idx, (muli cb16 (broadcast S16 16#32) x).toNat = 256 * (st (wd x)).cb := fun x => by
    have hc := (st (wd x)).cb_lt
    have h1 := hcb x
    have : (IntOp.muli (cb16 x) 16#32).toNat = (cb16 x).toNat * 16 := mul_nat (by show _ * 16 < _; omega)
    show (IntOp.muli (cb16 x) 16#32).toNat = _
    omega
  have e3 : ∀ x : S16.Idx, (addi cb16 laneV x).toNat = 16 * (st (wd x)).cb + wd x := fun x => by
    have hc := (st (wd x)).cb_lt
    have hx := wd_lt x
    have h1 := hcb x
    have hl := laneV_nat x
    show (IntOp.addi (cb16 x) (laneV x)).toNat = _
    rw [add_nat (by omega)]; omega
  have h1 : InB S4096 ![addi (muli ps (broadcast S16 16#32)) (andi (addi laneV ps) (broadcast S16 15#32))] := inB1 fun x => by
    have hs := (hv (wd x)).sel_lt
    rw [e1 x]; omega
  refine I_assume h1 (I_load hS.hp (I_store hS.hp fun σ1 s1 r1 => gathers_spec hS.hp (cb := fun r => (st r).cb) (fun r => (st r).cb_lt) e2 _ _ ?_))
  have hin : InB S256 ![addi cb16 laneV] := inB1 fun x => by
    have hc := (st (wd x)).cb_lt
    have hx := wd_lt x
    rw [e3 x]; omega
  have p1 : ∀ r < 16, ∀ n < 256, ptAt pt σ1 r n = (stepRow negF (st r)).P n := fun r hr n hn => by
    rw [pt_after (fun r => (hv r).sel_lt) e1 r1 hr hn, (h r hr).1 n hn]; rfl
  have tb := maint_best p1 cb16
  generalize maintT negV cb16 (ix16.map fun c x => ptAt pt σ1 (wd x) (16 * (st (wd x)).cb + c.val)) = T at tb ⊢
  refine I_assume hin (I_load hS.hm (I_store hS.hm fun σ2 s2 r2 => I_assume hin (I_load hS.ha (I_store hS.ha fun σ3 s3 r3 => hk bb dd σ3 ?_ ?_ hbb hdd))))
  · refine ((s1.mono ?_).trans (s2.mono ?_)).trans (s3.mono ?_) <;> intro z hz <;> unfold TT <;> simp_all
  have rp : rd (p := PR ci) pt σ3 = rd (p := PR ci) pt σ1 := by
    rw [s3.rd (by simpa using hS.pa), s2.rd (by simpa using hS.pm)]
  have rm : rd (p := PR ci) m σ3 = rd (p := PR ci) m σ2 := s3.rd (by simpa using hS.ma)
  have rm1 : rd (p := PR ci) m σ1 = rd (p := PR ci) m σ := s1.rd (by simpa using hS.pm.symm)
  have ra2 : rd (p := PR ci) a σ2 = rd (p := PR ci) a σ := by
    rw [s2.rd (by simpa using hS.ma.symm), s1.rd (by simpa using hS.pa.symm)]
  intro r hr
  have hwr : wd (ix1 (N := 16) (by omega) r) = r := wd_ix1 _ hr
  refine ⟨fun n hn => (ptAt_congr rp r n).trans (p1 r hr n hn), fun c hc => ⟨?_, ?_⟩⟩
  · have h2 := word_after (cb := fun r => (st r).cb) e3 r2 hr hc
    rw [rm1] at h2
    refine (mAt_congr rm r c).trans (h2.trans ?_)
    have ht := (tb (ix1 (N := 16) (by omega) r)).1
    rw [hwr] at ht
    exact if_congr Iff.rfl ht ((h r hr).2 c hc).1
  · have h2 := word_after (cb := fun r => (st r).cb) e3 r3 hr hc
    rw [ra2] at h2
    refine (congrArg BitVec.toNat h2).trans ?_
    show _ = if c = (st r).cb then _ else (st r).A c
    split
    · have ht := (tb (ix1 (N := 16) (by omega) r)).2
      rw [hwr] at ht
      refine (congrArg BitVec.toNat ht).trans ?_
      have hlt := best_lt fun j => if 16 * (st r).cb + j = (st r).sel then negF else (st r).P (16 * (st r).cb + j)
      have hcc := (st r).cb_lt
      have h4 := hcb (ix1 (N := 16) (by omega) r)
      rw [hwr] at h4
      have h5 := ofNat_nat (n := (best fun j => if 16 * (st r).cb + j = (st r).sel then negF else (st r).P (16 * (st r).cb + j)).2) (by omega)
      rw [add_nat (by omega), h4, h5]
    · exact ((h r hr).2 c hc).2

end Cert.Proof.Tile

end
-- ==== Proof.Compute.lean ====
/- A group's computation adds to each lane its row's ten rounds. -/
module

public import proofs.«01_k».proof.Proof.Rounds

@[expose] public section

noncomputable section

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F] {ci : grid1.Coords} {S : Finset (Ref sig .scVector)} {α : Type}
variable {b1 b2 : Memref sig .scVector .vmem S8200 .f32} {p1 p2 : Memref sig .scVector .vmem S4096 .f32}
  {m1 m2 : Memref sig .scVector .vmem S256 .f32} {a1 a2 : Memref sig .scVector .vmem S256 .i32}

/-- Both sides, neither writing the other's buffers. -/
structure Sides (S : Finset (Ref sig .scVector)) (b1 b2 : Memref sig .scVector .vmem S8200 .f32) (p1 p2 : Memref sig .scVector .vmem S4096 .f32)
    (m1 : Memref sig .scVector .vmem S256 .f32) (a1 : Memref sig .scVector .vmem S256 .i32) (m2 : Memref sig .scVector .vmem S256 .f32)
    (a2 : Memref sig .scVector .vmem S256 .i32) : Prop where
  s1 : Side S b1 p1 m1 a1
  s2 : Side S b2 p2 m2 a2
  nb1 : b1.view.ref ∉ TT p2 m2 a2
  np1 : p1.view.ref ∉ TT p2 m2 a2
  nm1 : m1.view.ref ∉ TT p2 m2 a2
  na1 : a1.view.ref ∉ TT p2 m2 a2
  nb2 : b2.view.ref ∉ TT p1 m1 a1
  np2 : p2.view.ref ∉ TT p1 m1 a1
  nm2 : m2.view.ref ∉ TT p1 m1 a1
  na2 : a2.view.ref ∉ TT p1 m1 a1

theorem Rep.same {pt : Memref sig .scVector .vmem S4096 .f32} {m : Memref sig .scVector .vmem S256 .f32} {a : Memref sig .scVector .vmem S256 .i32}
    {T : Finset (Ref sig .scVector)} {st : Nat → RowSt F} {σ σ' : TS F ci} (h : Rep pt m a st σ) (hs : Same (p := PR ci) T σ σ')
    (hp : pt.view.ref ∉ T) (hm : m.view.ref ∉ T) (ha : a.view.ref ∉ T) : Rep pt m a st σ' := fun r hr =>
  ⟨fun n hn => (ptAt_congr (hs.rd hp) r n).trans ((h r hr).1 n hn),
    fun c hc => ⟨(mAt_congr (hs.rd hm) r c).trans ((h r hr).2 c hc).1, (aAt_congr (hs.rd ha) r c).trans ((h r hr).2 c hc).2⟩⟩

/-- What a group's computation writes. -/
def TT2 (p1 p2 : Memref sig .scVector .vmem S4096 .f32) (m1 : Memref sig .scVector .vmem S256 .f32) (a1 : Memref sig .scVector .vmem S256 .i32)
    (m2 : Memref sig .scVector .vmem S256 .f32) (a2 : Memref sig .scVector .vmem S256 .i32) : Finset (Ref sig .scVector) := TT p1 m1 a1 ∪ TT p2 m2 a2

/-- Round `n`'s state, in the buffers and in the sum. -/
structure AtRound (b1 b2 : Memref sig .scVector .vmem S8200 .f32) (p1 p2 : Memref sig .scVector .vmem S4096 .f32) (m1 : Memref sig .scVector .vmem S256 .f32)
    (a1 : Memref sig .scVector .vmem S256 .i32) (m2 : Memref sig .scVector .vmem S256 .f32) (a2 : Memref sig .scVector .vmem S256 .i32)
    (B1 B2 : Nat → F .f32) (acc0 : FVec F S16 .f32) (σ0 : TS F ci) (n : Nat) (acc : FVec F S16 .f32) (σ : TS F ci) : Prop where
  same : Same (p := PR ci) (TT2 p1 p2 m1 a1 m2 a2) σ0 σ
  r1 : ∃ st : Nat → RowSt F, Rep p1 m1 a1 st σ ∧ ∀ x : S16.Idx, st (wd x) = (pairAfter negF B1 B2 (wd x) (acc0 x) n).s1
  r2 : ∃ st : Nat → RowSt F, Rep p2 m2 a2 st σ ∧ ∀ x : S16.Idx, st (wd x) = (pairAfter negF B1 B2 (wd x) (acc0 x) n).s2
  acc : ∀ x, acc x = (pairAfter negF B1 B2 (wd x) (acc0 x) n).acc

/-- The rows' states read off the lanes. -/
def rowsOf (g : S16.Idx → RowSt F) (r : Nat) : RowSt F := g (ix1 (N := 16) (by omega) r)

theorem rowsOf_wd (g : S16.Idx → RowSt F) (x : S16.Idx) : rowsOf g (wd x) = g x := congrArg g (wd_ext (wd_ix1 _ (wd_lt x)))

theorem Rep.rows {pt : Memref sig .scVector .vmem S4096 .f32} {m : Memref sig .scVector .vmem S256 .f32} {a : Memref sig .scVector .vmem S256 .i32}
    {σ : TS F ci} {g : S16.Idx → RowSt F} (h : ∃ st : Nat → RowSt F, Rep pt m a st σ ∧ ∀ x : S16.Idx, st (wd x) = g x) : Rep pt m a (rowsOf g) σ := by
  obtain ⟨st, h, he⟩ := h
  intro r hr
  have hw : wd (ix1 (N := 16) (by omega) r) = r := wd_ix1 _ hr
  have : rowsOf g r = st r := by
    unfold rowsOf
    rw [← he, hw]
  rw [this]; exact h r hr

theorem pairAfter_succ (neg : F .f32) (B1 B2 : Nat → F .f32) (r : Nat) (acc : F .f32) (n : Nat) :
    pairAfter neg B1 B2 r acc (n + 1) = stepPair neg B1 B2 r (pairAfter neg B1 B2 r acc n) := by
  unfold pairAfter; rw [Function.iterate_succ_apply']

variable {B1 B2 : Nat → F .f32} {acc0 : FVec F S16 .f32} {σ0 : TS F ci}

theorem Sides.nB1 (h : Sides S b1 b2 p1 p2 m1 a1 m2 a2) : b1.view.ref ∉ TT2 p1 p2 m1 a1 m2 a2 := by
  unfold TT2; rw [Finset.mem_union]; exact fun hh => hh.elim h.s1.nb h.nb1

theorem Sides.nB2 (h : Sides S b1 b2 p1 p2 m1 a1 m2 a2) : b2.view.ref ∉ TT2 p1 p2 m1 a1 m2 a2 := by
  unfold TT2; rw [Finset.mem_union]; exact fun hh => hh.elim h.nb2 h.s2.nb

theorem kstep_spec (hS : Sides S b1 b2 p1 p2 m1 a1 m2 a2) (hB1 : ∀ n, bAt b1 σ0 n = B1 n) (hB2 : ∀ n, bAt b2 σ0 n = B2 n) {n : Nat} {acc : FVec F S16 .f32} {σ : TS F ci}
    (h : AtRound b1 b2 p1 p2 m1 a1 m2 a2 B1 B2 acc0 σ0 n acc σ) :
    I (p := PR ci) S (kstepP b1 b2 p1 p2 m1 a1 m2 a2 laneV negV (nth laneV (kvL kvec)) acc) σ
      fun acc' σ' => AtRound b1 b2 p1 p2 m1 a1 m2 a2 B1 B2 acc0 σ0 (n + 1) acc' σ' := by
  have c1 := fun x : S16.Idx => rowsOf_wd (fun x => (pairAfter negF B1 B2 (wd x) (acc0 x) n).s1) x
  have c2 := fun x : S16.Idx => rowsOf_wd (fun x => (pairAfter negF B1 B2 (wd x) (acc0 x) n).s2) x
  refine select_spec (st := rowsOf fun x => (pairAfter negF B1 B2 (wd x) (acc0 x) n).s1) hS.s1 (fun r => (valid_pair negF B1 B2 _ _ n).1) (Rep.rows h.r1) fun s1 t1 σ1 hs1 hr1 hb1 hd1 => ?_
  refine select_spec (st := rowsOf fun x => (pairAfter negF B1 B2 (wd x) (acc0 x) n).s2) hS.s2 (fun r => (valid_pair negF B1 B2 _ _ n).2) ((Rep.rows h.r2).same hs1 hS.np2 hS.nm2 hS.na2) fun s2 t2 σ2 hs2 hr2 hb2 hd2 => ?_
  have hs12 := (hs1.mono (T' := TT2 p1 p2 m1 a1 m2 a2) Finset.subset_union_left).trans (hs2.mono (T' := TT2 p1 p2 m1 a1 m2 a2) Finset.subset_union_right)
  refine ⟨h.same.trans hs12, ⟨_, hr1.same hs2 hS.np1 hS.nm1 hS.na1, fun x => ?_⟩, ⟨_, hr2, fun x => ?_⟩, fun x => ?_⟩
  · rw [c1, pairAfter_succ]; rfl
  · rw [c2, pairAfter_succ]; rfl
  · rw [pairAfter_succ]
    show FloatOps.addf (FloatOps.addf (acc x) (FloatOps.mulf (FloatOps.subf (s1 x) (s2 x)) (FloatOps.subf (s1 x) (s2 x)))) (FloatOps.mulf (FloatOps.subf (t1 x) (t2 x)) (FloatOps.subf (t1 x) (t2 x))) = _
    rw [hb1, hd1, hb2, hd2, c1, c2, h.acc, bAt_same hs1 hS.nb2, bAt_same hs1 hS.nb2, bAt_same h.same hS.nB1, bAt_same h.same hS.nB1, bAt_same h.same hS.nB2, bAt_same h.same hS.nB2,
      hB1, hB1, hB2, hB2]
    rfl

theorem last_spec (hS : Sides S b1 b2 p1 p2 m1 a1 m2 a2) (hB1 : ∀ n, bAt b1 σ0 n = B1 n) (hB2 : ∀ n, bAt b2 σ0 n = B2 n) {n : Nat} {acc : FVec F S16 .f32} {σ : TS F ci}
    (h : AtRound b1 b2 p1 p2 m1 a1 m2 a2 B1 B2 acc0 σ0 n acc σ) {k : FVec F S16 .f32 → TP (F := F) (PR ci) α} {Q : α → TS F ci → Prop}
    (hk : ∀ acc', (∀ x, acc' x = (pairAfter negF B1 B2 (wd x) (acc0 x) (n + 1)).acc) → I (p := PR ci) S (k acc') σ Q) :
    I (p := PR ci) S (lastP b1 b2 m1 a1 m2 a2 laneV negV acc k) σ Q := by
  have c1 := fun x : S16.Idx => rowsOf_wd (fun x => (pairAfter negF B1 B2 (wd x) (acc0 x) n).s1) x
  have c2 := fun x : S16.Idx => rowsOf_wd (fun x => (pairAfter negF B1 B2 (wd x) (acc0 x) n).s2) x
  refine pick_spec (st := rowsOf fun x => (pairAfter negF B1 B2 (wd x) (acc0 x) n).s1) hS.s1 (fun r => (valid_pair negF B1 B2 _ _ n).1) (Rep.rows h.r1) fun _ _ s1 t1 _ _ hb1 hd1 => ?_
  refine pick_spec (st := rowsOf fun x => (pairAfter negF B1 B2 (wd x) (acc0 x) n).s2) hS.s2 (fun r => (valid_pair negF B1 B2 _ _ n).2) (Rep.rows h.r2) fun _ _ s2 t2 _ _ hb2 hd2 => hk _ fun x => ?_
  rw [pairAfter_succ]
  show FloatOps.addf (FloatOps.addf (acc x) (FloatOps.mulf (FloatOps.subf (s1 x) (s2 x)) (FloatOps.subf (s1 x) (s2 x)))) (FloatOps.mulf (FloatOps.subf (t1 x) (t2 x)) (FloatOps.subf (t1 x) (t2 x))) = _
  rw [hb1, hd1, hb2, hd2, c1, c2, h.acc, bAt_same h.same hS.nB1, bAt_same h.same hS.nB1, bAt_same h.same hS.nB2, bAt_same h.same hS.nB2, hB1, hB1, hB2, hB2]
  rfl

theorem compute_spec (hS : Sides S b1 b2 p1 p2 m1 a1 m2 a2) (hB1 : ∀ n, bAt b1 σ0 n = B1 n) (hB2 : ∀ n, bAt b2 σ0 n = B2 n)
    {k : FVec F S16 .f32 → TP (F := F) (PR ci) α} {Q : α → TS F ci → Prop}
    (hk : ∀ acc' σ', Same (p := PR ci) (TT2 p1 p2 m1 a1 m2 a2) σ0 σ' → (∀ x, acc' x = groupAcc negF B1 B2 (wd x) (acc0 x)) → I (p := PR ci) S (k acc') σ' Q) :
    I (p := PR ci) S (computeP b1 b2 p1 p2 m1 a1 m2 a2 laneV negV mask0 (nth laneV (kvL kvec)) acc0 k) σ0 Q := by
  refine I_bind (build_spec hS.s1 hB1 fun σ1 s1 r1 => I_bind (build_spec hS.s2 (fun n => (bAt_same s1 hS.nb2 n).trans (hB2 n)) fun σ2 s2 r2 => ?_))
  have ht : Scf.trips 0#32 9#32 1#32 = 9 := by decide
  have hs12 := (s1.mono (T' := TT2 p1 p2 m1 a1 m2 a2) Finset.subset_union_left).trans (s2.mono (T' := TT2 p1 p2 m1 a1 m2 a2) Finset.subset_union_right)
  refine I_bind (I_for (fun n acc σ => AtRound b1 b2 p1 p2 m1 a1 m2 a2 B1 B2 acc0 σ0 n acc σ) ?_ (fun j acc σ h => kstep_spec hS hB1 hB2 h) (fun acc σ h => ?_))
  · exact ⟨hs12, ⟨_, r1.same s2 hS.np1 hS.nm1 hS.na1, fun x => rfl⟩, ⟨_, r2, fun x => rfl⟩, fun x => rfl⟩
  · rw [ht] at h
    exact last_spec hS hB1 hB2 h fun acc' ha => hk acc' σ h.same ha

end Cert.Proof.Tile

end
-- ==== Proof.Setup.lean ====
/- The program as the launch sees it, and the resources its threads share. -/
module

public import proofs.«01_k».proof.Defs
public import proofs.«01_k».proof.Proof.Compute
public import Idealize.ShloMosaic.Lib.SparseCore.Quiescent
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal.Launch

@[expose] public section

noncomputable section

namespace Cert.Proof.Tile

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] [Named F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UR : Type := URounds (GSem nD τ sig) Unit
abbrev UU : Type := UH × (UR × Counters)

abbrev MM (F : FTy → Type) : Type := MT nD τ sig (HIx 1) (Elt F) ℕ UU ℕ

/-- The handshakes' rounds, the left factor; the pipeline's, the next; the copies' counters are found in the last. -/
abbrev EH : Emb UH (MM F) := embL
abbrev EP : Emb UR (MM F) := (Emb.inl : Emb UR (UR × Counters)).trans embR

end Cert.Proof.Tile

end
-- ==== Proof.Copies.lean ====
/- The copies of a group of both tables into a pair of buffers: their start, and the wait for them. -/
module

public import proofs.«01_k».proof.Proof.Setup

@[expose] public section

noncomputable section

namespace Cert.Proof.Tile

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Local
open Cert.KernelIdeal.Facts₀ Cert.KernelIdeal.Facts

variable {F : FTy → Type} [FloatOps F] [Named F] {ci : grid1.Coords}

abbrev Tab : Type := Memref sig .scVector .hbm S6291456 .f32
abbrev Bf : Type := Memref sig .scVector .vmem S8200 .f32

abbrev Inb (off : Fin 1 → Nat) : Prop := ∀ a, off a + S8192.size a ≤ S6291456.size a

abbrev tSl (t : Tab) (off : Fin 1 → Nat) (h : Inb off) : Memref sig .scVector .hbm S8192 .f32 :=
  t.slice (Rect.unit (s := S6291456) off S8192.size h) (fun _ => rfl)
abbrev bSl (b : Bf) : Memref sig .scVector .vmem S8192 .f32 :=
  b.slice (Rect.unit (s := S8200) ![0] S8192.size inb_S8200_S8192_0) (fun _ => rfl)

/-- Word `n` of a table. -/
def tabAt (t : Tab) (f : t.view.ty.Contents (Elt F)) (n : Nat) : F .f32 := at1 (N := 6291456) (X := F .f32) (t.view.read (Elt F) f) n
def bufAt (b : Bf) (g : b.view.ty.Contents (Elt F)) (n : Nat) : F .f32 := at1 (N := 8200) (X := F .f32) (b.view.read (Elt F) g) n

/-- A buffer holds the group of a table that starts at word `base`. -/
def Landed (t : Tab) (f : t.view.ty.Contents (Elt F)) (b : Bf) (g : b.view.ty.Contents (Elt F)) (base : Nat) : Prop :=
  ∀ n, n < 8192 → bufAt b g n = tabAt t f (base + n)

theorem landed (t : Tab) (f : t.view.ty.Contents (Elt F)) (b : Bf) (g : b.view.ty.Contents (Elt F)) (off : Fin 1 → Nat) (h : Inb off) :
    Landed t f b ((bSl b).view.write (Elt F) g ((tSl t off h).view.read (Elt F) f) Finset.univ) (off 0) := by
  intro n hn
  have h0 : off 0 + 8192 ≤ 6291456 := h 0
  let x : S8192.Idx := ix1 (N := 8192) (by decide) n
  have hx : wd (N := 8192) x = n := wd_ix1 (N := 8192) (by decide) hn
  have e1 : (ix1 (N := 8200) (by decide) n : (Local.V1 8200).Idx) = (Rect.unit (s := S8200) ![0] S8192.size inb_S8200_S8192_0).emb x := by
    refine wd_ext (N := 8200) ?_
    rw [wd_ix1 (N := 8200) (by decide) (by omega)]
    show n = 0 + 1 * wd (N := 8192) x
    omega
  have e2 : (ix1 (N := 6291456) (by decide) (off 0 + n) : (Local.V1 6291456).Idx) = (Rect.unit (s := S6291456) off S8192.size h).emb x := by
    refine wd_ext (N := 6291456) ?_
    rw [wd_ix1 (N := 6291456) (by decide) (by omega)]
    show off 0 + n = off 0 + 1 * wd (N := 8192) x
    omega
  show b.view.read (Elt F) _ (ix1 (N := 8200) (by decide) n) = t.view.read (Elt F) f (ix1 (N := 6291456) (by decide) (off 0 + n))
  rw [e1, e2]
  exact congrFun (View.read_write_univ (v := (bSl b).view) (Val := Elt F) g ((tSl t off h).view.read (Elt F) f)) x

section

variable (d : Dev nD) (t1 t2 : Tab) (b1 b2 : Bf) (s : DmaSems sig S_) (off : Fin 1 → Nat) (h : Inb off) (q : PosShare TreeShare)
  (f1 : t1.view.ty.Contents (Elt F)) (f2 : t2.view.ty.Contents (Elt F))

abbrev thr (d : Dev nD) (ci : grid1.Coords) : Thread nD τ := (d, PR ci)

/-- A buffer that has received a group, the group's part of the table back. -/
def Got (ci : grid1.Coords) (t : Tab) (b : Bf) (f : t.view.ty.Contents (Elt F)) : sProp (MM F) :=
  iprop((∃ g, ⌜Landed t f b g (off 0)⌝ ∗ (thr d ci).loc b.view.ref ↦{fullShare} g)
    ∗ ((thr d ci).loc t.view.ref ↦[(tSl t off h).view.set]{q} f))

instance (t : Tab) (b : Bf) (f : t.view.ty.Contents (Elt F)) :
    Storable (upEmb : UEmb _ (MM F)) (Got (F := F) d off h q ci t b f) := by
  unfold Got; infer_instance

def gots (ci : grid1.Coords) (j : Fin 2) : sProp (MM F) :=
  if j = 0 then Got d off h q ci t1 b1 f1 else Got d off h q ci t2 b2 f2

instance (j : Fin 2) : Storable (upEmb : UEmb _ (MM F)) (gots (F := F) d t1 t2 b1 b2 off h q f1 f2 ci j) := by
  unfold gots; split <;> infer_instance

/-- Both copies of a group in flight. -/
def Fly (ci : grid1.Coords) (base : Nat) : sProp (MM F) :=
  iprop(∃ off : Fin 1 → Nat, ∃ h : Inb off, ⌜off 0 = base⌝
    ∗ Transfers.Batch countersEmb (thr d ci) (.dma s.sem) none (bSl b1).view.dmaCredit (gots d t1 t2 b1 b2 off h q f1 f2 ci) 2 0
    ∗ ((thr d ci).loc t1.view.ref ↦[Finset.univ \ (tSl t1 off h).view.set]{q} f1)
    ∗ ((thr d ci).loc t2.view.ref ↦[Finset.univ \ (tSl t2 off h).view.set]{q} f2))

/-- The buffers and the tables, no copy in flight. -/
def Rest (ci : grid1.Coords) : sProp (MM F) :=
  iprop(((thr d ci).loc t1.view.ref ↦{q} f1) ∗ ((thr d ci).loc t2.view.ref ↦{q} f2) ∗ semVal (thr d ci, .dma s.sem) 0)

variable {α : Type} (Q : α → sProp (MM F)) (k : TP (F := F) (PR ci) α)

theorem got_intro (t : Tab) (b : Bf) (f : t.view.ty.Contents (Elt F)) (g : b.view.ty.Contents (Elt F)) :
    iprop(((bSl b).view.loc (thr d ci) ↦[Finset.univ]{fullShare}
        ((bSl b).view.write (Elt F) g ((ReadAs.same : ReadAs (Elt F) S8192 .f32 S8192 .f32).apply ((tSl t off h).view.read (Elt F) f)) Finset.univ))
      ∗ ((tSl t off h).view.loc (thr d ci) ↦[(tSl t off h).view.set]{q} f)) ⊢ Got d off h q ci t b f := by
  unfold Got
  iintro ⟨Hb, Ht⟩
  isplitl [Hb]
  · iexists _
    isplitr
    · ipureintro; exact landed t f b g off h
    · iexact Hb
  · iexact Ht

theorem start_wp (h12 : (bSl b2).view.dmaCredit = (bSl b1).view.dmaCredit) (base : Nat) (hb : off 0 = base) :
    iprop(Rest d t1 t2 s q f1 f2 ci ∗ (∃ g, (thr d ci).loc b1.view.ref ↦{fullShare} g) ∗ (∃ g, (thr d ci).loc b2.view.ref ↦{fullShare} g)
      ∗ (Fly d t1 t2 b1 b2 s q f1 f2 ci base -∗ wp frame (wpE (defs₀ (F := F)) 𝒱₀ (thr d ci) none) Set.univ k Q))
    ⊢ wp frame (wpE (defs₀ (F := F)) 𝒱₀ (thr d ci) none) Set.univ (startP t1 t2 b1 b2 s off h k) Q := by
  unfold Rest startP
  iintro ⟨⟨Ht1, Ht2, Hs⟩, ⟨%g1, Hb1⟩, ⟨%g2, Hb2⟩, Hk⟩
  ihave H1 := (pointsTo_split_subset (f := f1) (Finset.subset_univ (tSl t1 off h).view.set)).1 $$ Ht1
  icases H1 with ⟨Hs1, Hr1⟩
  ihave H2 := (pointsTo_split_subset (f := f2) (Finset.subset_univ (tSl t2 off h).view.set)).1 $$ Ht2
  icases H2 with ⟨Hs2, Hr2⟩
  imod (Transfers.batch_alloc' countersEmb (thr d ci) none (bSl b1).view.dmaCredit (gots d t1 t2 b1 b2 off h q f1 f2 ci) (sm := .dma s.sem) (E := Set.univ)) $$ Hs with HB
  iapply (Transfers.wp_dmaBatch countersEmb 𝒱₀ (thr d ci) none (src := tSl t1 off h) (dst := bSl b1) (via := .same)
    (Sd := Finset.univ) (fd := g1) (fs := f1) (q := q) (D := gots d t1 t2 b1 b2 off h q f1 f2 ci) (j := 0) (u := 0) none (bSl b1).view.dmaCredit rfl (Finset.subset_univ _) (by decide) (Nat.zero_le _)
    (got_intro d off h q t1 b1 f1 g1)) $$ [Hs1 Hb1 HB]
  · isplitl [Hs1]; · iexact Hs1
    isplitl [Hb1]; · iexact Hb1
    iexact HB
  iintro HB
  iapply (Transfers.wp_dmaBatch countersEmb 𝒱₀ (thr d ci) none (src := tSl t2 off h) (dst := bSl b2) (via := .same)
    (Sd := Finset.univ) (fd := g2) (fs := f2) (q := q) (D := gots d t1 t2 b1 b2 off h q f1 f2 ci) (j := 1) (u := 0) (sm := .dma s.sem) none (bSl b1).view.dmaCredit h12 (Finset.subset_univ _) (by decide) (Nat.zero_le _)
    (got_intro d off h q t2 b2 f2 g2)) $$ [Hs2 Hb2 HB]
  · isplitl [Hs2]; · iexact Hs2
    isplitl [Hb2]; · iexact Hb2
    iexact HB
  iintro HB
  iapply Hk
  unfold Fly
  iexists off, h
  isplitr; · ipureintro; exact hb
  isplitl [HB]; · iexact HB
  isplitl [Hr1] <;> iassumption

/-- A buffer with a group of a table in it. -/
def Has (ci : grid1.Coords) (t : Tab) (f : t.view.ty.Contents (Elt F)) (b : Bf) (base : Nat) : sProp (MM F) :=
  iprop(∃ g, ⌜Landed t f b g base⌝ ∗ (thr d ci).loc b.view.ref ↦{fullShare} g)

theorem await_wp (h12 : (bSl b2).view.dmaCredit = (bSl b1).view.dmaCredit) (h0 : 0 < (bSl b1).view.dmaCredit) (base : Nat)
    (O : CellTallies nD τ sig (HIx 1)) (W : Waits sig (HIx 1)) (X : sProp (MM F)) [BI.Persistent X]
    (hX : X ⊢ MayWait (thr d ci) (.dma s.sem) none O) :
    iprop(X ∗ Fly d t1 t2 b1 b2 s q f1 f2 ci base ∗ owes (thr d ci) O W
      ∗ ((Rest d t1 t2 s q f1 f2 ci ∗ Has d ci t1 f1 b1 base ∗ Has d ci t2 f2 b2 base ∗ owes (thr d ci) O (insert (.dma s.sem, none) W))
        -∗ wp frame (wpE (defs₀ (F := F)) 𝒱₀ (thr d ci) none) Set.univ k Q))
    ⊢ wp frame (wpE (defs₀ (F := F)) 𝒱₀ (thr d ci) none) Set.univ (awaitP t1 t2 b1 b2 s off h k) Q := by
  unfold Fly awaitP
  iintro ⟨#HX, ⟨%off', %h', %e, HB, Hr1, Hr2⟩, HO, Hk⟩
  iapply (Transfers.wp_waitBatchO countersEmb 𝒱₀ (thr d ci) none none (N := (bSl b1).view.dmaCredit) (O := O) (W := W) rfl
    (D := gots d t1 t2 b1 b2 off' h' q f1 f2 ci) (u := 0) (by omega)) $$ [HB HO]
  · isplitl [HB]; · iexact HB
    isplitl [HO]; · iexact HO
    iapply hX; iexact HX
  iintro ⟨HB, HO⟩
  iapply (Transfers.wp_waitBatchLastO countersEmb 𝒱₀ (thr d ci) none none (N := (bSl b1).view.dmaCredit) (O := O) (W := insert (.dma s.sem, none) W) h12 h0
    (D := gots d t1 t2 b1 b2 off' h' q f1 f2 ci) (u := 0 + (bSl b1).view.dmaCredit) (by omega)) $$ [HB HO]
  · isplitl [HB]; · iexact HB
    isplitl [HO]; · iexact HO
    iapply hX; iexact HX
  iintro ⟨HD, Hs, HO⟩
  ihave HD' := (show bigSep Finset.univ (gots d t1 t2 b1 b2 off' h' q f1 f2 ci) ⊢ iprop(Got d off' h' q ci t1 b1 f1 ∗ Got d off' h' q ci t2 b2 f2)
    from Entails.of_eq (by
      rw [show (Finset.univ : Finset (Fin 2)) = {0, 1} by decide, SparseCore.bigSep_insert' (by decide), bigSep_singleton]; rfl)) $$ HD
  unfold Got
  icases HD' with ⟨⟨⟨%g1, %l1, Hb1⟩, Hs1⟩, ⟨%g2, %l2, Hb2⟩, Hs2⟩
  rw [Finset.insert_idem]
  iapply Hk
  unfold Rest Has
  isplitl [Hs1 Hr1 Hs2 Hr2 Hs]
  · isplitl [Hs1 Hr1]
    · iapply (pointsTo_split_subset (f := f1) (Finset.subset_univ (tSl t1 off' h').view.set)).2; isplitl [Hs1] <;> iassumption
    isplitl [Hs2 Hr2]
    · iapply (pointsTo_split_subset (f := f2) (Finset.subset_univ (tSl t2 off' h').view.set)).2; isplitl [Hs2] <;> iassumption
    iexact Hs
  isplitl [Hb1]
  · iexists g1; isplitr; · ipureintro; exact e ▸ l1
    iexact Hb1
  isplitl [Hb2]
  · iexists g2; isplitr; · ipureintro; exact e ▸ l2
    iexact Hb2
  iexact HO

end

end Cert.Proof.Tile

end
-- ==== Proof.Group.lean ====
/- A group's computation as a step of the tile's run: from the two buffers with a group of each table in them to the sum
   with the group's rows added. -/
module

public import proofs.«01_k».proof.Proof.Copies

@[expose] public section

noncomputable section

namespace Cert.Proof.Tile

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Local
open Cert.KernelIdeal.Facts₀ Cert.KernelIdeal.Facts

variable {F : FTy → Type} [FloatOps F] [Named F] {ci : grid1.Coords}

/-! ## The value depends on the group's words alone -/

structure RowEq (st st' : RowSt F) : Prop where
  P : ∀ n < 256, st.P n = st'.P n
  M : ∀ c < 16, st.M c = st'.M c
  A : ∀ c < 16, st.A c = st'.A c

theorem RowEq.cb {st st' : RowSt F} (h : RowEq st st') : st.cb = st'.cb := by
  unfold RowSt.cb; rw [best_congr h.M]

theorem RowEq.sel {st st' : RowSt F} (h : RowEq st st') : st.sel = st'.sel := by
  unfold RowSt.sel; rw [← h.cb]; exact h.A _ st.cb_lt

theorem RowEq.step {st st' : RowSt F} (neg : F .f32) (h : RowEq st st') : RowEq (stepRow neg st) (stepRow neg st') := by
  have hcb := h.cb
  have hsel := h.sel
  have hlt := st.cb_lt
  have hb : (best fun j => if 16 * st.cb + j = st.sel then neg else st.P (16 * st.cb + j))
      = (best fun j => if 16 * st'.cb + j = st'.sel then neg else st'.P (16 * st'.cb + j)) := by
    refine best_congr fun j hj => ?_
    rw [← hcb, ← hsel, h.P _ (by omega)]
  refine ⟨fun n hn => ?_, fun c hc => ?_, fun c hc => ?_⟩
  · show (if n = st.sel then neg else st.P n) = if n = st'.sel then neg else st'.P n
    rw [hsel, h.P n hn]
  · show (if c = st.cb then _ else st.M c) = if c = st'.cb then _ else st'.M c
    rw [hb, hcb, h.M c hc]
  · show (if c = st.cb then 16 * st.cb + _ else st.A c) = if c = st'.cb then 16 * st'.cb + _ else st'.A c
    rw [hb, hcb, h.A c hc]

theorem rowEq_init {B B' : Nat → F .f32} (h : ∀ n < 8192, B n = B' n) {r : Nat} (hr : r < 16) : RowEq (initRow B r) (initRow B' r) := by
  have hp : ∀ c < 16, ∀ l < 16, persN B r (16 * c + l) = persN B' r (16 * c + l) := fun c hc l hl => persN_congr h hr (by omega)
  refine ⟨fun n hn => persN_congr h hr hn, fun c hc => ?_, fun c hc => ?_⟩
  · show cmN (fun l => persN B r (16 * c + l)) = cmN fun l => persN B' r (16 * c + l)
    exact cmN_congr (hp c hc)
  · show 16 * c + amN (fun l => persN B r (16 * c + l)) (cmN fun l => persN B r (16 * c + l))
      = 16 * c + amN (fun l => persN B' r (16 * c + l)) (cmN fun l => persN B' r (16 * c + l))
    rw [cmN_congr (hp c hc), amN_congr (hp c hc)]

theorem groupAcc_congr {B1 B2 B1' B2' : Nat → F .f32} (neg : F .f32) (h1 : ∀ n < 8192, B1 n = B1' n) (h2 : ∀ n < 8192, B2 n = B2' n) {r : Nat} (hr : r < 16) (acc : F .f32) :
    groupAcc neg B1 B2 r acc = groupAcc neg B1' B2' r acc := by
  suffices hs : ∀ n, RowEq (pairAfter neg B1 B2 r acc n).s1 (pairAfter neg B1' B2' r acc n).s1 ∧ RowEq (pairAfter neg B1 B2 r acc n).s2 (pairAfter neg B1' B2' r acc n).s2
      ∧ (pairAfter neg B1 B2 r acc n).acc = (pairAfter neg B1' B2' r acc n).acc from (hs 10).2.2
  intro n
  induction n with
  | zero => exact ⟨rowEq_init h1 hr, rowEq_init h2 hr, rfl⟩
  | succ n ih =>
    obtain ⟨i1, i2, i3⟩ := ih
    have v := valid_pair neg B1 B2 r acc n
    have v1 := v.1.sel_lt
    have v2 := v.2.sel_lt
    have hpos : ∀ n < 256, pos r n + 128 < 8192 := fun n hn => by unfold pos; omega
    unfold pairAfter at *
    rw [Function.iterate_succ_apply', Function.iterate_succ_apply']
    refine ⟨i1.step neg, i2.step neg, ?_⟩
    show contrib B1 B2 r _ = contrib B1' B2' r _
    unfold contrib
    rw [i3, ← i1.sel, ← i2.sel, h1 _ (hpos _ v1), h2 _ (hpos _ v2), h1 _ (by have := hpos _ v1; omega), h2 _ (by have := hpos _ v2; omega)]

/-! ## The computation's continuation -/

section Bind
variable {α β : Type} (f : α → TP (F := F) (PR ci) β)

theorem loadsM_bind (m : Memref sig .scVector .vmem S256 .f32) : ∀ (cs : List (Fin 16)) (k : List (FVec F S16 .f32) → TP (F := F) (PR ci) α),
    (loadsM m cs k).bind f = loadsM m cs fun l => (k l).bind f
  | [], k => rfl
  | c :: cs, k => by
    show Prog.op _ _ = Prog.op _ _
    exact congrArg _ (funext fun b => loadsM_bind m cs fun l => k (b :: l))

theorem pickP_bind (buf : Bf) (m : Memref sig .scVector .vmem S256 .f32) (a : Memref sig .scVector .vmem S256 .i32) (v2 : IVec S16 32) (v3 : FVec F S16 .f32)
    (k : IVec S16 32 → IVec S16 32 → FVec F S16 .f32 → FVec F S16 .f32 → TP (F := F) (PR ci) α) :
    (pickP buf m a v2 v3 k).bind f = pickP buf m a v2 v3 fun x y z w => (k x y z w).bind f :=
  loadsM_bind f m ix16 _

theorem computeP_bind (b1 b2 : Bf) (p1 p2 : Memref sig .scVector .vmem S4096 .f32) (m1 : Memref sig .scVector .vmem S256 .f32) (a1 : Memref sig .scVector .vmem S256 .i32)
    (m2 : Memref sig .scVector .vmem S256 .f32) (a2 : Memref sig .scVector .vmem S256 .i32) (v2 : IVec S16 32) (v3 : FVec F S16 .f32) (v6 : IVec S16 1)
    (kv : Nat → IVec S16 32) (acc : FVec F S16 .f32) (k : FVec F S16 .f32 → TP (F := F) (PR ci) β) :
    computeP b1 b2 p1 p2 m1 a1 m2 a2 v2 v3 v6 kv acc k = computeP b1 b2 p1 p2 m1 a1 m2 a2 v2 v3 v6 kv acc .ret >>= k := by
  unfold computeP
  refine ((Prog.bind_assoc _ _ _).trans (congrArg (Prog.bind _) (funext fun _ => ?_))).symm
  refine (Prog.bind_assoc _ _ _).trans (congrArg (Prog.bind _) (funext fun _ => ?_))
  refine (Prog.bind_assoc _ _ _).trans (congrArg (Prog.bind _) (funext fun acc => ?_))
  refine (pickP_bind k b1 m1 a1 v2 v3 _).trans ?_
  unfold lastP
  refine congrArg (pickP b1 m1 a1 v2 v3) (funext fun _ => funext fun _ => funext fun s1 => funext fun t1 => ?_)
  exact pickP_bind k b2 m2 a2 v2 v3 _
end Bind

/-! ## The buffers, as an assignment -/

abbrev MB : Type := Memref sig .scVector .vmem S256 .f32

section

variable (d : Dev nD) (S0 : Finset (Ref sig (PR ci).kind))

/-- The working buffers, at whatever they hold. -/
def Work : sProp (MM F) := iprop(∃ σ : TS F ci, Own d S0 σ)

theorem own_put {b : Ref sig (PR ci).kind} (hb : b ∉ S0) (σ : TS F ci) (g : b.ty.Contents (Elt F)) :
    iprop(((thr d ci).loc b ↦{fullShare} g) ∗ Own d S0 σ) ⊢ (Own (p := PR ci) d (insert b S0) (put σ b g) : sProp (MM F)) := by
  have e : (Own (p := PR ci) d S0 (put σ b g) : sProp (MM F)) = Own d S0 σ :=
    bigSep_congr fun c hc => by rw [put_other σ g (show c ≠ b from fun e => hb (e ▸ hc))]
  have e2 : (Own (p := PR ci) d (insert b S0) (put σ b g) : sProp (MM F)) = iprop(((thr d ci).loc b ↦{fullShare} put σ b g b) ∗ Own d S0 (put σ b g)) :=
    SparseCore.bigSep_insert' hb
  rw [e2, e, put_same]

theorem own_take {b : Ref sig (PR ci).kind} (hb : b ∉ S0) (σ : TS F ci) :
    (Own (p := PR ci) d (insert b S0) σ : sProp (MM F)) ⊢ iprop(((thr d ci).loc b ↦{fullShare} σ b) ∗ Own d S0 σ) :=
  Entails.of_eq (SparseCore.bigSep_insert' hb)

variable {b1 b2 : Bf} {p1 p2 : Memref sig .scVector .vmem S4096 .f32} {m1 m2 : MB} {a1 a2 : Memref sig .scVector .vmem S256 .i32}
variable {S0} {α : Type} (Q : α → sProp (MM F)) (k : FVec F S16 .f32 → TP (F := F) (PR ci) α) (t1 t2 : Tab)
  (f1 : t1.view.ty.Contents (Elt F)) (f2 : t2.view.ty.Contents (Elt F)) (base : Nat) (acc : FVec F S16 .f32)

theorem compute_wp (h2 : b2.view.ref ∉ S0) (h1 : b1.view.ref ∉ insert b2.view.ref S0) (hS : Sides (insert b1.view.ref (insert b2.view.ref S0)) b1 b2 p1 p2 m1 a1 m2 a2) :
    iprop(Has d ci t1 f1 b1 base ∗ Has d ci t2 f2 b2 base ∗ Work d S0
      ∗ (∀ acc', ⌜∀ x, acc' x = groupAcc negF (fun n => tabAt t1 f1 (base + n)) (fun n => tabAt t2 f2 (base + n)) (wd x) (acc x)⌝
          -∗ ((∃ g, (thr d ci).loc b1.view.ref ↦{fullShare} g) ∗ (∃ g, (thr d ci).loc b2.view.ref ↦{fullShare} g) ∗ Work d S0)
          -∗ wp frame (wpE (defs₀ (F := F)) 𝒱₀ (thr d ci) none) Set.univ (k acc') Q))
    ⊢ wp frame (wpE (defs₀ (F := F)) 𝒱₀ (thr d ci) none) Set.univ
        (computeP b1 b2 p1 p2 m1 a1 m2 a2 laneV negV mask0 (nth laneV (kvL kvec)) acc k) Q := by
  rw [computeP_bind, wp_bind]
  unfold Has Work
  iintro ⟨⟨%g1, %l1, Hb1⟩, ⟨%g2, %l2, Hb2⟩, ⟨%σ, Hw⟩, Hk⟩
  ihave Hw := (own_put d S0 h2 σ g2) $$ [Hb2 Hw]
  · isplitl [Hb2] <;> iassumption
  ihave Hw := (own_put d _ h1 _ g1) $$ [Hb1 Hw]
  · isplitl [Hb1] <;> iassumption
  have hne : b2.view.ref ≠ b1.view.ref := fun e => h1 (e ▸ Finset.mem_insert_self _ _)
  have e1 : ∀ n, bAt (ci := ci) b1 (put (put σ b2.view.ref g2) b1.view.ref g1) n = bufAt b1 g1 n := fun n => by
    unfold bAt bufAt rd; rw [put_same]
  have e2 : ∀ n, bAt (ci := ci) b2 (put (put σ b2.view.ref g2) b1.view.ref g1) n = bufAt b2 g2 n := fun n => by
    unfold bAt bufAt rd; rw [put_other _ _ hne, put_same]
  have hI := compute_spec (acc0 := acc) (k := .ret)
    (Q := fun acc' _ => ∀ x, acc' x = groupAcc negF (bufAt b1 g1) (bufAt b2 g2) (wd x) (acc x)) hS e1 e2 fun acc' σ' _ h => h
  iapply (wp_wand_r frame _ Set.univ)
  isplitl [Hw]
  · iapply (sound (defs := defs₀ (F := F)) 𝒱₀ d none Set.univ hI); iexact Hw
  iintro %acc' ⟨%σ', %he, Hw⟩
  ihave Hw := (own_take d _ h1 σ') $$ Hw
  icases Hw with ⟨Hb1, Hw⟩
  ihave Hw := (own_take d _ h2 σ') $$ Hw
  icases Hw with ⟨Hb2, Hw⟩
  iapply Hk $$ [] [Hb1 Hb2 Hw]
  · ipureintro
    intro x
    rw [he x]
    exact groupAcc_congr negF l1 l2 (wd_lt x) _
  · isplitl [Hb1]; · iexists _; iexact Hb1
    isplitl [Hb2]; · iexists _; iexact Hb2
    iexists σ'; iexact Hw

end

end Cert.Proof.Tile

end
-- ==== Proof.Steps.lean ====
/- The printed tile program is the structured one of Row.lean and Select.lean: effect by effect, both do the same. -/
module

public import proofs.«01_k».proof.Proof.Select

@[expose] public section

noncomputable section

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F]

set_option maxHeartbeats 4000000 in
theorem row1 (i : grid1.Coords) (arg2 : Memref sig .scVector .hbm S6291456 .f32) (harg2 : arg2.IsWhole) (arg3 : Memref sig .scVector .hbm S6291456 .f32) (harg3 : arg3.IsWhole) (arg4 : Memref sig .scVector .hbm S32x16 .f32) (harg4 : arg4.IsWhole) (arg5 : Memref sig .scVector .vmem S8200 .f32) (harg5 : arg5.IsWhole) (arg6 : Memref sig .scVector .vmem S8200 .f32) (harg6 : arg6.IsWhole) (arg7 : Memref sig .scVector .vmem S8200 .f32) (harg7 : arg7.IsWhole) (arg8 : Memref sig .scVector .vmem S8200 .f32) (harg8 : arg8.IsWhole) (arg9 : Memref sig .scVector .vmem S4096 .f32) (harg9 : arg9.IsWhole) (arg10 : Memref sig .scVector .vmem S4096 .f32) (harg10 : arg10.IsWhole) (arg11 : Memref sig .scVector .vmem S256 .f32) (harg11 : arg11.IsWhole) (arg12 : Memref sig .scVector .vmem S256 .i32) (harg12 : arg12.IsWhole) (arg13 : Memref sig .scVector .vmem S256 .f32) (harg13 : arg13.IsWhole) (arg14 : Memref sig .scVector .vmem S256 .i32) (harg14 : arg14.IsWhole) (arg15 : Memref sig .scVector .vmem S16 .f32) (harg15 : arg15.IsWhole) (arg16 : DmaSems sig S_) (arg17 : DmaSems sig S_) (v128_r0 : DmaSems sig S_) (v2 : IVec S16 32) (v6 : IVec S16 1) (k1_t2 : Fin k1_t2_loop.trips) :
    (do
    let ⟨v1746, k1_hw32, v1748⟩ : Σ' (v1746 : IVec S16 32) (k1_hw32 : k1_chk32 v1746), IVec S16 32 ← k1_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 v2 v6 0#32 1#32 k1_t2
    SparseCore.vectorStoreIdx arg12 ![v1746] v1748 v6 false (k1_idx48_inb v1746 k1_hw32) (View.stores_vmem_bits_univ h_S256 rfl)
    pure ⟨⟩) =
    rowP (F := F) (ci := i) arg5 arg9 arg11 arg12 v2 v6 (Scf.iv 0#32 1#32 k1_t2) (rowInb k1_t2) := by
  iterate 32 refine op_congr rfl fun _ => ?_
  iterate 16
    refine assume_congr rfl fun _ _ => ?_
    iterate 2 refine op_congr rfl fun _ => ?_
    refine assume_congr rfl fun _ _ => ?_
    iterate 4 refine op_congr rfl fun _ => ?_
  rfl

set_option maxHeartbeats 4000000 in
theorem row2 (i : grid1.Coords) (arg2 : Memref sig .scVector .hbm S6291456 .f32) (harg2 : arg2.IsWhole) (arg3 : Memref sig .scVector .hbm S6291456 .f32) (harg3 : arg3.IsWhole) (arg4 : Memref sig .scVector .hbm S32x16 .f32) (harg4 : arg4.IsWhole) (arg5 : Memref sig .scVector .vmem S8200 .f32) (harg5 : arg5.IsWhole) (arg6 : Memref sig .scVector .vmem S8200 .f32) (harg6 : arg6.IsWhole) (arg7 : Memref sig .scVector .vmem S8200 .f32) (harg7 : arg7.IsWhole) (arg8 : Memref sig .scVector .vmem S8200 .f32) (harg8 : arg8.IsWhole) (arg9 : Memref sig .scVector .vmem S4096 .f32) (harg9 : arg9.IsWhole) (arg10 : Memref sig .scVector .vmem S4096 .f32) (harg10 : arg10.IsWhole) (arg11 : Memref sig .scVector .vmem S256 .f32) (harg11 : arg11.IsWhole) (arg12 : Memref sig .scVector .vmem S256 .i32) (harg12 : arg12.IsWhole) (arg13 : Memref sig .scVector .vmem S256 .f32) (harg13 : arg13.IsWhole) (arg14 : Memref sig .scVector .vmem S256 .i32) (harg14 : arg14.IsWhole) (arg15 : Memref sig .scVector .vmem S16 .f32) (harg15 : arg15.IsWhole) (arg16 : DmaSems sig S_) (arg17 : DmaSems sig S_) (v128_r0 : DmaSems sig S_) (v2 : IVec S16 32) (v6 : IVec S16 1) (k1_t3 : Fin k1_t3_loop.trips) :
    (do
    let ⟨v1746, k1_hw64, v1748⟩ : Σ' (v1746 : IVec S16 32) (k1_hw64 : k1_chk64 v1746), IVec S16 32 ← k1_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 v2 v6 0#32 1#32 k1_t3
    SparseCore.vectorStoreIdx arg14 ![v1746] v1748 v6 false (k1_idx96_inb v1746 k1_hw64) (View.stores_vmem_bits_univ h_S256 rfl)
    pure ⟨⟩) =
    rowP (F := F) (ci := i) arg6 arg10 arg13 arg14 v2 v6 (Scf.iv 0#32 1#32 k1_t3) (rowInb k1_t3) := by
  iterate 32 refine op_congr rfl fun _ => ?_
  iterate 16
    refine assume_congr rfl fun _ _ => ?_
    iterate 2 refine op_congr rfl fun _ => ?_
    refine assume_congr rfl fun _ _ => ?_
    iterate 4 refine op_congr rfl fun _ => ?_
  rfl

set_option maxHeartbeats 4000000 in
theorem row3 (i : grid1.Coords) (arg2 : Memref sig .scVector .hbm S6291456 .f32) (harg2 : arg2.IsWhole) (arg3 : Memref sig .scVector .hbm S6291456 .f32) (harg3 : arg3.IsWhole) (arg4 : Memref sig .scVector .hbm S32x16 .f32) (harg4 : arg4.IsWhole) (arg5 : Memref sig .scVector .vmem S8200 .f32) (harg5 : arg5.IsWhole) (arg6 : Memref sig .scVector .vmem S8200 .f32) (harg6 : arg6.IsWhole) (arg7 : Memref sig .scVector .vmem S8200 .f32) (harg7 : arg7.IsWhole) (arg8 : Memref sig .scVector .vmem S8200 .f32) (harg8 : arg8.IsWhole) (arg9 : Memref sig .scVector .vmem S4096 .f32) (harg9 : arg9.IsWhole) (arg10 : Memref sig .scVector .vmem S4096 .f32) (harg10 : arg10.IsWhole) (arg11 : Memref sig .scVector .vmem S256 .f32) (harg11 : arg11.IsWhole) (arg12 : Memref sig .scVector .vmem S256 .i32) (harg12 : arg12.IsWhole) (arg13 : Memref sig .scVector .vmem S256 .f32) (harg13 : arg13.IsWhole) (arg14 : Memref sig .scVector .vmem S256 .i32) (harg14 : arg14.IsWhole) (arg15 : Memref sig .scVector .vmem S16 .f32) (harg15 : arg15.IsWhole) (arg16 : DmaSems sig S_) (arg17 : DmaSems sig S_) (v128_r0 : DmaSems sig S_) (v2 : IVec S16 32) (v6 : IVec S16 1) (k1_t5 : Fin k1_t5_loop.trips) :
    (do
    let ⟨v1746, k1_hw146, v1748⟩ : Σ' (v1746 : IVec S16 32) (k1_hw146 : k1_chk146 v1746), IVec S16 32 ← k1_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 v2 v6 0#32 1#32 k1_t5
    SparseCore.vectorStoreIdx arg12 ![v1746] v1748 v6 false (k1_idx194_inb v1746 k1_hw146) (View.stores_vmem_bits_univ h_S256 rfl)
    pure ⟨⟩) =
    rowP (F := F) (ci := i) arg7 arg9 arg11 arg12 v2 v6 (Scf.iv 0#32 1#32 k1_t5) (rowInb k1_t5) := by
  iterate 32 refine op_congr rfl fun _ => ?_
  iterate 16
    refine assume_congr rfl fun _ _ => ?_
    iterate 2 refine op_congr rfl fun _ => ?_
    refine assume_congr rfl fun _ _ => ?_
    iterate 4 refine op_congr rfl fun _ => ?_
  rfl

set_option maxHeartbeats 4000000 in
theorem row4 (i : grid1.Coords) (arg2 : Memref sig .scVector .hbm S6291456 .f32) (harg2 : arg2.IsWhole) (arg3 : Memref sig .scVector .hbm S6291456 .f32) (harg3 : arg3.IsWhole) (arg4 : Memref sig .scVector .hbm S32x16 .f32) (harg4 : arg4.IsWhole) (arg5 : Memref sig .scVector .vmem S8200 .f32) (harg5 : arg5.IsWhole) (arg6 : Memref sig .scVector .vmem S8200 .f32) (harg6 : arg6.IsWhole) (arg7 : Memref sig .scVector .vmem S8200 .f32) (harg7 : arg7.IsWhole) (arg8 : Memref sig .scVector .vmem S8200 .f32) (harg8 : arg8.IsWhole) (arg9 : Memref sig .scVector .vmem S4096 .f32) (harg9 : arg9.IsWhole) (arg10 : Memref sig .scVector .vmem S4096 .f32) (harg10 : arg10.IsWhole) (arg11 : Memref sig .scVector .vmem S256 .f32) (harg11 : arg11.IsWhole) (arg12 : Memref sig .scVector .vmem S256 .i32) (harg12 : arg12.IsWhole) (arg13 : Memref sig .scVector .vmem S256 .f32) (harg13 : arg13.IsWhole) (arg14 : Memref sig .scVector .vmem S256 .i32) (harg14 : arg14.IsWhole) (arg15 : Memref sig .scVector .vmem S16 .f32) (harg15 : arg15.IsWhole) (arg16 : DmaSems sig S_) (arg17 : DmaSems sig S_) (v128_r0 : DmaSems sig S_) (v2 : IVec S16 32) (v6 : IVec S16 1) (k1_t6 : Fin k1_t6_loop.trips) :
    (do
    let ⟨v1746, k1_hw178, v1748⟩ : Σ' (v1746 : IVec S16 32) (k1_hw178 : k1_chk178 v1746), IVec S16 32 ← k1_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 v2 v6 0#32 1#32 k1_t6
    SparseCore.vectorStoreIdx arg14 ![v1746] v1748 v6 false (k1_idx242_inb v1746 k1_hw178) (View.stores_vmem_bits_univ h_S256 rfl)
    pure ⟨⟩) =
    rowP (F := F) (ci := i) arg8 arg10 arg13 arg14 v2 v6 (Scf.iv 0#32 1#32 k1_t6) (rowInb k1_t6) := by
  iterate 32 refine op_congr rfl fun _ => ?_
  iterate 16
    refine assume_congr rfl fun _ _ => ?_
    iterate 2 refine op_congr rfl fun _ => ?_
    refine assume_congr rfl fun _ _ => ?_
    iterate 4 refine op_congr rfl fun _ => ?_
  rfl

set_option maxHeartbeats 8000000 in
theorem kstep1 (i : grid1.Coords) (arg2 : Memref sig .scVector .hbm S6291456 .f32) (harg2 : arg2.IsWhole) (arg3 : Memref sig .scVector .hbm S6291456 .f32) (harg3 : arg3.IsWhole) (arg4 : Memref sig .scVector .hbm S32x16 .f32) (harg4 : arg4.IsWhole) (arg5 : Memref sig .scVector .vmem S8200 .f32) (harg5 : arg5.IsWhole) (arg6 : Memref sig .scVector .vmem S8200 .f32) (harg6 : arg6.IsWhole) (arg7 : Memref sig .scVector .vmem S8200 .f32) (harg7 : arg7.IsWhole) (arg8 : Memref sig .scVector .vmem S8200 .f32) (harg8 : arg8.IsWhole) (arg9 : Memref sig .scVector .vmem S4096 .f32) (harg9 : arg9.IsWhole) (arg10 : Memref sig .scVector .vmem S4096 .f32) (harg10 : arg10.IsWhole) (arg11 : Memref sig .scVector .vmem S256 .f32) (harg11 : arg11.IsWhole) (arg12 : Memref sig .scVector .vmem S256 .i32) (harg12 : arg12.IsWhole) (arg13 : Memref sig .scVector .vmem S256 .f32) (harg13 : arg13.IsWhole) (arg14 : Memref sig .scVector .vmem S256 .i32) (harg14 : arg14.IsWhole) (arg15 : Memref sig .scVector .vmem S16 .f32) (harg15 : arg15.IsWhole) (arg16 : DmaSems sig S_) (arg17 : DmaSems sig S_) (v128_r0 : DmaSems sig S_) (v2 : IVec S16 32) (v3 : FVec F S16 .f32) (v12 v18 v24 v30 v36 v42 v48 v54 v60 v66 v72 v78 v84 v90 v96 v102 : IVec S16 32) (k1_t4 : Fin k1_t4_loop.trips) (arg21 : FVec F S16 .f32) :
    (do
    let ⟨v665, v668, v879, v882, v999, v1001⟩ : Σ' (v665 : Vec F S16 .f32) (v668 : Vec F S16 .f32) (v879 : Vec F S16 .f32) (v882 : Vec F S16 .f32) (v999 : IVec S16 32), IVec S16 32 ← k1_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 v2 v3 v12 v18 v24 v30 v36 v42 v48 v54 v60 v66 v72 v78 v84 v90 v96 v102 0#32 1#32 k1_t4
    have k1_hw108 : k1_chk108 v1001 := (← Prog.lift (TpuEff.assume (k1_chk108 v1001) (k1_chk108.dec v1001))).down
    SparseCore.vectorStoreIdx arg14 ![v1001] v999 (fun _ => 1#1) false (k1_idx140_inb v1001 k1_hw108) (View.stores_vmem_bits_univ h_S256 rfl)
    have v1002 : FVec F S16 .f32 := subf v665 v879
    have v1003 : FVec F S16 .f32 := subf v668 v882
    have v1004 : FVec F S16 .f32 := mulf v1002 v1002
    have v1005 : FVec F S16 .f32 := addf arg21 v1004
    have v1006 : FVec F S16 .f32 := mulf v1003 v1003
    have v1007 : FVec F S16 .f32 := addf v1005 v1006
    pure v1007) =
    kstepP (F := F) (ci := i) arg5 arg6 arg9 arg10 arg11 arg12 arg13 arg14 v2 v3 (nth v2 [v12, v18, v24, v30, v36, v42, v48, v54, v60, v66, v72, v78, v84, v90, v96, v102]) arg21 := by
  iterate 2
    iterate 16 refine op_congr rfl fun _ => ?_
    iterate 3
      refine assume_congr rfl fun _ _ => ?_
      refine op_congr rfl fun _ => ?_
    refine assume_congr rfl fun _ _ => ?_
    iterate 2 refine op_congr rfl fun _ => ?_
    iterate 16
      refine assume_congr rfl fun _ _ => ?_
      refine op_congr rfl fun _ => ?_
    iterate 2
      refine assume_congr rfl fun _ _ => ?_
      iterate 2 refine op_congr rfl fun _ => ?_
  rfl

set_option maxHeartbeats 8000000 in
theorem kstep2 (i : grid1.Coords) (arg2 : Memref sig .scVector .hbm S6291456 .f32) (harg2 : arg2.IsWhole) (arg3 : Memref sig .scVector .hbm S6291456 .f32) (harg3 : arg3.IsWhole) (arg4 : Memref sig .scVector .hbm S32x16 .f32) (harg4 : arg4.IsWhole) (arg5 : Memref sig .scVector .vmem S8200 .f32) (harg5 : arg5.IsWhole) (arg6 : Memref sig .scVector .vmem S8200 .f32) (harg6 : arg6.IsWhole) (arg7 : Memref sig .scVector .vmem S8200 .f32) (harg7 : arg7.IsWhole) (arg8 : Memref sig .scVector .vmem S8200 .f32) (harg8 : arg8.IsWhole) (arg9 : Memref sig .scVector .vmem S4096 .f32) (harg9 : arg9.IsWhole) (arg10 : Memref sig .scVector .vmem S4096 .f32) (harg10 : arg10.IsWhole) (arg11 : Memref sig .scVector .vmem S256 .f32) (harg11 : arg11.IsWhole) (arg12 : Memref sig .scVector .vmem S256 .i32) (harg12 : arg12.IsWhole) (arg13 : Memref sig .scVector .vmem S256 .f32) (harg13 : arg13.IsWhole) (arg14 : Memref sig .scVector .vmem S256 .i32) (harg14 : arg14.IsWhole) (arg15 : Memref sig .scVector .vmem S16 .f32) (harg15 : arg15.IsWhole) (arg16 : DmaSems sig S_) (arg17 : DmaSems sig S_) (v128_r0 : DmaSems sig S_) (v2 : IVec S16 32) (v3 : FVec F S16 .f32) (v12 v18 v24 v30 v36 v42 v48 v54 v60 v66 v72 v78 v84 v90 v96 v102 : IVec S16 32) (k1_t7 : Fin k1_t7_loop.trips) (arg21 : FVec F S16 .f32) :
    (do
    let ⟨v665, v668, v879, v882, v999, v1001⟩ : Σ' (v665 : Vec F S16 .f32) (v668 : Vec F S16 .f32) (v879 : Vec F S16 .f32) (v882 : Vec F S16 .f32) (v999 : IVec S16 32), IVec S16 32 ← k1_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 v2 v3 v12 v18 v24 v30 v36 v42 v48 v54 v60 v66 v72 v78 v84 v90 v96 v102 0#32 1#32 k1_t7
    have k1_hw222 : k1_chk222 v1001 := (← Prog.lift (TpuEff.assume (k1_chk222 v1001) (k1_chk222.dec v1001))).down
    SparseCore.vectorStoreIdx arg14 ![v1001] v999 (fun _ => 1#1) false (k1_idx286_inb v1001 k1_hw222) (View.stores_vmem_bits_univ h_S256 rfl)
    have v1002 : FVec F S16 .f32 := subf v665 v879
    have v1003 : FVec F S16 .f32 := subf v668 v882
    have v1004 : FVec F S16 .f32 := mulf v1002 v1002
    have v1005 : FVec F S16 .f32 := addf arg21 v1004
    have v1006 : FVec F S16 .f32 := mulf v1003 v1003
    have v1007 : FVec F S16 .f32 := addf v1005 v1006
    pure v1007) =
    kstepP (F := F) (ci := i) arg7 arg8 arg9 arg10 arg11 arg12 arg13 arg14 v2 v3 (nth v2 [v12, v18, v24, v30, v36, v42, v48, v54, v60, v66, v72, v78, v84, v90, v96, v102]) arg21 := by
  iterate 2
    iterate 16 refine op_congr rfl fun _ => ?_
    iterate 3
      refine assume_congr rfl fun _ _ => ?_
      refine op_congr rfl fun _ => ?_
    refine assume_congr rfl fun _ _ => ?_
    iterate 2 refine op_congr rfl fun _ => ?_
    iterate 16
      refine assume_congr rfl fun _ _ => ?_
      refine op_congr rfl fun _ => ?_
    iterate 2
      refine assume_congr rfl fun _ _ => ?_
      iterate 2 refine op_congr rfl fun _ => ?_
  rfl

end Cert.Proof.Tile

end
-- ==== Proof.Body.lean ====
/- The printed tile body is the structured one. -/
module

public import proofs.«01_k».proof.Proof.Steps

@[expose] public section

noncomputable section

namespace Cert.Proof.Tile

open Cert.KernelIdeal
open Idealize.ShloMosaic Idealize.SL.Sem
open Cert.Proof.Local
open Cert.KernelIdeal.Facts₀ Cert.KernelIdeal.Facts

variable {F : FTy → Type} [FloatOps F] [Named F]

set_option maxHeartbeats 8000000 in
theorem body_eq (i : grid1.Coords) (arg2 : Memref sig .scVector .hbm S6291456 .f32) (harg2 : arg2.IsWhole) (arg3 : Memref sig .scVector .hbm S6291456 .f32) (harg3 : arg3.IsWhole) (arg4 : Memref sig .scVector .hbm S32x16 .f32) (harg4 : arg4.IsWhole) (arg5 : Memref sig .scVector .vmem S8200 .f32) (harg5 : arg5.IsWhole) (arg6 : Memref sig .scVector .vmem S8200 .f32) (harg6 : arg6.IsWhole) (arg7 : Memref sig .scVector .vmem S8200 .f32) (harg7 : arg7.IsWhole) (arg8 : Memref sig .scVector .vmem S8200 .f32) (harg8 : arg8.IsWhole) (arg9 : Memref sig .scVector .vmem S4096 .f32) (harg9 : arg9.IsWhole) (arg10 : Memref sig .scVector .vmem S4096 .f32) (harg10 : arg10.IsWhole) (arg11 : Memref sig .scVector .vmem S256 .f32) (harg11 : arg11.IsWhole) (arg12 : Memref sig .scVector .vmem S256 .i32) (harg12 : arg12.IsWhole) (arg13 : Memref sig .scVector .vmem S256 .f32) (harg13 : arg13.IsWhole) (arg14 : Memref sig .scVector .vmem S256 .i32) (harg14 : arg14.IsWhole) (arg15 : Memref sig .scVector .vmem S16 .f32) (harg15 : arg15.IsWhole) (arg16 : DmaSems sig S_) (arg17 : DmaSems sig S_) (v128_r0 : DmaSems sig S_) :
    cc1__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 =
    bodyP (F := F) i arg2 arg3 arg4 arg5 arg6 arg7 arg8 arg9 arg10 arg11 arg12 arg13 arg14 arg15 harg15 arg16 arg17 v128_r0 := by
  iterate 2 refine op_congr rfl fun _ => ?_
  refine bind_congr (for_congr fun k1 acc => ?_) fun acc => ?_
  · iterate 4 refine op_congr rfl fun _ => ?_
    refine ret_congr2 ?_
    refine bind_congr2 (for_congr fun k _ => row1 i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 _ _ k) fun _ => ?_
    refine bind_congr2 (for_congr fun k _ => row2 i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 _ _ k) fun _ => ?_
    refine ret_congr ?_
    refine bind_congr2 (for_congr fun k a => kstep1 i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 _ _ _ _ _ _ _ _ _ _ _ _ _ _ _ _ _ _ k a) fun _ => ?_
    iterate 2
      iterate 16 refine op_congr rfl fun _ => ?_
      iterate 3
        refine assume_congr rfl fun _ _ => ?_
        refine op_congr rfl fun _ => ?_
    iterate 4 refine op_congr rfl fun _ => ?_
    refine ret_congr2 ?_
    refine bind_congr2 (for_congr fun k _ => row3 i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 _ _ k) fun _ => ?_
    refine bind_congr2 (for_congr fun k _ => row4 i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 _ _ k) fun _ => ?_
    refine bind_congr2 (for_congr fun k a => kstep2 i arg2 harg2 arg3 harg3 arg4 harg4 arg5 harg5 arg6 harg6 arg7 harg7 arg8 harg8 arg9 harg9 arg10 harg10 arg11 harg11 arg12 harg12 arg13 harg13 arg14 harg14 arg15 harg15 arg16 arg17 v128_r0 _ _ _ _ _ _ _ _ _ _ _ _ _ _ _ _ _ _ k a) fun _ => ?_
    iterate 2
      iterate 16 refine op_congr rfl fun _ => ?_
      iterate 3
        refine assume_congr rfl fun _ _ => ?_
        refine op_congr rfl fun _ => ?_
    rfl
  · iterate 6 refine op_congr rfl fun _ => ?_
    rfl

end Cert.Proof.Tile

end
-- ==== Proof.Tile.lean ====
/- A tile's whole task: the groups' copies and computations in turn, and the sums' copy out. -/
module

public import proofs.«01_k».proof.Proof.Group
public import proofs.«01_k».proof.Proof.Body

@[expose] public section

noncomputable section

namespace Cert.Proof.Tile

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Local
open Cert.KernelIdeal.Facts₀ Cert.KernelIdeal.Facts

variable {F : FTy → Type} [FloatOps F] [Named F]

/-- Lane `r`'s sum over the first `n` groups of tile `w`. -/
def tileAcc (neg : F .f32) (T1 T2 : Nat → F .f32) (w r : Nat) : Nat → F .f32
  | 0 => Scalar.ofBits .f32 0x00000000#32
  | g + 1 => groupAcc neg (fun n => T1 ((w * 24 + g) * 8192 + n)) (fun n => T2 ((w * 24 + g) * 8192 + n)) r (tileAcc neg T1 T2 w r g)

/-- The tile's number, and the first word of its group `g`. -/
def wid (i : grid1.Coords) : Nat := 2 * (i 1).val + (i 0).val
def baseOf (i : grid1.Coords) (g : Nat) : Nat := (wid i * 24 + g % 24) * 8192

theorem off1_base (i : grid1.Coords) : k1_off1 i 0 = baseOf i 0 := by
  rw [Cert.KernelIdeal.Gen.k1_off1_eq]; show 393216 * (i 1).val + 196608 * (i 0).val = _; unfold baseOf wid; omega
theorem off2_base (i : grid1.Coords) (k : Fin k1_t1_loop.trips) : k1_off2 i k 0 = baseOf i (2 * k.val + 1) := by
  have hk : k.val < 12 := Nat.lt_of_lt_of_eq k.isLt (by decide)
  rw [Cert.KernelIdeal.Gen.k1_off2_eq]; show 393216 * (i 1).val + 196608 * (i 0).val + 16384 * k.val + 8192 = _; unfold baseOf wid; omega
theorem off8_base (i : grid1.Coords) (k : Fin k1_t1_loop.trips) : k1_off8 i k 0 = baseOf i (2 * (k.val + 1)) := by
  have hk : k.val < 12 := Nat.lt_of_lt_of_eq k.isLt (by decide)
  rw [Cert.KernelIdeal.Gen.k1_off8_eq]; show 393216 * (i 1).val + 196608 * (i 0).val + 8192 * ((2 * k.val + 2) % 24) = _; unfold baseOf wid; omega

structure Good (S0 : Finset (Ref sig .scVector)) (b1 b2 : Bf) (p1 p2 : Memref sig .scVector .vmem S4096 .f32) (m1 : MB) (a1 : Memref sig .scVector .vmem S256 .i32)
    (m2 : MB) (a2 : Memref sig .scVector .vmem S256 .i32) : Prop where
  h2 : b2.view.ref ∉ S0
  h1 : b1.view.ref ∉ insert b2.view.ref S0
  hS : Sides (insert b1.view.ref (insert b2.view.ref S0)) b1 b2 p1 p2 m1 a1 m2 a2
  hc : (bSl b2).view.dmaCredit = (bSl b1).view.dmaCredit
  h0 : 0 < (bSl b1).view.dmaCredit

section

variable (d : Dev nD) (i : grid1.Coords) (t1 t2 : Tab) (out : Memref sig .scVector .hbm S32x16 .f32)
  (b1a b2a b1b b2b : Bf) (p1 p2 : Memref sig .scVector .vmem S4096 .f32) (m1 : MB) (a1 : Memref sig .scVector .vmem S256 .i32)
  (m2 : MB) (a2 : Memref sig .scVector .vmem S256 .i32) (acv : Memref sig .scVector .vmem S16 .f32) (hacv : acv.IsWhole) (sa sb sc : DmaSems sig S_)
  (S0 : Finset (Ref sig .scVector)) (qa qb : PosShare TreeShare) (f1 : t1.view.ty.Contents (Elt F)) (f2 : t2.view.ty.Contents (Elt F))
  (O : CellTallies nD τ sig (HIx 1)) (W : Waits sig (HIx 1)) (X : sProp (MM F)) [BI.Persistent X]

/-- The waits so far: the task's own, at no handshake, and those before it. -/
def Waited : sProp (MM F) := iprop(∃ W', ⌜∀ p ∈ W', p ∈ W ∨ p.2 = none⌝ ∗ owes (thr d i) O W')

/-- Some contents of a buffer. -/
abbrev Some' (b : Bf) : sProp (MM F) := iprop(∃ g, (thr d i).loc b.view.ref ↦{fullShare} g)

abbrev acc2 (t1 t2 : Tab) (f1 : t1.view.ty.Contents (Elt F)) (f2 : t2.view.ty.Contents (Elt F)) (w r n : Nat) : F .f32 :=
  tileAcc negF (tabAt t1 f1) (tabAt t2 f2) w r n

/-- Before trip `k`: the sums of the first `2k` groups, the next group on its way into the first pair of buffers. -/
def Trip (k : Nat) (acc : FVec F S16 .f32) : sProp (MM F) :=
  iprop(⌜∀ x, acc x = acc2 t1 t2 f1 f2 (wid i) (wd x) (2 * k)⌝
    ∗ Fly d t1 t2 b1a b2a sa qa f1 f2 i (baseOf i (2 * k)) ∗ Rest d t1 t2 sb qb f1 f2 i ∗ Some' d i b1b ∗ Some' d i b2b
    ∗ Work (ci := i) d S0 ∗ Waited d i O W)

theorem trip_wp (hA : Good S0 b1a b2a p1 p2 m1 a1 m2 a2) (hB : Good S0 b1b b2b p1 p2 m1 a1 m2 a2)
    (hXa : X ⊢ MayWait (thr d i) (.dma sa.sem) none O) (hXb : X ⊢ MayWait (thr d i) (.dma sb.sem) none O)
    (k : Fin k1_t1_loop.trips) (acc : FVec F S16 .f32) :
    iprop(X ∗ Trip d i t1 t2 b1a b2a b1b b2b sa sb S0 qa qb f1 f2 O W k.val acc)
    ⊢ wp frame (wpE (defs₀ (F := F)) 𝒱₀ (thr d i) none) Set.univ
        (pairP i t1 t2 b1a b2a b1b b2b p1 p2 m1 a1 m2 a2 sa sb k acc)
        fun acc => iprop(X ∗ Trip d i t1 t2 b1a b2a b1b b2b sa sb S0 qa qb f1 f2 O W (k.val + 1) acc) := by
  have hk : k.val < 12 := Nat.lt_of_lt_of_eq k.isLt (by decide)
  unfold Trip pairP Waited
  iintro ⟨#HX, %hacc, Hfa, Hrb, Hb1, Hb2, Hw, %W1, %hW1, HO⟩
  iapply (start_wp d t1 t2 b1b b2b sb (k1_off2 i k) (k1_off2_inb i k) qb f1 f2 _ _ hB.hc _ (off2_base i k))
  isplitl [Hrb]; · iexact Hrb
  isplitl [Hb1]; · iexact Hb1
  isplitl [Hb2]; · iexact Hb2
  iintro Hfb
  iapply (await_wp d t1 t2 b1a b2a sa (k1_off3 i) (k1_off3_inb i) qa f1 f2 _ _ hA.hc hA.h0 _ O W1 X hXa)
  isplitr; · iexact HX
  isplitl [Hfa]; · iexact Hfa
  isplitl [HO]; · iexact HO
  iintro ⟨Hra, Hh1, Hh2, HO⟩
  iapply (compute_wp d _ _ t1 t2 f1 f2 _ acc hA.h2 hA.h1 hA.hS)
  isplitl [Hh1]; · iexact Hh1
  isplitl [Hh2]; · iexact Hh2
  isplitl [Hw]; · iexact Hw
  iintro %acc1 %e1 ⟨Hb1, Hb2, Hw⟩
  iapply (start_wp d t1 t2 b1a b2a sa (k1_off8 i k) (k1_off8_inb i k) qa f1 f2 _ _ hA.hc _ (off8_base i k))
  isplitl [Hra]; · iexact Hra
  isplitl [Hb1]; · iexact Hb1
  isplitl [Hb2]; · iexact Hb2
  iintro Hfa
  iapply (await_wp d t1 t2 b1b b2b sb (k1_off9 i) (k1_off9_inb i) qb f1 f2 _ _ hB.hc hB.h0 _ O _ X hXb)
  isplitr; · iexact HX
  isplitl [Hfb]; · iexact Hfb
  isplitl [HO]; · iexact HO
  iintro ⟨Hrb, Hh1, Hh2, HO⟩
  iapply (compute_wp d _ _ t1 t2 f1 f2 _ acc1 hB.h2 hB.h1 hB.hS)
  isplitl [Hh1]; · iexact Hh1
  isplitl [Hh2]; · iexact Hh2
  isplitl [Hw]; · iexact Hw
  iintro %acc2 %e2 ⟨Hb1, Hb2, Hw⟩
  rw [wp_ret]; imodintro
  isplitr; · iexact HX
  isplitr
  · ipureintro
    intro x
    rw [e2 x, e1 x, hacc x]
    unfold baseOf
    rw [Nat.mod_eq_of_lt (show 2 * k.val < 24 by omega), Nat.mod_eq_of_lt (show 2 * k.val + 1 < 24 by omega)]
    rfl
  isplitl [Hfa]; · iexact Hfa
  isplitl [Hrb]; · iexact Hrb
  isplitl [Hb1]; · iexact Hb1
  isplitl [Hb2]; · iexact Hb2
  isplitl [Hw]; · iexact Hw
  iexists (insert (SemLoc.dma sb.sem, none) (insert (SemLoc.dma sa.sem, none) W1))
  isplitr
  · ipureintro
    exact fun p hp => by
      rcases Finset.mem_insert.mp hp with rfl | hp
      · exact .inr rfl
      rcases Finset.mem_insert.mp hp with rfl | hp
      · exact .inr rfl
      exact hW1 p hp
  · iexact HO

/-- The tile's row of the output. -/
abbrev oSl (out : Memref sig .scVector .hbm S32x16 .f32) (i : grid1.Coords) : Memref sig .scVector .hbm S16 .f32 :=
  (out.slice (Rect.unit (s := S32x16) (k1_off15 i) S1x16.size (k1_off15_inb i)) (fun _ => rfl)).squeeze S16 squeezes_S1x16_S16

/-- The tile's row of the output at given values. -/
def OutRow (v : Nat → F .f32) : sProp (MM F) :=
  iprop(∃ f, ⌜∀ x, (oSl out i).view.read (Elt F) f x = v (wd x)⌝ ∗ (thr d i).loc out.view.ref ↦[(oSl out i).view.set]{fullShare} f)

def OutAcv (v : Nat → F .f32) (g : acv.view.ty.Contents (Elt F)) (_ : Fin 1) : sProp (MM F) :=
  iprop(OutRow d i out v ∗ ((thr d i).loc acv.view.ref ↦[acv.view.set]{fullShare} g))

instance (v : Nat → F .f32) (g : acv.view.ty.Contents (Elt F)) (j : Fin 1) :
    Storable (upEmb : UEmb _ (MM F)) (OutAcv d i out acv v g j) := by
  unfold OutAcv OutRow; infer_instance

variable {α : Type} (Q : α → sProp (MM F)) (k : TP (F := F) (PR i) α)

/-- The sums into their buffer. -/
theorem acv_wp (hac : acv.view.ref ∉ S0) (acc : FVec F S16 .f32) :
    iprop((∃ g, (thr d i).loc acv.view.ref ↦{fullShare} g) ∗ Work (ci := i) d S0
      ∗ (((∃ g, ⌜acv.view.read (Elt F) g = acc⌝ ∗ (thr d i).loc acv.view.ref ↦{fullShare} g) ∗ Work (ci := i) d S0)
        -∗ wp frame (wpE (defs₀ (F := F)) 𝒱₀ (thr d i) none) Set.univ k Q))
    ⊢ wp frame (wpE (defs₀ (F := F)) 𝒱₀ (thr d i) none) Set.univ
      (.op (.load acv (Rect.unit (s := S16) ![0] S16.size inb_S16_S16_0).toLoadRect (View.loadsAt_vmem h_S16)) fun _ =>
       .op (.store acv (Rect.unit (s := S16) ![0] S16.size inb_S16_S16_0) acc Finset.univ (View.stores_vmem_bits_univ h_S16 rfl) (.inl rfl)) fun _ => k) Q := by
  have hb : (.op (.load acv (Rect.unit (s := S16) ![0] S16.size inb_S16_S16_0).toLoadRect (View.loadsAt_vmem h_S16)) fun _ =>
       .op (.store acv (Rect.unit (s := S16) ![0] S16.size inb_S16_S16_0) acc Finset.univ (View.stores_vmem_bits_univ h_S16 rfl) (.inl rfl)) fun _ => k : TP (F := F) (PR i) α)
    = (.op (.load acv (Rect.unit (s := S16) ![0] S16.size inb_S16_S16_0).toLoadRect (View.loadsAt_vmem h_S16)) fun _ =>
       .op (.store acv (Rect.unit (s := S16) ![0] S16.size inb_S16_S16_0) acc Finset.univ (View.stores_vmem_bits_univ h_S16 rfl) (.inl rfl)) fun _ => .ret ⟨⟩ : TP (F := F) (PR i) PUnit) >>= fun _ => k := rfl
  rw [hb, wp_bind]
  unfold Work
  iintro ⟨⟨%g, Ha⟩, ⟨%σ, Hw⟩, Hk⟩
  ihave Hw := (own_put d S0 hac σ g) $$ [Ha Hw]
  · isplitl [Ha] <;> iassumption
  have hI : I (p := PR i) (insert acv.view.ref S0)
      (.op (.load acv (Rect.unit (s := S16) ![0] S16.size inb_S16_S16_0).toLoadRect (View.loadsAt_vmem h_S16)) fun _ =>
       .op (.store acv (Rect.unit (s := S16) ![0] S16.size inb_S16_S16_0) acc Finset.univ (View.stores_vmem_bits_univ h_S16 rfl) (.inl rfl)) fun _ => .ret ⟨⟩ : TP (F := F) (PR i) PUnit)
      (put σ acv.view.ref g) fun _ σ' => acv.view.read (Elt F) (σ' acv.view.ref) = acc := by
    refine ⟨Finset.mem_insert_self _ _, Finset.mem_insert_self _ _, ?_⟩
    refine (congrArg (fun f => acv.view.read (Elt F) f) (put_same (p := PR i) _ acv.view.ref _)).trans ?_
    funext x
    have ex : x = (Rect.unit (s := S16) ![0] S16.size inb_S16_S16_0).emb x := wd_ext (N := 16) (by show wd (N := 16) x = 0 + 1 * wd (N := 16) x; omega)
    conv => lhs; rw [ex]
    exact congrFun (View.read_write_univ (v := acv.access (Rect.unit (s := S16) ![0] S16.size inb_S16_S16_0)) (Val := Elt F) _ acc) x
  iapply (wp_wand_r frame _ Set.univ)
  isplitl [Hw]
  · iapply (sound (defs := defs₀ (F := F)) 𝒱₀ d none Set.univ hI); iexact Hw
  iintro %_ ⟨%σ', %he, Hw⟩
  ihave Hw := (own_take d _ hac σ') $$ Hw
  icases Hw with ⟨Ha, Hw⟩
  iapply Hk
  isplitl [Ha]
  · iexists _; isplitr; · ipureintro; exact he
    iexact Ha
  · iexists σ'; iexact Hw

theorem out_intro (g : acv.view.ty.Contents (Elt F)) (fd : out.view.ty.Contents (Elt F)) (v : Nat → F .f32) (hv : ∀ x, acv.view.read (Elt F) g x = v (wd x)) :
    iprop(((oSl out i).view.loc (thr d i) ↦[(oSl out i).view.set]{fullShare}
        ((oSl out i).view.write (Elt F) fd ((ReadAs.same : ReadAs (Elt F) S16 .f32 S16 .f32).apply (acv.view.read (Elt F) g)) Finset.univ))
      ∗ (acv.view.loc (thr d i) ↦[acv.view.set]{fullShare} g)) ⊢ OutAcv d i out acv v g 0 := by
  unfold OutAcv OutRow
  iintro ⟨Ho, Ha⟩
  isplitl [Ho]
  · iexists _
    isplitr
    · ipureintro
      intro x
      exact (congrFun (View.read_write_univ (v := (oSl out i).view) (Val := Elt F) fd (acv.view.read (Elt F) g)) x).trans (hv x)
    · iexact Ho
  · iexact Ha

/-- What the task starts from: both tables twice over, a share for each pair of buffers, the tile's row of the output and
    its own buffers and semaphores. -/
def Start : sProp (MM F) :=
  iprop(Rest d t1 t2 sa qa f1 f2 i ∗ Rest d t1 t2 sb qb f1 f2 i ∗ Some' d i b1a ∗ Some' d i b2a ∗ Some' d i b1b ∗ Some' d i b2b
    ∗ (∃ g, (thr d i).loc acv.view.ref ↦{fullShare} g) ∗ Work (ci := i) d S0 ∗ semVal (thr d i, .dma sc.sem) 0)

theorem body_wp (hA : Good S0 b1a b2a p1 p2 m1 a1 m2 a2) (hB : Good S0 b1b b2b p1 p2 m1 a1 m2 a2) (hac : acv.view.ref ∉ S0)
    (ho : 0 < (oSl out i).view.dmaCredit)
    (hXa : X ⊢ MayWait (thr d i) (.dma sa.sem) none O) (hXb : X ⊢ MayWait (thr d i) (.dma sb.sem) none O) (hXc : X ⊢ MayWait (thr d i) (.dma sc.sem) none O) :
    iprop(X ∗ Start d i t1 t2 b1a b2a b1b b2b acv sa sb sc S0 qa qb f1 f2 ∗ (∃ f, (thr d i).loc out.view.ref ↦[(oSl out i).view.set]{fullShare} f) ∗ owes (thr d i) O W)
    ⊢ wp frame (wpE (defs₀ (F := F)) 𝒱₀ (thr d i) none) Set.univ
        (bodyP i t1 t2 out b1a b2a b1b b2b p1 p2 m1 a1 m2 a2 acv hacv sa sb sc)
        fun _ => iprop(Start d i t1 t2 b1a b2a b1b b2b acv sa sb sc S0 qa qb f1 f2 ∗ OutRow d i out (fun r => acc2 t1 t2 f1 f2 (wid i) r 24) ∗ Waited d i O W) := by
  unfold Start bodyP
  iintro ⟨#HX, ⟨Hra, Hrb, Ha1, Ha2, Hb1, Hb2, Hac, Hw, Hsc⟩, Ho, HO⟩
  iapply (start_wp d t1 t2 b1a b2a sa (k1_off1 i) (k1_off1_inb i) qa f1 f2 _ _ hA.hc _ (off1_base i))
  isplitl [Hra]; · iexact Hra
  isplitl [Ha1]; · iexact Ha1
  isplitl [Ha2]; · iexact Ha2
  iintro Hfa
  iapply (Scf.wp_for_bind frame _ Set.univ 0#32 12#32 1#32 k1_t1_ok _ _
    (fun k acc => iprop(X ∗ Trip d i t1 t2 b1a b2a b1b b2b sa sb S0 qa qb f1 f2 O W k acc))
    (fun k acc => trip_wp d i t1 t2 b1a b2a b1b b2b p1 p2 m1 a1 m2 a2 sa sb S0 qa qb f1 f2 O W X hA hB hXa hXb k acc)) $$ [Hfa Hrb Hb1 Hb2 Hw HO]
  · isplitr; · iexact HX
    unfold Trip Waited
    isplitr; · ipureintro; exact fun x => rfl
    isplitl [Hfa]; · iexact Hfa
    isplitl [Hrb]; · iexact Hrb
    isplitl [Hb1]; · iexact Hb1
    isplitl [Hb2]; · iexact Hb2
    isplitl [Hw]; · iexact Hw
    iexists W
    isplitr; · ipureintro; exact fun p hp => .inl hp
    iexact HO
  rw [show Scf.trips 0#32 12#32 1#32 = 12 by decide]
  unfold Trip Waited
  iintro %acc ⟨-, %hacc, Hfa, Hrb, Hb1, Hb2, Hw, %W1, %hW1, HO⟩
  unfold tailP
  iapply (await_wp d t1 t2 b1a b2a sa (k1_off14 i) (k1_off14_inb i) qa f1 f2 _ _ hA.hc hA.h0 _ O W1 X hXa)
  isplitr; · iexact HX
  isplitl [Hfa]; · iexact Hfa
  isplitl [HO]; · iexact HO
  unfold Has
  iintro ⟨Hra, ⟨%g1, -, Ha1⟩, ⟨%g2, -, Ha2⟩, HO⟩
  iapply (acv_wp d i acv S0 _ _ hac acc)
  isplitl [Hac]; · iexact Hac
  isplitl [Hw]; · iexact Hw
  iintro ⟨⟨%g, %hg, Hac⟩, Hw⟩
  have hv : ∀ x, acv.view.read (Elt F) g x = acc2 t1 t2 f1 f2 (wid i) (wd x) 24 := fun x => (congrFun hg x).trans (hacc x)
  icases Ho with ⟨%fd, Ho⟩
  ihave H1 := (pointsTo_split_subset (f := g) (Finset.subset_univ acv.view.set)).1 $$ Hac
  icases H1 with ⟨Hac, Hacr⟩
  imod (Transfers.batch_alloc' countersEmb (thr d i) none (oSl out i).view.dmaCredit (OutAcv d i out acv (fun r => acc2 t1 t2 f1 f2 (wid i) r 24) g) (sm := .dma sc.sem) (E := Set.univ)) $$ Hsc with HB
  iapply (Transfers.wp_dmaBatch countersEmb 𝒱₀ (thr d i) none (src := acv) (dst := oSl out i) (via := .same)
    (Sd := (oSl out i).view.set) (fd := fd) (fs := g) (q := fullShare) (D := OutAcv d i out acv (fun r => acc2 t1 t2 f1 f2 (wid i) r 24) g) (j := 0) (u := 0) (sm := .dma sc.sem) none
    (oSl out i).view.dmaCredit rfl (Finset.Subset.refl _) (by decide) (Nat.zero_le _)
    (out_intro d i out acv g fd (fun r => acc2 t1 t2 f1 f2 (wid i) r 24) hv)) $$ [Hac Ho HB]
  · isplitl [Hac]; · iexact Hac
    isplitl [Ho]; · iexact Ho
    iexact HB
  iintro HB
  iapply (Transfers.wp_waitBatchLastO countersEmb 𝒱₀ (thr d i) none none (N := (oSl out i).view.dmaCredit) (O := O) (W := insert (SemLoc.dma sa.sem, none) W1) rfl ho
    (D := OutAcv d i out acv (fun r => acc2 t1 t2 f1 f2 (wid i) r 24) g) (u := 0) (by omega)) $$ [HB HO]
  · isplitl [HB]; · iexact HB
    isplitl [HO]; · iexact HO
    iapply hXc; iexact HX
  iintro ⟨HD, Hsc, HO⟩
  ihave HD := (show bigSep Finset.univ (OutAcv d i out acv (fun r => acc2 t1 t2 f1 f2 (wid i) r 24) g) ⊢ OutAcv d i out acv (fun r => acc2 t1 t2 f1 f2 (wid i) r 24) g 0
    from Entails.of_eq (bigSep_univ_of_subsingleton (0 : Fin 1))) $$ HD
  unfold OutAcv
  icases HD with ⟨Ho, Hac⟩
  rw [wp_ret]; imodintro
  isplitr [Ho HO]
  · isplitl [Hra]; · iexact Hra
    isplitl [Hrb]; · iexact Hrb
    isplitl [Ha1]; · iexists _; iexact Ha1
    isplitl [Ha2]; · iexists _; iexact Ha2
    isplitl [Hb1]; · iexact Hb1
    isplitl [Hb2]; · iexact Hb2
    isplitl [Hac Hacr]
    · iexists g
      iapply (pointsTo_split_subset (f := g) (Finset.subset_univ acv.view.set)).2; isplitl [Hac] <;> iassumption
    isplitl [Hw]; · iexact Hw
    iexact Hsc
  isplitl [Ho]; · iexact Ho
  iexists (insert (SemLoc.dma sc.sem, none) (insert (SemLoc.dma sa.sem, none) W1))
  isplitr
  · ipureintro
    exact fun p hp => by
      rcases Finset.mem_insert.mp hp with rfl | hp
      · exact .inr rfl
      rcases Finset.mem_insert.mp hp with rfl | hp
      · exact .inr rfl
      exact hW1 p hp
  · iexact HO

end

end Cert.Proof.Tile

end
-- ==== Proof.TileRun.lean ====
/- One tile of the SparseCore call: what it is handed, its body, and what it hands back. -/
module

public import proofs.«01_k».proof.Proof.Tile

@[expose] public section

noncomputable section

namespace Cert.Proof.Tile

open Cert.KernelIdeal
open Idealize.ShloMosaic
open Idealize.ShloMosaic.SparseCore (S V T)
open Idealize.ShloMosaic.SparseCore.Cfg (HIx Pay ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem
open Cert.Proof.Local
open Cert.KernelIdeal.Facts₀ Cert.KernelIdeal.Facts

variable {F : FTy → Type} [FloatOps F] [Named F]

/-! ## Shares of a table -/

section Shares

variable {ℓ : Loc nD τ sig} {f : Buf (Elt F) ℓ} (q : PosShare TreeShare)

omit [FloatOps F] [Named F] in
theorem share_halves : (ℓ ↦{q} f : sProp (MM F)) ⊣⊢ iprop((ℓ ↦{q.left} f) ∗ ℓ ↦{q.right} f) :=
  pointsTo_share (PosShare.mem_left_op_right _)

end Shares

/-! ## The tile's own buffers and semaphores -/

section OwnState

variable (d : Dev nD) (i : grid1.Coords)

/-- A set of buffers, each at something, is the working set at one state. -/
theorem work_intro [∀ e, Nonempty (Elt F e)] (S0 : Finset (Ref sig .scVector)) :
    (bigSep S0 fun b => iprop(∃ f, (thr d i).loc b ↦{fullShare} f) : sProp (MM F)) ⊢ Work (ci := i) d S0 := by
  classical
  induction S0 using Finset.induction_on with
  | empty =>
    unfold Work Own
    iintro -
    iexists (fun b _ => Classical.choice (inferInstance : Nonempty (Elt F b.ty.elt)))
    rw [bigSep_empty]; iempintro
  | insert b S0 hb ih =>
    rw [SparseCore.bigSep_insert' hb]
    iintro ⟨⟨%f, Hb⟩, H⟩
    ihave Hw := ih $$ H
    unfold Work
    icases Hw with ⟨%σ, Hw⟩
    iexists (put σ b f)
    iapply (own_put (ci := i) d S0 hb σ f)
    isplitl [Hb]; · iexact Hb
    iexact Hw

theorem work_elim (S0 : Finset (Ref sig .scVector)) :
    (Work (ci := i) d S0 : sProp (MM F)) ⊢ bigSep S0 fun b => iprop(∃ f, (thr d i).loc b ↦{fullShare} f) := by
  unfold Work Own
  iintro ⟨%σ, H⟩
  have h : (bigSep S0 fun b => ((thr d i).loc b ↦{fullShare} σ b : sProp (MM F))) ⊢ bigSep S0 fun b => iprop(∃ f, (thr d i).loc b ↦{fullShare} f) :=
    bigSep_mono fun b _ =>
      show ((thr d i).loc b ↦{fullShare} σ b : sProp (MM F)) ⊢ iprop(∃ f, (thr d i).loc b ↦{fullShare} f) by iintro H; iexists (σ b); iexact H
  iapply h
  iexact H

abbrev S0 : Finset (Ref sig .scVector) := {cc1_scratch4, cc1_scratch5, cc1_scratch6, cc1_scratch7, cc1_scratch8, cc1_scratch9}
abbrev SAll : Finset (Ref sig .scVector) :=
  insert cc1_scratch0 (insert cc1_scratch1 (insert cc1_scratch2 (insert cc1_scratch3 (insert cc1_scratch10 S0))))

abbrev AnyAt (b : Ref sig .scVector) : sProp (MM F) := iprop(∃ f, (thr d i).loc b ↦{fullShare} f)

omit [FloatOps F] [Named F] in
theorem ownBufs_eq :
    (ownBufs (thr d i) : sProp (MM F))
      = iprop((AnyAt d i cc1_scratch0 ∗ AnyAt d i cc1_scratch1 ∗ AnyAt d i cc1_scratch2 ∗ AnyAt d i cc1_scratch3 ∗ AnyAt d i cc1_scratch10
          ∗ bigSep S0 (AnyAt d i))
        ∗ bigSep (ownRefs (τ := τ) (PR i) \ SAll.image (PR i).devRef) fun b => iprop(∃ f, ((d, b) : Loc nD τ sig) ↦{fullShare} f)) := by
  have hs : SAll.image (PR i).devRef ⊆ ownRefs (τ := τ) (sig := sig) (PR i) := by
    intro b hb
    obtain ⟨r, hr, rfl⟩ := Finset.mem_image.mp hb
    refine SparseCore.Cfg.mem_ownRefs_of_owner ?_
    simp only [SAll, S0, Finset.mem_insert, Finset.mem_singleton] at hr
    rcases hr with rfl | rfl | rfl | rfl | rfl | rfl | rfl | rfl | rfl | rfl | rfl <;> rfl
  unfold SparseCore.Cfg.ownBufs
  rw [SparseCore.bigSep_sdiff_split' hs, SparseCore.bigSep_image_of_injOn (fun _ _ _ _ e => Proc.devRef_injective _ e)]
  congr 1

abbrev cellA : GSem nD τ sig := (thr d i, .dma cc1_scratch11.sem)
abbrev cellB : GSem nD τ sig := (thr d i, .dma cc1_scratch12.sem)
abbrev cellC : GSem nD τ sig := (thr d i, .dma cc1_scoped0.sem)

omit [FloatOps F] [Named F] in
theorem ownSems_eq :
    (ownSems0 (thr d i) : sProp (MM F))
      = iprop(semVal (cellA d i) 0 ∗ semVal (cellB d i) 0 ∗ semVal (cellC d i) 0
          ∗ bigSep ((((ownCells (thr d i)).erase (cellA d i)).erase (cellB d i)).erase (cellC d i)) fun g => semVal g 0) := by
  unfold SparseCore.Cfg.ownSems0
  rw [SparseCore.bigSep_erase' ((mem_ownCells (g := cellA d i)).mpr ⟨rfl, by
      show (SemLoc.dma cc1_scratch11.sem : SemLoc sig).isScoped .scVector = true; decide⟩),
    SparseCore.bigSep_erase' (Finset.mem_erase.mpr ⟨by simp [cellA, cellB]; decide, (mem_ownCells (g := cellB d i)).mpr ⟨rfl, by
      show (SemLoc.dma cc1_scratch12.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d i)).mpr ⟨rfl, by show (SemLoc.dma cc1_scoped0.sem : SemLoc sig).isScoped .scVector = true; decide⟩⟩⟩)]

end OwnState

/-! ## The tile's row of the output -/

section OutRows

abbrev oV : Memref sig .scVector .hbm S32x16 .f32 := Memref.whole main_v7_scv

/-- Row `w` of the output. -/
def rowSet (w : Nat) : Finset S32x16.Idx := Finset.univ.filter fun x => (x 0).val = w

theorem oSl_emb (i : grid1.Coords) (x : S16.Idx) : (((oSl oV i).view.emb x : S32x16.Idx) 0).val = wid i ∧ (((oSl oV i).view.emb x : S32x16.Idx) 1).val = (x 0).val := by
  have h := Shape.rowMajor_reshapeEquiv squeezes_S1x16_S16.numel_eq x
  rw [Shape.rowMajor_val_two, Shape.rowMajor_val_one] at h
  have e0 : k1_off15 i 0 = wid i := by rw [Cert.KernelIdeal.Gen.k1_off15_eq]; rfl
  have e1 : k1_off15 i 1 = 0 := by rw [Cert.KernelIdeal.Gen.k1_off15_eq]; rfl
  have hz : ((Shape.reshapeEquiv squeezes_S1x16_S16.numel_eq x : S1x16.Idx) 0).val = 0 := by
    have := ((Shape.reshapeEquiv squeezes_S1x16_S16.numel_eq x : S1x16.Idx) 0).isLt
    have e : S1x16.size 0 = 1 := rfl
    omega
  constructor
  · show k1_off15 i 0 + 1 * ((Shape.reshapeEquiv squeezes_S1x16_S16.numel_eq x : S1x16.Idx) 0).val = _
    omega
  · show k1_off15 i 1 + 1 * ((Shape.reshapeEquiv squeezes_S1x16_S16.numel_eq x : S1x16.Idx) 1).val = _
    rw [hz] at h; omega

theorem oSl_set (i : grid1.Coords) : (oSl oV i).view.set = rowSet (wid i) := by
  ext y
  simp only [rowSet, Finset.mem_filter, Finset.mem_univ, true_and]
  constructor
  · intro hy
    obtain ⟨x, -, rfl⟩ := Finset.mem_map.mp hy
    exact (oSl_emb i x).1
  · intro hy
    have hlt : ((y : S32x16.Idx) 1).val < 16 := (y 1).isLt
    let x : S16.Idx := fun a => match a with | 0 => ⟨(y 1).val, hlt⟩
    refine Finset.mem_map.mpr ⟨x, Finset.mem_univ _, ?_⟩
    have h := oSl_emb i x
    funext a
    match a with
    | 0 => exact Fin.ext (h.1.trans hy.symm)
    | 1 => exact Fin.ext h.2

variable (d : Dev nD) (i : grid1.Coords)

theorem outRow_elim (v : Nat → F .f32) (g : S32x16.Idx → F .f32) (hg : ∀ x : S32x16.Idx, (x 0).val = wid i → g x = v (x 1).val) :
    (OutRow d i oV v : sProp (MM F)) ⊢ (thr d i).loc main_v7_scv ↦[rowSet (wid i)]{fullShare} (g : Buf (Elt F) ((thr d i).loc main_v7_scv)) := by
  unfold OutRow
  iintro ⟨%f, %hf, H⟩
  rw [← oSl_set]
  have e : ((thr d i).loc main_v7_scv ↦[(oSl oV i).view.set]{fullShare} (g : Buf (Elt F) ((thr d i).loc main_v7_scv)) : sProp (MM F))
      = (thr d i).loc main_v7_scv ↦[(oSl oV i).view.set]{fullShare} (f : Buf (Elt F) ((thr d i).loc main_v7_scv)) := by
    refine pointsTo_congr fun y hy => ?_
    obtain ⟨x, -, rfl⟩ := Finset.mem_map.mp hy
    have h := oSl_emb i x
    have hx := hf x
    rw [View.read_apply] at hx
    refine (hg _ h.1).trans ((congrArg v h.2).trans ?_)
    exact hx.symm
  rw [e]
  iexact H

end OutRows

/-! ## The tile's body -/

section Run

variable (d : Dev nD) (i : grid1.Coords) (q : PosShare TreeShare) (X1 X2 : S6291456.Idx → F .f32)

abbrev tV1 : Tab := Memref.whole main_v3_scv
abbrev tV2 : Tab := Memref.whole main_v6_scv
abbrev bV0 : Bf := Memref.whole cc1_scratch0
abbrev bV1 : Bf := Memref.whole cc1_scratch1
abbrev bV2 : Bf := Memref.whole cc1_scratch2
abbrev bV3 : Bf := Memref.whole cc1_scratch3
abbrev pV1 : Memref sig .scVector .vmem S4096 .f32 := Memref.whole cc1_scratch4
abbrev pV2 : Memref sig .scVector .vmem S4096 .f32 := Memref.whole cc1_scratch5
abbrev mV1 : MB := Memref.whole cc1_scratch6
abbrev aV1 : Memref sig .scVector .vmem S256 .i32 := Memref.whole cc1_scratch7
abbrev mV2 : MB := Memref.whole cc1_scratch8
abbrev aV2 : Memref sig .scVector .vmem S256 .i32 := Memref.whole cc1_scratch9
abbrev acV : Memref sig .scVector .vmem S16 .f32 := Memref.whole cc1_scratch10

theorem goodA : Good S0 bV0 bV1 pV1 pV2 mV1 aV1 mV2 aV2 where
  h2 := by decide
  h1 := by decide
  hS := ⟨⟨by decide, by decide, by decide, by decide, by decide, by decide, by decide, by decide, by decide, by decide⟩,
    ⟨by decide, by decide, by decide, by decide, by decide, by decide, by decide, by decide, by decide, by decide⟩,
    by decide, by decide, by decide, by decide, by decide, by decide, by decide, by decide⟩
  hc := rfl
  h0 := View.dmaCredit_pos _ (by decide)

theorem goodB : Good S0 bV2 bV3 pV1 pV2 mV1 aV1 mV2 aV2 where
  h2 := by decide
  h1 := by decide
  hS := ⟨⟨by decide, by decide, by decide, by decide, by decide, by decide, by decide, by decide, by decide, by decide⟩,
    ⟨by decide, by decide, by decide, by decide, by decide, by decide, by decide, by decide, by decide, by decide⟩,
    by decide, by decide, by decide, by decide, by decide, by decide, by decide, by decide⟩
  hc := rfl
  h0 := View.dmaCredit_pos _ (by decide)

/-- What the tiles leave in the output, entry by entry. -/
def outV : S32x16.Idx → F .f32 := fun x =>
  tileAcc negF (fun n => at1 (N := 6291456) (X := F .f32) X1 n) (fun n => at1 (N := 6291456) (X := F .f32) X2 n) (x 0).val (x 1).val 24

abbrev Tabs : sProp (MM F) :=
  iprop(((thr d i).loc main_v3_scv ↦{q} (X1 : Buf (Elt F) ((thr d i).loc main_v3_scv)))
    ∗ ((thr d i).loc main_v6_scv ↦{q} (X2 : Buf (Elt F) ((thr d i).loc main_v6_scv))))

theorem tile_body [∀ e, Nonempty (Elt F e)] (O : CellTallies nD τ sig (HIx 1)) (W : Waits sig (HIx 1)) (hO : ∀ g, O g none = 0) :
    iprop(levAts (K (F := F)).L (K (F := F)).lev ∗ emp
        ∗ (Tabs d i q X1 X2 ∗ ∃ f, (thr d i).loc main_v7_scv ↦[rowSet (wid i)]{fullShare} (f : Buf (Elt F) ((thr d i).loc main_v7_scv)))
        ∗ scopedBufs (thr d i) ∗ scopedSems0 (thr d i) ∗ owes (thr d i) O W)
      ⊢ wp frame (wpE (defs₀ (F := F)) 𝒱₀ (thr d i) none) Set.univ
          (cc1__sc_body (F := F) i tV1 (Memref.isWhole_whole _) tV2 (Memref.isWhole_whole _) oV (Memref.isWhole_whole _)
            bV0 (Memref.isWhole_whole _) bV1 (Memref.isWhole_whole _) bV2 (Memref.isWhole_whole _) bV3 (Memref.isWhole_whole _)
            pV1 (Memref.isWhole_whole _) pV2 (Memref.isWhole_whole _) mV1 (Memref.isWhole_whole _) aV1 (Memref.isWhole_whole _)
            mV2 (Memref.isWhole_whole _) aV2 (Memref.isWhole_whole _) acV (Memref.isWhole_whole _) cc1_scratch11 cc1_scratch12 cc1_scoped0)
          fun _ => iprop((Tabs d i q X1 X2 ∗ (thr d i).loc main_v7_scv ↦[rowSet (wid i)]{fullShare} (outV X1 X2 : Buf (Elt F) ((thr d i).loc main_v7_scv)))
            ∗ scopedBufs (thr d i) ∗ scopedSems0 (thr d i) ∗ ∃ W', ⌜∀ p ∈ W', p ∈ W ∨ p.2 = none⌝ ∗ owes (thr d i) O W') := by
  rw [body_eq, (K (F := F)).scopedBufs_V facts d _ _, SparseCore.Cfg.scopedSems0_V (Val := Elt F) d _ _, ownSems_eq d i, ownBufs_eq d i]
  iintro ⟨#Hlv, -, ⟨⟨H1, H2⟩, Ho⟩, ⟨⟨Hb0, Hb1, Hb2, Hb3, Hac, Hw⟩, Hbufs⟩, ⟨HsA, HsB, HsC, Hsems⟩, HO⟩
  ihave H1 := (share_halves q).1 $$ H1
  icases H1 with ⟨H1a, H1b⟩
  ihave H2 := (share_halves q).1 $$ H2
  icases H2 with ⟨H2a, H2b⟩
  ihave Hw := (work_intro d i S0) $$ Hw
  iapply (wp_wand_r frame _ Set.univ)
  isplitl [H1a H1b H2a H2b Hb0 Hb1 Hb2 Hb3 Hac Hw HsA HsB HsC HO Ho]
  · iapply (body_wp d i tV1 tV2 oV bV0 bV1 bV2 bV3 pV1 pV2 mV1 aV1 mV2 aV2 acV (Memref.isWhole_whole _) cc1_scratch11 cc1_scratch12 cc1_scoped0
      S0 q.left q.right X1 X2 O W (levAts (K (F := F)).L (K (F := F)).lev) goodA goodB (by decide) (View.dmaCredit_pos _ (by decide))
      ((K (F := F)).mayWait_none (SemLoc.dma cc1_scratch11.sem) hO) ((K (F := F)).mayWait_none (SemLoc.dma cc1_scratch12.sem) hO)
      ((K (F := F)).mayWait_none (SemLoc.dma cc1_scoped0.sem) hO))
    isplitr; · iexact Hlv
    isplitr [HO Ho]
    · unfold Start Rest
      isplitl [H1a H2a HsA]
      · isplitl [H1a]; · iexact H1a
        isplitl [H2a]; · iexact H2a
        iexact HsA
      isplitl [H1b H2b HsB]
      · isplitl [H1b]; · iexact H1b
        isplitl [H2b]; · iexact H2b
        iexact HsB
      isplitl [Hb0]; · iexact Hb0
      isplitl [Hb1]; · iexact Hb1
      isplitl [Hb2]; · iexact Hb2
      isplitl [Hb3]; · iexact Hb3
      isplitl [Hac]; · iexact Hac
      isplitl [Hw]; · iexact Hw
      iexact HsC
    isplitl [Ho]
    · rw [oSl_set]; iexact Ho
    iexact HO
  iintro %_ ⟨Hst, Hrow, HO⟩
  unfold Start Rest
  icases Hst with ⟨⟨H1a, H2a, HsA⟩, ⟨H1b, H2b, HsB⟩, Hb0, Hb1, Hb2, Hb3, Hac, Hw, HsC⟩
  ihave Hrow := (outRow_elim d i _ (outV X1 X2) (fun x hx => by show tileAcc _ _ _ (x 0).val _ _ = _; rw [hx]; rfl)) $$ Hrow
  ihave Hw := (work_elim d i S0) $$ Hw
  isplitl [H1a H1b H2a H2b Hrow]
  · isplitl [H1a H1b H2a H2b]
    · isplitl [H1a H1b]
      · iapply (share_halves q).2
        isplitl [H1a]; · iexact H1a
        iexact H1b
      · iapply (share_halves q).2
        isplitl [H2a]; · iexact H2a
        iexact H2b
    · iexact Hrow
  isplitl [Hb0 Hb1 Hb2 Hb3 Hac Hw Hbufs]
  · isplitr [Hbufs]
    · isplitl [Hb0]; · iexact Hb0
      isplitl [Hb1]; · iexact Hb1
      isplitl [Hb2]; · iexact Hb2
      isplitl [Hb3]; · iexact Hb3
      isplitl [Hac]; · iexact Hac
      iexact Hw
    · iexact Hbufs
  isplitl [HsA HsB HsC Hsems]
  · isplitl [HsA]; · iexact HsA
    isplitl [HsB]; · iexact HsB
    isplitl [HsC]; · iexact HsC
    iexact Hsems
  unfold Waited
  iexact HO

end Run

end Cert.Proof.Tile

end
-- ==== Proof.Deal.lean ====
/- What the call hands out and gets back: read shares of the two tables and the rows of the output. -/
module

public import proofs.«01_k».proof.Proof.TileRun

@[expose] public section

noncomputable section

namespace Cert.Proof.Tile

open Cert.KernelIdeal
open Idealize.ShloMosaic
open Idealize.ShloMosaic.SparseCore (S V)
open Idealize.ShloMosaic.SparseCore.Cfg (HIx Pay)
open Idealize.ShloMosaic.Transfers (shareDrop shareTok pointsTo_toks_split pointsTo_toks_join)
open Idealize.SL Idealize.SL.RA Idealize.SL.BI
open scoped Idealize.SL.BI
open Idealize.SL.BI.BIBase Idealize.SL.BI.Laws Idealize.SL.ProofMode Idealize.SL.Sem
open Cert.Proof.Local
open Cert.KernelIdeal.Facts₀ Cert.KernelIdeal.Facts

variable {F : FTy → Type} [FloatOps F] [Named F]

abbrev l1 (d : Dev nD) : Loc nD τ sig := (SparseCore.T d).loc main_v3
abbrev l2 (d : Dev nD) : Loc nD τ sig := (SparseCore.T d).loc main_v6
abbrev lo (d : Dev nD) : Loc nD τ sig := (SparseCore.T d).loc main_v7

variable (X1 X2 : Dev nD → S6291456.Idx → F .f32)

abbrev Tabs' (d : Dev nD) (q : PosShare TreeShare) : sProp (MM F) :=
  iprop((l1 d ↦{q} (X1 d : Buf (Elt F) (l1 d))) ∗ (l2 d ↦{q} (X2 d : Buf (Elt F) (l2 d))))
abbrev RowAny (d : Dev nD) (w : Nat) : sProp (MM F) := iprop(∃ f, lo d ↦[rowSet w]{fullShare} (f : Buf (Elt F) (lo d)))
abbrev RowOut (d : Dev nD) (w : Nat) : sProp (MM F) := lo d ↦[rowSet w]{fullShare} (outV (X1 d) (X2 d) : Buf (Elt F) (lo d))

/-- The share of the tables core `c` reads with, and that of its tile `i`. -/
def qC (c : Nat) : PosShare TreeShare := Transfers.shareTokN fullShare c
def qT (c i : Nat) : PosShare TreeShare := Transfers.shareTokN (qC c) i

/-- A core is handed a share of both tables and its tiles' rows of the output, and brings them back, the rows filled. -/
def P : (K (F := F)).Pay (nD := nD) (Val := Elt F) (Name := ℕ) (U := UU) where
  st := fun q d c => match q with
    | 0 => iprop(Tabs' X1 X2 d (qC c.val) ∗ bigSep Finset.univ fun i : Fin ((K (F := F)).nSub 0) => RowAny d (2 * i.val + c.val))
  dn := fun q d c => match q with
    | 0 => iprop(Tabs' X1 X2 d (qC c.val) ∗ bigSep Finset.univ fun i : Fin ((K (F := F)).nSub 0) => RowOut X1 X2 d (2 * i.val + c.val))
  go := fun q d c i => match q with
    | 0 => iprop(Tabs' X1 X2 d (qT c.val i.val) ∗ RowAny d (2 * i.val + c.val))
  td := fun q d c i => match q with
    | 0 => iprop(Tabs' X1 X2 d (qT c.val i.val) ∗ RowOut X1 X2 d (2 * i.val + c.val))
  x := fun _ _ => iprop(emp)

instance P_storable : (P X1 X2).IsStorable where
  st q d c := match q with
    | 0 => (inferInstance : BI.Storable (upEmb : UEmb _ (MM F))
        iprop(Tabs' X1 X2 d (qC c.val) ∗ bigSep Finset.univ fun i : Fin ((K (F := F)).nSub 0) => RowAny d (2 * i.val + c.val)))
  dn q d c := match q with
    | 0 => (inferInstance : BI.Storable (upEmb : UEmb _ (MM F))
        iprop(Tabs' X1 X2 d (qC c.val) ∗ bigSep Finset.univ fun i : Fin ((K (F := F)).nSub 0) => RowOut X1 X2 d (2 * i.val + c.val)))
  go q d c i := match q with
    | 0 => (inferInstance : BI.Storable (upEmb : UEmb _ (MM F)) iprop(Tabs' X1 X2 d (qT c.val i.val) ∗ RowAny d (2 * i.val + c.val)))
  td q d c i := match q with
    | 0 => (inferInstance : BI.Storable (upEmb : UEmb _ (MM F)) iprop(Tabs' X1 X2 d (qT c.val i.val) ∗ RowOut X1 X2 d (2 * i.val + c.val)))

/-! ## The tiles' part -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s) tV1 (Memref.isWhole_whole _) tV2 (Memref.isWhole_whole _) oV (Memref.isWhole_whole _)
            bV0 (Memref.isWhole_whole _) bV1 (Memref.isWhole_whole _) bV2 (Memref.isWhole_whole _) bV3 (Memref.isWhole_whole _)
            pV1 (Memref.isWhole_whole _) pV2 (Memref.isWhole_whole _) mV1 (Memref.isWhole_whole _) aV1 (Memref.isWhole_whole _)
            mV2 (Memref.isWhole_whole _) aV2 (Memref.isWhole_whole _) acV (Memref.isWhole_whole _) cc1_scratch11 cc1_scratch12 cc1_scoped0) ⟨⟩ c s := rfl

omit [FloatOps F] [Named F] in
theorem obl_post {th : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] : (K (F := F)).TileObl (D (F := F)) 𝒱 (P X1 X2) v₀ 0 := by
  intro d c i O W hO _ _
  simp only [show (P X1 X2).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (qT c.val i.val) (X1 d) (X2 d) O W hO).trans (wp_mono frame _ _ fun _ => obl_post)

/-! ## A core's part dealt to its tiles -/

theorem vecSplit : (K (F := F)).VecSplit' (P X1 X2) 0 := by
  intro d c
  show iprop(Tabs' X1 X2 d (qC c.val) ∗ bigSep Finset.univ fun i : Fin ((K (F := F)).nSub 0) => RowAny d (2 * i.val + c.val)) ⊢ |={Set.univ}=> iprop(
      (bigSep Finset.univ fun i : Fin ((K (F := F)).nSub 0) => iprop(Tabs' X1 X2 d (qT c.val i.val) ∗ RowAny d (2 * i.val + c.val)))
      ∗ ((bigSep Finset.univ fun i : Fin ((K (F := F)).nSub 0) => iprop(Tabs' X1 X2 d (qT c.val i.val) ∗ RowOut X1 X2 d (2 * i.val + c.val)))
          -∗ iprop(Tabs' X1 X2 d (qC c.val) ∗ bigSep Finset.univ fun i : Fin ((K (F := F)).nSub 0) => RowOut X1 X2 d (2 * i.val + c.val))))
  rw [bigSep_sep', bigSep_sep', bigSep_sep', bigSep_sep']
  iintro ⟨⟨H1, H2⟩, Hr⟩
  ihave H1 := (pointsTo_toks_split (qC c.val) ((K (F := F)).nSub 0)) $$ H1
  icases H1 with ⟨H1d, H1t⟩
  ihave H2 := (pointsTo_toks_split (qC c.val) ((K (F := F)).nSub 0)) $$ H2
  icases H2 with ⟨H2d, H2t⟩
  imodintro
  isplitl [H1t H2t Hr]
  · isplitl [H1t H2t]
    · isplitl [H1t]; · iexact H1t
      iexact H2t
    · iexact Hr
  iintro ⟨⟨H1t, H2t⟩, Hr⟩
  isplitr [Hr]
  · isplitl [H1d H1t]
    · iapply (pointsTo_toks_join (qC c.val) ((K (F := F)).nSub 0))
      isplitl [H1d]; · iexact H1d
      iexact H1t
    · iapply (pointsTo_toks_join (qC c.val) ((K (F := F)).nSub 0))
      isplitl [H2d]; · iexact H2d
      iexact H2t
  · iexact Hr

/-! ## The whole output, row by row -/

omit [FloatOps F] [Named F] in
theorem nCore0 : (K (F := F)).nCore 0 = 2 := rfl
omit [FloatOps F] [Named F] in
theorem nSub0 : (K (F := F)).nSub 0 = 16 := rfl

theorem rows_disjoint : ∀ i ∈ (Finset.univ : Finset (Fin 2 × Fin 16)), ∀ j ∈ (Finset.univ : Finset (Fin 2 × Fin 16)), i ≠ j →
    Disjoint (rowSet (2 * i.2.val + i.1.val)) (rowSet (2 * j.2.val + j.1.val)) := by
  intro i _ j _ h
  refine Finset.disjoint_left.mpr fun x hx hy => h ?_
  have hx := (Finset.mem_filter.mp hx).2
  have hy := (Finset.mem_filter.mp hy).2
  have := i.1.isLt; have := j.1.isLt
  exact Prod.ext (Fin.ext (by omega)) (Fin.ext (by omega))

theorem rows_cover : ((Finset.univ : Finset (Fin 2 × Fin 16)).biUnion fun i => rowSet (2 * i.2.val + i.1.val)) = Finset.univ := by
  ext x
  simp only [Finset.mem_biUnion, Finset.mem_univ, true_and, iff_true]
  have h : (x 0).val < 32 := (x 0).isLt
  exact ⟨(⟨(x 0).val % 2, by omega⟩, ⟨(x 0).val / 2, by omega⟩), Finset.mem_filter.mpr ⟨Finset.mem_univ _, by show _ = 2 * ((x 0).val / 2) + (x 0).val % 2; omega⟩⟩

omit [FloatOps F] [Named F] in
theorem rows_eq (d : Dev nD) (f : Buf (Elt F) (lo d)) :
    (lo d ↦{fullShare} f : sProp (MM F))
      = bigSep Finset.univ fun c : Fin 2 => bigSep Finset.univ fun i : Fin 16 => lo d ↦[rowSet (2 * i.val + c.val)]{fullShare} f := by
  rw [← rows_cover, pointsTo_biUnion Finset.univ (ℓ := lo d) _ rows_disjoint]
  exact bigSep_univ_prod _

end Cert.Proof.Tile

end
-- ==== Proof.Mse.lean ====
/- The features' part: one kernel over whole arrays on the TensorCore, entered while the core still owes the
   SparseCore its start. -/
module

public import proofs.«01_k».proof.Proof.Deal
public import proofs.«01_k».proof.Proof.Gen.KernelIdeal.Skeleton
public import Idealize.ShloMosaic.Lib.Pipeline.RegionArrays
public import Idealize.ShloMosaic.Lib.Pipeline.RegionsLoop
public import Idealize.ShloMosaic.Lib.Tactic

@[expose] public section

noncomputable section

namespace Cert.Proof.Tile

open Cert.KernelIdeal
open Cert.KernelIdeal.Facts₀ Cert.KernelIdeal.Facts
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MM F

namespace Mse

/-- A buffer of the core's, and it held whole. -/
abbrev Bu (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bu (F := F) c M) : sProp (MM F) :=
  M.view.loc (c : Thread nD τ) ↦{fullShare} f

/-- What the body leaves in the sum's buffer, with the run that leaves it. -/
noncomputable def mseRun (c : Dev nD) (M0 : Memref sig .tc .vmem S4096x512 .f32) (h0 : M0.IsWhole) (M1 : Memref sig .tc .vmem S4096x512 .f32) (h1 : M1.IsWhole)
    (M2 : Memref sig .tc .vmem S1x1 .f32) (h2 : M2.IsWhole) (f0 : Bu (F := F) c M0) (f1 : Bu (F := F) c M1) :
    { W : Bu (F := F) c M2 // ∀ (f2 : Bu (F := F) c M2) (E : Set ℕ) (Q : PUnit → sProp (MM F)),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none (c : Thread nD τ) none) E (cc0__mse_body M0 h0 M1 h1 M2 h2) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

variable (V : (c : Dev nD) → (b : Ref sig .tc) → Buf (Elt F) ((c : Thread nD τ).loc b))

abbrev stg0 (c : Dev nD) : (cfg0.win 0).block.Idx → Elt F (cfg0.win 0).elt :=
  ((cfg0.win 0).blk Gen.t0_0).view.read (Elt F) (V c main_arg0)
abbrev stg1 (c : Dev nD) : (cfg0.win 1).block.Idx → Elt F (cfg0.win 1).elt :=
  ((cfg0.win 1).blk Gen.t0_0).view.read (Elt F) (V c main_arg1)

abbrev KR (c : Dev nD) := mseRun (F := F) c (stage0_0 0) (hstage0_0 0) (stage0_1 0) (hstage0_1 0) (stage0_2 0) (hstage0_2 0) (stg0 V c) (stg1 V c)

abbrev Φc (c : Dev nD) : sProp (MM F) := Pipeline.scopedRest (Ix := HIx 1) (Name := ℕ) (U := UU) (Lvl := ℕ) (Val := Elt F) spec0 c

/-- What the core owes while the kernel's transfers are waited for, and where its waits so far sit. -/
abbrev ow (c : Dev nD) : CellTallies nD τ sig (HIx 1) := (K (F := F)).Otc c 0
def rec (c : Dev nD) : Set (SemLoc sig × HIx 1) := {p | (K (F := F)).lev (SparseCore.T c, p.1) p.2 ≤ 0}

/-- The proof data: the three arrays at the entry contents; after the body the features' buffers as fetched and the sum's
    at the run's. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => (KR V c).1
  Φ _ := Φc c
  q _ := fullShare
  owed _ := ow (F := F) c
  recorded _ := rec (F := F) c

def adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before0 (c : Dev nD) (d : (cfg0.win 0).block.Idx → Elt F (cfg0.win 0).elt) : (dat V c).before 0 Gen.t0_0 d = stg0 V c := by
  unfold Dat.before; rw [if_pos (by decide)]; rfl
theorem before1 (c : Dev nD) (d : (cfg0.win 1).block.Idx → Elt F (cfg0.win 1).elt) : (dat V c).before 1 Gen.t0_0 d = stg1 V c := by
  unfold Dat.before; rw [if_pos (by decide)]; rfl

theorem body_obligation (c : Dev nD) : BodyObligation (dat V c) (defs₀ (F := F)) 𝒱₀ none Set.univ := fun t => by
  obtain rfl := Gen.fin_N0 t
  rw [Gen.bigSep_W0, Gen.bigSep_W0]
  simp only [owns_whole_eq]
  rw [show (dat V c).Φ Gen.t0_0.castSucc = Φc c from rfl, show (dat V c).Φ Gen.t0_0.succ = Φc c from rfl,
    show (dat V c).owesAt none Gen.t0_0.succ = (dat V c).owesAt none Gen.t0_0.castSucc from rfl]
  iintro ⟨HΦ, Howes, ⟨%d0, %f0, %hf0, H0⟩, ⟨%d1, %f1, %hf1, H1⟩, ⟨%d2, %f2, -, H2⟩⟩
  rw [before0] at hf0
  rw [before1] at hf1
  subst hf0 hf1
  iapply ((KR V c).2 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The sum's array after the kernel. -/
def summed (c : Dev nD) : Buf (Elt F) ((c : Thread nD τ).loc main_v0) := (dat V c).arrAt 2 cfg0.N

variable (Vp : (c : Dev nD) → (b : Ref sig .tc) → Buf (Elt F) ((c : Thread nD τ).loc b))

abbrev Owes (c : Dev nD) : sProp (MM F) :=
  iprop(∃ W, ⌜(K (F := F)).WBelow (SparseCore.T c) W 0⌝ ∗ owes (SparseCore.T c) (ow (F := F) c) W)

set_option backward.isDefEq.respectTransparency.types false in
/-- The kernel entered from every unscoped buffer at `V`, left with them at `Vp`: `V` but for the sum. -/
def reg [∀ e, Nonempty (Elt F e)] (hVp_out : ∀ c, Vp c main_v0 = summed V c)
    (hVp_ne : ∀ c (b : Ref sig .tc), b ≠ main_v0 → Vp c b = V c b) :
    Pipeline.RegionSeg (pcfgs (F := F)) adm (pdats V) none defs₀ 𝒱₀ (K (F := F)).L (K (F := F)).lev 0 where
  win := Gen.launch0.win.to₀
  block_pos := Gen.launch0.block_pos
  stage_whole := Gen.launch0.stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 (ow (F := F) c) (fun _ => rfl)
    (fun _ _ => Finset.mem_univ _) (fun _ _ => le_of_eq ((K (F := F)).lev_none _)) fun g i h => ⟨Finset.mem_univ _, by
      have := (K (F := F)).lev_of_Otc_pos h
      omega⟩
  pre c := iprop(unscopedBufs c (V c) ∗ Owes (F := F) c)
  post c := iprop(unscopedBufs c (Vp c) ∗ Owes (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) Gen.launch0.win Gen.launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) Gen.launch0.win Gen.launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_arg0 (by decide)).symm
        · exact ((pdats V 0 c).arrAt_in 1 rfl _).trans (hVp_ne c main_arg1 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin Pipeline.Dat.bound
    icases HO with ⟨%W, %hW, HO⟩; iexists W
    isplitr
    · ipureintro
      intro p hp
      rcases hW hp with h | ⟨w, s, rfl⟩
      · exact h
      · exact le_of_eq ((K (F := F)).lev_none _)
    iexact HO

end Mse

end Cert.Proof.Tile

end
-- ==== Proof.Launch.lean ====
/- The whole program: the features' kernel, the tables laid out, the call on the SparseCore, and the last sums. -/
module

public import proofs.«01_k».proof.Proof.Mse

@[expose] public section

noncomputable section

namespace Cert.Proof.Tile

open Cert.KernelIdeal
open Cert.KernelIdeal.Facts₀ Cert.KernelIdeal.Facts
open Idealize.ShloMosaic
open Idealize.ShloMosaic.SparseCore (S V)
open Idealize.ShloMosaic.SparseCore.Cfg (HIx Pay)
open Idealize.ShloMosaic.StableHlo (held seq after launchContents tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split pointsTo_toks_join)
open Idealize.ShloMosaic.Pipeline (cellsGhost toksInit pin)

variable {F : FTy → Type} [FloatOps F] [Named F]

local notation "𝕄" => MM F

/-! ## The host's operations -/

abbrev dr (b : Ref sig .tc) : DevRef τ sig := Proc.devRef .tc b

def ops1 : List (HloOp τ sig (Elt F)) := [
  StableHlo.reshape main_arg2 main_v1 (rfl : (.f32 : EltTy) = .f32) shapeCasts_S4096x3x256x2_S4096x3x2x128x2,
  StableHlo.unary main_v1 main_v2 ((transpose S4096x3x2x2x128 [0, 1, 2, 4, 3] · transposes_S4096x3x2x128x2_S4096x3x2x2x128_0_1_2_4_3) : (⟨S4096x3x2x128x2, .f32⟩ : BufTy).Contents (Elt F) → (⟨S4096x3x2x2x128, .f32⟩ : BufTy).Contents (Elt F)),
  StableHlo.reshape main_v2 main_v3 (rfl : (.f32 : EltTy) = .f32) shapeCasts_S4096x3x2x2x128_S6291456,
  StableHlo.reshape main_arg3 main_v4 (rfl : (.f32 : EltTy) = .f32) shapeCasts_S4096x3x256x2_S4096x3x2x128x2,
  StableHlo.unary main_v4 main_v5 ((transpose S4096x3x2x2x128 [0, 1, 2, 4, 3] · transposes_S4096x3x2x128x2_S4096x3x2x2x128_0_1_2_4_3) : (⟨S4096x3x2x128x2, .f32⟩ : BufTy).Contents (Elt F) → (⟨S4096x3x2x2x128, .f32⟩ : BufTy).Contents (Elt F)),
  StableHlo.reshape main_v5 main_v6 (rfl : (.f32 : EltTy) = .f32) shapeCasts_S4096x3x2x2x128_S6291456 ]

def ops2 : List (HloOp τ sig (Elt F)) := [
  StableHlo.reshape main_v0 main_v8 (rfl : (.f32 : EltTy) = .f32) shapeCasts_S1x1_S_,
  StableHlo.nullary main_cst (constant S_ .f32 0x4A000000#32),
  StableHlo.binary main_v8 main_cst main_v9 (Host.divf : (⟨S_, .f32⟩ : BufTy).Contents (Elt F) → (⟨S_, .f32⟩ : BufTy).Contents (Elt F) → (⟨S_, .f32⟩ : BufTy).Contents (Elt F)),
  StableHlo.nullary main_cst_0 (constant S_ .f32 0x00000000#32),
  StableHlo.binary main_v7 main_cst_0 main_v10 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
  StableHlo.nullary main_cst_1 (constant S_ .f32 0x47F00000#32),
  StableHlo.binary main_v10 main_cst_1 main_v11 (Host.divf : (⟨S_, .f32⟩ : BufTy).Contents (Elt F) → (⟨S_, .f32⟩ : BufTy).Contents (Elt F) → (⟨S_, .f32⟩ : BufTy).Contents (Elt F)),
  StableHlo.binary main_v9 main_v11 main_v12 (addf : (⟨S_, .f32⟩ : BufTy).Contents (Elt F) → (⟨S_, .f32⟩ : BufTy).Contents (Elt F) → (⟨S_, .f32⟩ : BufTy).Contents (Elt F)) ]

theorem main_eq (d : Dev nD) : main (F := F) d
    = (Prog.lift (.customCall (SparseCore.inner (Pipeline.entry 0)) ()) >>= fun _ =>
        (seq ops1 >>= fun _ => (K (F := F)).run d 0 >>= fun _ => (seq ops2 >>= fun _ => pure ⟨⟩))) := by
  simp only [seq, ops1, ops2, bind_assoc, pure_bind]
  rfl

def ucRefs : Finset (DevRef τ sig) := (StableHlo.tcRefs τ sig).filter fun b => ¬ b.isScoped

omit [FloatOps F] [Named F] in
theorem unscopedBufs_held (c : Dev nD) (W : Valuation τ sig (Elt F)) :
    (unscopedBufs c (fun b => W (dr b)) : sProp (MM F)) = StableHlo.held (c.tc : Thread nD τ) ucRefs W := by
  unfold unscopedBufs StableHlo.held ucRefs StableHlo.tcRefs
  rw [Finset.filter_map, bigSep_map]
  rfl

theorem uc_mem (b : Ref sig .tc) (h : b.isScoped = false) : dr b ∈ ucRefs :=
  Finset.mem_filter.mpr ⟨StableHlo.devRef_mem_tcRefs b, fun h' => Bool.false_ne_true (h.symm.trans h')⟩

theorem ops1_sub : ∀ op ∈ (ops1 : List (HloOp τ sig (Elt F))), op.bufs ⊆ ucRefs := by
  intro op h
  unfold ops1 at h
  simp only [List.mem_cons, List.not_mem_nil, or_false] at h
  rcases h with rfl | rfl | rfl | rfl | rfl | rfl <;>
    (intro b hb; first | rw [StableHlo.reshape_bufs] at hb | rw [StableHlo.unary_bufs] at hb
     simp only [Finset.mem_insert, Finset.mem_singleton] at hb
     rcases hb with rfl | rfl <;> exact uc_mem _ (by decide))

theorem ops1_fresh : ∀ op ∈ (ops1 : List (HloOp τ sig (Elt F))), op.fresh = ∅ := by
  intro _ _h; (repeat (cases _h with | head => rfl | tail _ _h => ?_)); exact nomatch _h

theorem ops2_sub : ∀ op ∈ (ops2 : List (HloOp τ sig (Elt F))), op.bufs ⊆ ucRefs := by
  intro op h
  unfold ops2 at h
  simp only [List.mem_cons, List.not_mem_nil, or_false] at h
  rcases h with rfl | rfl | rfl | rfl | rfl | rfl | rfl | rfl <;>
    (intro b hb; first | rw [StableHlo.reshape_bufs] at hb | rw [StableHlo.nullary_bufs] at hb | rw [StableHlo.binary_bufs] at hb
     simp only [Finset.mem_insert, Finset.mem_singleton] at hb
     first
      | (rcases hb with rfl | rfl | rfl <;> exact uc_mem _ (by decide))
      | (rcases hb with rfl | rfl <;> exact uc_mem _ (by decide))
      | (rcases hb with rfl; exact uc_mem _ (by decide)))

theorem ops2_fresh : ∀ op ∈ (ops2 : List (HloOp τ sig (Elt F))), op.fresh = ∅ := by
  intro _ _h; (repeat (cases _h with | head => rfl | tail _ _h => ?_)); exact nomatch _h

/-! ## The buffers, from stage to stage -/

variable (m : (ℓ : Loc nD τ sig) → Buf (Elt F) ℓ) (ρ : Dev nD → PrngReg)

abbrev Vm (c : Dev nD) (b : Ref sig .tc) : Buf (Elt F) ((c.tc : Thread nD τ).loc b) := m ((c.tc : Thread nD τ).loc b)

def W1 (d : Dev nD) : Valuation τ sig (Elt F) := Function.update (launchContents m d) (dr main_v0) (Mse.summed (Vm m) d)
def W2 (d : Dev nD) : Valuation τ sig (Elt F) := after ops1 (W1 m d)
def X1 (d : Dev nD) : S6291456.Idx → F .f32 := W2 m d (dr main_v3)
def X2 (d : Dev nD) : S6291456.Idx → F .f32 := W2 m d (dr main_v6)
def W3 (d : Dev nD) : Valuation τ sig (Elt F) := Function.update (W2 m d) (dr main_v7) (outV (X1 m d) (X2 m d) : S32x16.Idx → F .f32)
def W4 (d : Dev nD) : Valuation τ sig (Elt F) := after ops2 (W3 m d)

theorem W1_v0 (d : Dev nD) : W1 m d (dr main_v0) = Mse.summed (Vm m) d := Function.update_self ..
theorem W1_ne (d : Dev nD) (b : Ref sig .tc) (h : b ≠ main_v0) : W1 m d (dr b) = m ((d.tc : Thread nD τ).loc b) :=
  Function.update_of_ne (StableHlo.devRef_ne_of_ne h) ..

/-! ## The features' kernel within the program -/

abbrev Gd (d : Dev nD) : sProp (MM F) := iprop(cellsGhost (pin (pcfgs (F := F)) Mse.adm) EP 0 d ∗ toksInit (pin (pcfgs (F := F)) Mse.adm) EP 0 d)

theorem region_wp [∀ e, Nonempty (Elt F e)] (d : Dev nD) (Φ : PUnit → sProp (MM F)) :
    iprop(levAts (K (F := F)).L (K (F := F)).lev ∗ boundary (SparseCore.T d) ∗ held (SparseCore.T d) ucRefs (launchContents m d) ∗ Mse.Owes (F := F) d ∗ Gd (F := F) d
        ∗ (iprop(boundary (SparseCore.T d) ∗ held (SparseCore.T d) ucRefs (W1 m d) ∗ Mse.Owes (F := F) d) -∗ Φ ⟨⟩))
      ⊢ wp frame (wpE ((K (F := F)).defs (D (F := F))) 𝒱 (SparseCore.T d) none) Set.univ (Prog.lift (.customCall (SparseCore.inner (Pipeline.entry 0)) ())) Φ := by
  rw [← unscopedBufs_held, ← unscopedBufs_held]
  have e : (Prog.lift (.customCall (SparseCore.inner (Pipeline.entry 0)) ()) : Prog (TpuEff nD τ sig (Elt F) (SparseCore.Sig (ΛP (F := F)) 1) .tc) PUnit)
      = SparseCore.liftProg (Q := 1) (Λ := ΛP (F := F)) (pr := .tc) (Prog.op (.customCall (Pipeline.entry (0 : Fin 1)) ()) Prog.ret) := rfl
  rw [e]
  refine BIBase.Entails.trans ?_ ((K (F := F)).wp_liftProg (D (F := F)) 𝒱 (SparseCore.T d) Set.univ none (Prog.op (.customCall (Pipeline.entry (0 : Fin 1)) ()) Prog.ret) Φ)
  refine BIBase.Entails.trans ?_ (Pipeline.RegionSeg.wp (pcfgs (F := F)) Mse.adm (Mse.pdats (Vm m)) none Gen.cellOf_inj EP defs₀ 𝒱₀ (K (F := F)).L (K (F := F)).lev
    (Mse.reg (Vm m) (fun c b => W1 m c (dr b)) (W1_v0 m) (W1_ne m)) d none (fun _ h => nomatch h) Prog.ret Φ)
  have hpost : (Mse.reg (Vm m) (fun c b => W1 m c (dr b)) (W1_v0 m) (W1_ne m)).post d
      ⊢ iprop((unscopedBufs d fun b => W1 m d (dr b)) ∗ Mse.Owes (F := F) d) := .rfl
  have hpre : iprop((unscopedBufs d fun b => launchContents m d (dr b)) ∗ Mse.Owes (F := F) d)
      ⊢ (Mse.reg (Vm m) (fun c b => W1 m c (dr b)) (W1_v0 m) (W1_ne m)).pre d := .rfl
  iintro ⟨Hlev, Hb, Hub, HO, ⟨Hg, Ht⟩, Hk⟩
  isplitl [Hk]
  · iintro ⟨Hb, Hp⟩
    ihave Hp := hpost $$ Hp
    icases Hp with ⟨Hub, HO⟩
    rw [wp_ret]
    imodintro
    iapply Hk
    isplitl [Hb]; · iexact Hb
    isplitl [Hub]; · iexact Hub
    iexact HO
  isplitl [Hb]; · iexact Hb
  isplitl [Hub HO]
  · iapply hpre
    isplitl [Hub]; · iexact Hub
    iexact HO
  isplitl [Hlev]; · iexact Hlev
  isplitl [Hg] <;> iassumption

/-! ## The call -/

def S3 : Finset (DevRef τ sig) := {dr main_v3, dr main_v6, dr main_v7}

theorem S3_sub : S3 ⊆ ucRefs := by
  intro b hb
  simp only [S3, Finset.mem_insert, Finset.mem_singleton] at hb
  rcases hb with rfl | rfl | rfl <;> exact uc_mem _ (by decide)

omit [FloatOps F] [Named F] in
theorem held_S3 (d : Dev nD) (W : Valuation τ sig (Elt F)) :
    (held (SparseCore.T d) S3 W : sProp (MM F)) = iprop((l1 d ↦{fullShare} W (dr main_v3)) ∗ (l2 d ↦{fullShare} W (dr main_v6)) ∗ (lo d ↦{fullShare} W (dr main_v7))) := by
  unfold held S3
  rw [SparseCore.bigSep_insert' (by decide), SparseCore.bigSep_insert' (by decide), bigSep_singleton]

theorem W3_v7 (d : Dev nD) : W3 m d (dr main_v7) = (outV (X1 m d) (X2 m d) : S32x16.Idx → F .f32) := Function.update_self ..
theorem W3_ne (d : Dev nD) (b : DevRef τ sig) (h : b ≠ dr main_v7) : W3 m d b = W2 m d b := Function.update_of_ne h ..

theorem held_rest (d : Dev nD) : (held (SparseCore.T d) (ucRefs \ S3) (W3 m d) : sProp (MM F)) = held (SparseCore.T d) (ucRefs \ S3) (W2 m d) :=
  StableHlo.held_congr _ fun b hb => W3_ne m d b fun h => (Finset.mem_sdiff.mp hb).2 (by subst h; decide)

theorem call_wp (κ : GSem nD τ sig → ℕ) (d : Dev nD) (Φ : PUnit → sProp (MM F)) :
    iprop((K (F := F)).ctx EH (P (X1 m) (X2 m)) κ ∗ (K (F := F)).tcSt EH d 0 ∗ held (SparseCore.T d) ucRefs (W2 m d)
        ∗ (iprop((K (F := F)).tcSt EH d 1 ∗ held (SparseCore.T d) ucRefs (W3 m d)) -∗ Φ ⟨⟩))
      ⊢ wp frame (wpE ((K (F := F)).defs (D (F := F))) 𝒱 (SparseCore.T d) none) Set.univ ((K (F := F)).run d 0) Φ := by
  rw [StableHlo.held_sub_split (SparseCore.T d) S3_sub (W2 m d), StableHlo.held_sub_split (SparseCore.T d) S3_sub (W3 m d), held_rest, held_S3, held_S3, W3_v7,
    W3_ne m d _ (StableHlo.devRef_ne_of_ne (by decide)), W3_ne m d _ (StableHlo.devRef_ne_of_ne (by decide))]
  iintro ⟨#Hctx, Hst, ⟨⟨H1, H2, Ho⟩, Hrest⟩, Hk⟩
  ihave H1 := (pointsTo_toks_split fullShare 2) $$ H1
  icases H1 with ⟨H1d, H1t⟩
  ihave H2 := (pointsTo_toks_split fullShare 2) $$ H2
  icases H2 with ⟨H2d, H2t⟩
  iapply ((K (F := F)).wp_run (D (F := F)) 𝒱 (EH := EH) (P := P (X1 m) (X2 m)) κ d 0)
  isplitr; · iexact Hctx
  isplitl [Hst]; · iexact Hst
  isplitl [H1t H2t Ho]
  · have e : (bigSep Finset.univ fun c : Fin ((K (F := F)).nCore 0) => (P (X1 m) (X2 m)).st 0 d c)
        = iprop(((bigSep Finset.univ fun c : Fin 2 => l1 d ↦{shareTok fullShare 2 c} (X1 m d : Buf (Elt F) (l1 d)))
          ∗ (bigSep Finset.univ fun c : Fin 2 => l2 d ↦{shareTok fullShare 2 c} (X2 m d : Buf (Elt F) (l2 d))))
          ∗ (bigSep Finset.univ fun c : Fin 2 => bigSep Finset.univ fun i : Fin 16 => RowAny (F := F) d (2 * i.val + c.val))) := by
      rw [← bigSep_sep', ← bigSep_sep']; rfl
    rw [e]
    isplitl [H1t H2t]
    · isplitl [H1t]; · iexact H1t
      iexact H2t
    ihave Ho := (Entails.of_eq (rows_eq d (W2 m d (dr main_v7)))) $$ Ho
    have h2 : (bigSep Finset.univ fun c : Fin 2 => bigSep Finset.univ fun i : Fin 16 => (lo d ↦[rowSet (2 * i.val + c.val)]{fullShare} (W2 m d (dr main_v7) : Buf (Elt F) (lo d)) : sProp (MM F)))
        ⊢ bigSep Finset.univ fun c : Fin 2 => bigSep Finset.univ fun i : Fin 16 => RowAny (F := F) d (2 * i.val + c.val) :=
      bigSep_mono fun c _ => bigSep_mono fun i _ => by
        show (lo d ↦[rowSet (2 * i.val + c.val)]{fullShare} (W2 m d (dr main_v7) : Buf (Elt F) (lo d)) : sProp (MM F)) ⊢ RowAny (F := F) d (2 * i.val + c.val)
        iintro H; iexists _; iexact H
    iapply h2; iexact Ho
  iintro ⟨Hst, Hdn⟩
  have e : (bigSep Finset.univ fun c : Fin ((K (F := F)).nCore 0) => (P (X1 m) (X2 m)).dn 0 d c)
        = iprop(((bigSep Finset.univ fun c : Fin 2 => l1 d ↦{shareTok fullShare 2 c} (X1 m d : Buf (Elt F) (l1 d)))
          ∗ (bigSep Finset.univ fun c : Fin 2 => l2 d ↦{shareTok fullShare 2 c} (X2 m d : Buf (Elt F) (l2 d))))
          ∗ (bigSep Finset.univ fun c : Fin 2 => bigSep Finset.univ fun i : Fin 16 => RowOut (X1 m) (X2 m) d (2 * i.val + c.val))) := by
      rw [← bigSep_sep', ← bigSep_sep']; rfl
  ihave Hdn := (Entails.of_eq e) $$ Hdn
  icases Hdn with ⟨⟨H1t, H2t⟩, Ho⟩
  iapply Hk
  isplitl [Hst]; · iexact Hst
  isplitr [Hrest]
  · isplitl [H1d H1t]
    · iapply (pointsTo_toks_join fullShare 2)
      isplitl [H1d]; · iexact H1d
      iexact H1t
    isplitl [H2d H2t]
    · iapply (pointsTo_toks_join fullShare 2)
      isplitl [H2d]; · iexact H2d
      iexact H2t
    iapply (Entails.of_eq (rows_eq d _).symm); iexact Ho
  iexact Hrest

/-! ## @main -/

/-- What is left of the core's state beside what it owes. -/
abbrev ZB : SparseCore.Cfg.Blocks 1 1 := inferInstance

def TcRest (d : Dev nD) : sProp (MM F) :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (ZB.last q)) 1)))

theorem tcSt_eq (d : Dev nD) : ((K (F := F)).tcSt EH d 0 : sProp (MM F)) = iprop(Mse.Owes (F := F) d ∗ TcRest (F := F) d) := rfl

abbrev FIN (d : Dev nD) : sProp (MM F) := held (SparseCore.T d) ucRefs (W4 m d)

theorem hmain [∀ e, Nonempty (Elt F e)] (κ : GSem nD τ sig → ℕ) (d : Dev nD) :
    iprop((K (F := F)).ctx EH (P (X1 m) (X2 m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  iintro ⟨#Hctx, Hst, ⟨Hb, Hub, Hts, -⟩, Hg⟩
  ihave Hub := (Entails.of_eq (unscopedBufs_held d (launchContents m d))) $$ Hub
  ihave Hst := (Entails.of_eq (tcSt_eq d)) $$ Hst
  icases Hst with ⟨HO, Hst⟩
  iapply (region_wp m d)
  isplitr; · iapply ((K (F := F)).ctx_levAts κ); iexact Hctx
  isplitl [Hb]; · iexact Hb
  isplitl [Hub]; · iexact Hub
  isplitl [HO]; · iexact HO
  isplitl [Hg]; · iexact Hg
  iintro ⟨Hb, Hub, HO⟩
  iapply (StableHlo.wp_seq 𝒱 none Set.univ d ucRefs _ ops1 ops1_sub ops1_fresh (W1 m d)) $$ [Hb Hub]
  · isplitl [Hb]; · iexact Hb
    iexact Hub
  iintro ⟨Hb, Hub⟩
  rw [wp_bind]
  iapply (call_wp m κ d)
  isplitr; · iexact Hctx
  isplitl [HO Hst]
  · rw [tcSt_eq]
    isplitl [HO]; · iexact HO
    iexact Hst
  isplitl [Hub]; · iexact Hub
  iintro ⟨Hst, Hub⟩
  iapply (StableHlo.wp_seq 𝒱 none Set.univ d ucRefs _ ops2 ops2_sub ops2_fresh (W3 m d)) $$ [Hb Hub]
  · isplitl [Hb]; · iexact Hb
    iexact Hub
  iintro ⟨Hb, Hub⟩
  rw [wp_pure]
  imodintro
  isplitl [Hst]; · iexact Hst
  isplitl [Hub]; · iexact Hub
  isplitl [Hb] <;> iassumption

/-! ## The launch -/

def u₀ : UU := (initOf (K (F := F)).hsCells (K (F := F)).hsToks,
  (initOf (Pipeline.cells (pin (pcfgs (F := F)) Mse.adm) Gen.cellOf_inj) (Pipeline.launchToks (pin (pcfgs (F := F)) Mse.adm) Gen.cellOf_inj), 1))

omit [FloatOps F] [Named F] in
theorem ownU_split (a : UH) (b : UR) : (ownU ((a, (b, 1)) : UU) : sProp (MM F)) ⊢ iprop(BI.own ((EH : Emb UH (MM F)) a) ∗ BI.own ((EP : Emb UR (MM F)) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem sep_emps {I : Type} (s : Finset I) : bigSep s (fun _ => (iprop(emp) : sProp (MM F))) = iprop(emp) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P (X1 m) (X2 m)).x q thr) := by
  unfold u₀
  iintro Hu
  ihave H := (ownU_split _ _) $$ Hu
  icases H with ⟨HH, HK⟩
  imod (Pipeline.fund_ghost (pin (pcfgs (F := F)) Mse.adm) EP Gen.cellOf_inj) $$ HK with ⟨Hg, Ht⟩
  imodintro
  isplitl [HH]; · iexact HH
  isplitl [Hg Ht]
  · have hp (Ψ : Fin 1 → Dev nD → sProp (MM F)) :
        (bigSep Finset.univ fun c : Dev nD => bigSep Finset.univ fun p' => Ψ p' c) ⊢ bigSep Finset.univ fun c : Dev nD => Ψ 0 c :=
      bigSep_mono fun c _ => BI.bigSep_elim (Finset.mem_univ 0)
    rw [bigSep_sep']
    isplitl [Hg]; · iapply (hp fun p' c => cellsGhost (pin (pcfgs (F := F)) Mse.adm) EP p' c); iexact Hg
    iapply (hp fun p' c => toksInit (pin (pcfgs (F := F)) Mse.adm) EP p' c); iexact Ht
  · have e : (bigSep Finset.univ fun thr : Thread nD τ => bigSep Finset.univ fun q : Fin 1 => (P (X1 m) (X2 m)).x q thr) = (iprop(emp) : sProp (MM F)) := by
      show (bigSep Finset.univ fun thr : Thread nD τ => bigSep Finset.univ fun q : Fin 1 => (iprop(emp) : sProp (MM F))) = _
      rw [sep_emps, sep_emps]
    rw [e]; iempintro

def fq (d : Dev nD) (s' : Phys nD τ sig (Elt F)) : Prop := ∀ b : Ref sig .tc, b.isScoped = false → s'.mem.mem ((SparseCore.T d).loc b) = W4 m d (dr b)

theorem hfin (d : Dev nD) (s' : Phys nD τ sig (Elt F)) : iprop(FIN m d ∗ SI s') ⊢ (⌜fq m d s'⌝ : sProp (MM F)) := by
  unfold FIN held
  iintro ⟨H, HSI⟩
  ihave %h := (SI_pointsTo_bufs_agree (qs := fun _ => fullShare) ucRefs) $$ [HSI H]
  · isplitl [HSI]; · iexact HSI
    iexact H
  ipureintro
  exact fun b hb => h _ (uc_mem b hb)

def QC : PUnit × MemSt nD τ sig (Elt F) → Prop := fun r =>
  (∀ (c : Dev nD) (b : Ref sig .tc), b.isScoped = false → r.2.mem ((SparseCore.T c).loc b) = W4 m c (dr b)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X1 m) (X2 m)) (A := ∅) facts v₀
    (fun q hq => match q with | 0 => nomatch hq)
    (fun q _ => match q with | 0 => tileObl (X1 m) (X2 m))
    (fun q _ => match q with | 0 => SparseCore.Cfg.VecSplit.of_plain (vecSplit (X1 m) (X2 m)))
    m ρ main (fun d => Gd (F := F) d) (FIN m) (u₀ (F := F)) (sep_elim_left.trans (hu₀ m)) (hmain m ρ) (fq m) (hfin m) (QC m) (fun _ h hz => ⟨h, hz⟩)

end Cert.Proof.Tile

end
-- ==== Proof.Frames.lean ====
/- The frames: the kernel's program at the extended reals and as printed, and the reference. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof.Tile

open Cert.KernelIdeal
open Idealize.ShloMosaic
open Idealize.ShloMosaic.StableHlo (after launchContents)
open Idealize.SL.Sem

section Args

variable {F : FTy → Type} [FloatOps F] [Named F] (m : (ℓ : Loc nD τ sig) → Buf (Elt F) ℓ)

theorem W4_arg0 (d : Dev nD) : W4 m d (dr main_arg0) = m ((d.tc : Thread nD τ).loc main_arg0) := by
  have e4 : W4 m d (dr main_arg0) = W3 m d (dr main_arg0) := by
    unfold W4; simp only [ops2, dr]; after_results_simp
  have e2 : W2 m d (dr main_arg0) = W1 m d (dr main_arg0) := by
    unfold W2; simp only [ops1, dr]; after_results_simp
  rw [e4, W3_ne m d (dr main_arg0) (StableHlo.devRef_ne_of_ne (by decide)), e2, W1_ne m d main_arg0 (by decide)]

theorem W4_arg1 (d : Dev nD) : W4 m d (dr main_arg1) = m ((d.tc : Thread nD τ).loc main_arg1) := by
  have e4 : W4 m d (dr main_arg1) = W3 m d (dr main_arg1) := by
    unfold W4; simp only [ops2, dr]; after_results_simp
  have e2 : W2 m d (dr main_arg1) = W1 m d (dr main_arg1) := by
    unfold W2; simp only [ops1, dr]; after_results_simp
  rw [e4, W3_ne m d (dr main_arg1) (StableHlo.devRef_ne_of_ne (by decide)), e2, W1_ne m d main_arg1 (by decide)]

theorem W4_arg2 (d : Dev nD) : W4 m d (dr main_arg2) = m ((d.tc : Thread nD τ).loc main_arg2) := by
  have e4 : W4 m d (dr main_arg2) = W3 m d (dr main_arg2) := by
    unfold W4; simp only [ops2, dr]; after_results_simp
  have e2 : W2 m d (dr main_arg2) = W1 m d (dr main_arg2) := by
    unfold W2; simp only [ops1, dr]; after_results_simp
  rw [e4, W3_ne m d (dr main_arg2) (StableHlo.devRef_ne_of_ne (by decide)), e2, W1_ne m d main_arg2 (by decide)]

theorem W4_arg3 (d : Dev nD) : W4 m d (dr main_arg3) = m ((d.tc : Thread nD τ).loc main_arg3) := by
  have e4 : W4 m d (dr main_arg3) = W3 m d (dr main_arg3) := by
    unfold W4; simp only [ops2, dr]; after_results_simp
  have e2 : W2 m d (dr main_arg3) = W1 m d (dr main_arg3) := by
    unfold W2; simp only [ops1, dr]; after_results_simp
  rw [e4, W3_ne m d (dr main_arg3) (StableHlo.devRef_ne_of_ne (by decide)), e2, W1_ne m d main_arg3 (by decide)]

/-- The whole program's run, its result beside the arguments, which end as they began. -/
theorem run_args (ρ : Dev nD → PrngReg) :
    θ_run (Cert.KernelIdeal.defs (F := F)) (Cert.KernelIdeal.threads (F := F)) ⟨m, fun _ => 0, ρ⟩ fun r => (∀ c : Dev nD,
      r.2.mem ((c.tc : Thread nD τ).loc main_v12) = W4 m c (dr main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run (Cert.KernelIdeal.defs (F := F)) _ _).mono (fun _ h => ⟨fun c => ⟨h.1 c main_v12 rfl, (h.1 c main_arg0 rfl).trans (W4_arg0 m c),
    (h.1 c main_arg1 rfl).trans (W4_arg1 m c), (h.1 c main_arg2 rfl).trans (W4_arg2 m c), (h.1 c main_arg3 rfl).trans (W4_arg3 m c)⟩, h.2⟩)
    (run_main m ρ)

end Args

theorem frame_kernelIdeal : Cert.quiescent_KernelIdeal := fun m ρ _ =>
  (θ_run (Cert.KernelIdeal.defs (F := Ideal)) _ _).mono (fun _ h => ⟨fun c => (h.1 c).2, h.2⟩) (run_args m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "neg" .f32 0xFF7FC99E#32 ⊥ rfl

end Cert.Proof.Tile

end
-- ==== Proof.FrameBits.lean ====
/- The frame of the kernel as printed: its text is the text at the extended reals, the constant read as the bits it is printed with. -/
module

public import proofs.«01_k».proof.Proof.Frames

@[expose] public section

noncomputable section

namespace Cert.Proof.Tile

open Cert.KernelIdeal
open Idealize.ShloMosaic
open Idealize.SL.Sem

/-- Every name stands for the bits beside it. -/
abbrev bitsNamed : Named Bits := ⟨fun _ _ {φ} bits => Scalar.ofBits φ bits⟩
attribute [local instance] bitsNamed

theorem mse_eq {a0 h0 a1 h1 a2 h2} : @Cert.Kernel.cc0__mse_body Bits _ _ a0 h0 a1 h1 a2 h2 = @Cert.KernelIdeal.cc0__mse_body Bits _ _ a0 h0 a1 h1 a2 h2 := rfl
theorem sc_eq : @Cert.Kernel.cc1__sc_body Bits _ _ = @Cert.KernelIdeal.cc1__sc_body Bits _ _ _ := rfl
theorem defs₀_eq (p : Proc τ) : Cert.Kernel.defs₀ (F := Bits) p = Cert.KernelIdeal.defs₀ (F := Bits) p := by
  funext ℓ a
  rcases p with _ | c | ⟨c, s⟩
  · match ℓ, a with
    | 0, (t, s) => exact mse_eq (h0 := Cert.Kernel.Facts₀.hstage0_0 0) (h1 := Cert.Kernel.Facts₀.hstage0_1 0) (h2 := Cert.Kernel.Facts₀.hstage0_2 0)
    | 1, a => rfl
  · match ℓ, a with
    | 0, a => rfl
    | 1, a => rfl
  · match ℓ, a with
    | 0, a => rfl
    | 1, a =>
      unfold Cert.Kernel.defs₀ Cert.KernelIdeal.defs₀
      dsimp only
      rw [sc_eq]
      rfl

theorem defs_eq : Cert.Kernel.defs (F := Bits) = Cert.KernelIdeal.defs (F := Bits) :=
  congrArg (fun D => Cert.KernelIdeal.sc.defs (Pipeline.defs Cert.KernelIdeal.pcfgs D)) (funext defs₀_eq)

theorem threads_eq : Cert.Kernel.threads (F := Bits) = Cert.KernelIdeal.threads (F := Bits) := rfl

theorem frame_kernel : Cert.quiescent_Kernel := fun m ρ _ => by
  have h := run_args (F := Bits) m ρ
  rw [← defs_eq, ← threads_eq] at h
  exact (θ_run (Cert.Kernel.defs (F := Bits)) _ _).mono (fun _ h => ⟨fun c => (h.1 c).2, h.2⟩) h

end Cert.Proof.Tile

end
-- ==== Proof.Top.lean ====
/- Over the extended reals, the rounds' selections are the greatest points in order, the first of equal ones first. -/
module

public import proofs.«01_k».proof.Proof.Lane
public import Idealize.ShloMosaic.Lib.SortPrefix
public import Idealize.ShloMosaic.PureOps.Ideal.Laws

@[expose] public section

noncomputable section

namespace Cert.Proof.Tile

open Idealize.ShloMosaic

/-- `s` is the first place among those from `lo` up to `hi` where `v` is greatest. -/
structure First (v : Nat → EReal) (lo hi s : Nat) : Prop where
  lo_le : lo ≤ s
  lt_hi : s < hi
  le : ∀ c, lo ≤ c → c < hi → v c ≤ v s
  first : ∀ c, lo ≤ c → c < hi → v c = v s → s ≤ c

theorem ogt_iff (a b : EReal) : (FloatOps.cmpf (F := Ideal) (φ := .f32) .ogt a b = 1) ↔ b < a := by
  show (Ideal.cmp .ogt a b = 1#1) ↔ _
  unfold Ideal.cmp
  by_cases h : b < a <;> simp [h]

theorem oeq_iff (a b : EReal) : (FloatOps.cmpf (F := Ideal) (φ := .f32) .oeq a b = 1) ↔ a = b := by
  show (Ideal.cmp .oeq a b = 1#1) ↔ _
  unfold Ideal.cmp
  by_cases h : a = b <;> simp [h]

/-- The pair holds the first greatest value of a stretch with its place. -/
def Seg (v : Nat → EReal) (lo hi : Nat) (p : EReal × Nat) : Prop := p.1 = v p.2 ∧ First v lo hi p.2

theorem seg_pick {v : Nat → EReal} {lo mid hi : Nat} {p q : EReal × Nat} (hp : Seg v lo mid p) (hq : Seg v mid hi q) :
    Seg v lo hi (pickG (F := Ideal) p q) := by
  obtain ⟨ep, fp⟩ := hp
  obtain ⟨eq, fq⟩ := hq
  have := fp.lo_le; have := fp.lt_hi; have := fq.lo_le; have := fq.lt_hi
  unfold pickG
  by_cases h : p.1 < q.1
  · rw [if_pos ((ogt_iff _ _).mpr h)]
    rw [ep, eq] at h
    refine ⟨eq, by omega, by omega, fun c hl hh => ?_, fun c hl hh he => ?_⟩
    · rcases Nat.lt_or_ge c mid with hc | hc
      · exact (fp.le c hl hc).trans h.le
      · exact fq.le c hc hh
    · rcases Nat.lt_or_ge c mid with hc | hc
      · exact absurd (he ▸ fp.le c hl hc) (not_le.mpr h)
      · exact fq.first c hc hh he
  · rw [if_neg fun h' => h ((ogt_iff _ _).mp h')]
    rw [ep, eq] at h
    refine ⟨ep, by omega, by omega, fun c hl hh => ?_, fun c hl hh he => ?_⟩
    · rcases Nat.lt_or_ge c mid with hc | hc
      · exact fp.le c hl hc
      · exact (fq.le c hc hh).trans (not_lt.mp h)
    · rcases Nat.lt_or_ge c mid with hc | hc
      · exact fp.first c hl hc he
      · omega

theorem seg_one (v : Nat → EReal) (c : Nat) : Seg v c (c + 1) (v c, c) :=
  ⟨rfl, le_rfl, Nat.lt_succ_self c, fun c' h h' => by rw [show c' = c by omega], fun _ h _ _ => h⟩

/-- The tree of sixteen finds the first greatest. -/
theorem best_first (v : Nat → EReal) : First v 0 16 (best (F := Ideal) v).2 := by
  have h := seg_one v
  exact (seg_pick (seg_pick (seg_pick (seg_pick (h 0) (h 1)) (seg_pick (h 2) (h 3))) (seg_pick (seg_pick (h 4) (h 5)) (seg_pick (h 6) (h 7))))
    (seg_pick (seg_pick (seg_pick (h 8) (h 9)) (seg_pick (h 10) (h 11))) (seg_pick (seg_pick (h 12) (h 13)) (seg_pick (h 14) (h 15))))).2

theorem cmN_spec (v : Nat → EReal) : (∀ l < 16, v l ≤ cmN (F := Ideal) v) ∧ ∃ l < 16, cmN (F := Ideal) v = v l := by
  have h (n : Nat) : (∀ l < n + 1, v l ≤ (List.range n).foldl (fun x l => Scalar.maximumf (F := Ideal) (φ := .f32) x (v (l + 1))) (v 0))
      ∧ ∃ l < n + 1, (List.range n).foldl (fun x l => Scalar.maximumf (F := Ideal) (φ := .f32) x (v (l + 1))) (v 0) = v l := by
    induction n with
    | zero => exact ⟨fun l hl => by obtain rfl : l = 0 := by omega
                                    exact le_rfl, 0, by omega, rfl⟩
    | succ n ih =>
      rw [List.range_succ, List.foldl_append, List.foldl_cons, List.foldl_nil]
      generalize (List.range n).foldl (fun x l => Scalar.maximumf (F := Ideal) (φ := .f32) x (v (l + 1))) (v 0) = x at ih ⊢
      show (∀ l < n + 1 + 1, v l ≤ max x (v (n + 1))) ∧ ∃ l < n + 1 + 1, max x (v (n + 1)) = v l
      refine ⟨fun l hl => ?_, ?_⟩
      · rcases Nat.lt_or_ge l (n + 1) with h' | h'
        · exact (ih.1 l h').trans (le_max_left _ _)
        · obtain rfl : l = n + 1 := by omega
          exact le_max_right _ _
      · obtain ⟨l, hl, e⟩ := ih.2
        rcases max_choice x (v (n + 1)) with h' | h'
        · exact ⟨l, by omega, h'.trans e⟩
        · exact ⟨n + 1, by omega, h'⟩
  exact h 15

theorem amN_spec (v : Nat → EReal) (cm : EReal) (hex : ∃ l < 16, cm = v l) :
    v (amN (F := Ideal) v cm) = cm ∧ ∀ l < 16, v l = cm → amN (F := Ideal) v cm ≤ l := by
  have h (n : Nat) (hn : n ≤ 15) :
      (∀ l < n + 1, v l = cm → (List.range n).foldl (fun x l => min x (if FloatOps.cmpf (F := Ideal) (φ := .f32) .oeq (v (l + 1)) cm = 1 then l + 1 else 15))
        (if FloatOps.cmpf (F := Ideal) (φ := .f32) .oeq (v 0) cm = 1 then 0 else 15) ≤ l)
      ∧ ((List.range n).foldl (fun x l => min x (if FloatOps.cmpf (F := Ideal) (φ := .f32) .oeq (v (l + 1)) cm = 1 then l + 1 else 15))
          (if FloatOps.cmpf (F := Ideal) (φ := .f32) .oeq (v 0) cm = 1 then 0 else 15) = 15
        ∨ v ((List.range n).foldl (fun x l => min x (if FloatOps.cmpf (F := Ideal) (φ := .f32) .oeq (v (l + 1)) cm = 1 then l + 1 else 15))
          (if FloatOps.cmpf (F := Ideal) (φ := .f32) .oeq (v 0) cm = 1 then 0 else 15)) = cm) := by
    induction n with
    | zero =>
      rw [List.range_zero, List.foldl_nil]
      by_cases e : v 0 = cm
      · rw [if_pos ((oeq_iff _ _).mpr e)]; exact ⟨fun l _ _ => Nat.zero_le _, Or.inr e⟩
      · rw [if_neg fun h' => e ((oeq_iff _ _).mp h')]
        exact ⟨fun l hl h' => by obtain rfl : l = 0 := by omega
                                 exact absurd h' e, Or.inl rfl⟩
    | succ n ih =>
      rw [List.range_succ, List.foldl_append, List.foldl_cons, List.foldl_nil]
      have ih := ih (by omega)
      generalize (List.range n).foldl (fun x l => min x (if FloatOps.cmpf (F := Ideal) (φ := .f32) .oeq (v (l + 1)) cm = 1 then l + 1 else 15))
        (if FloatOps.cmpf (F := Ideal) (φ := .f32) .oeq (v 0) cm = 1 then 0 else 15) = x at ih ⊢
      by_cases e : v (n + 1) = cm
      · rw [if_pos ((oeq_iff _ _).mpr e)]
        refine ⟨fun l hl h' => ?_, ?_⟩
        · rcases Nat.lt_or_ge l (n + 1) with h2 | h2
          · exact (Nat.min_le_left _ _).trans (ih.1 l h2 h')
          · exact (Nat.min_le_right _ _).trans h2
        · rcases Nat.le_total x (n + 1) with h2 | h2
          · rw [Nat.min_eq_left h2]; exact ih.2
          · rw [Nat.min_eq_right h2]; exact Or.inr e
      · rw [if_neg fun h' => e ((oeq_iff _ _).mp h')]
        refine ⟨fun l hl h' => ?_, ?_⟩
        · rcases Nat.lt_or_ge l (n + 1) with h2 | h2
          · exact (Nat.min_le_left _ _).trans (ih.1 l h2 h')
          · obtain rfl : l = n + 1 := by omega
            exact absurd h' e
        · rcases Nat.le_total x 15 with h2 | h2
          · rw [Nat.min_eq_left h2]; exact ih.2
          · rw [Nat.min_eq_right h2]; exact Or.inl rfl
  obtain ⟨h1, h2⟩ := h 15 le_rfl
  refine ⟨?_, h1⟩
  rcases h2 with h2 | h2
  · obtain ⟨l, hl, e⟩ := hex
    have h3 := h1 l hl e.symm
    have h4 : amN (F := Ideal) v cm = 15 := h2
    obtain rfl : l = 15 := by omega
    rw [h4, e]
  · exact h2

/-- The first greatest of a chunk, and of sixteen chunks of sixteen. -/
theorem chunk_first (p : Nat → EReal) (c : Nat) :
    p (16 * c + amN (F := Ideal) (fun l => p (16 * c + l)) (cmN (F := Ideal) fun l => p (16 * c + l))) = cmN (F := Ideal) (fun l => p (16 * c + l))
      ∧ First p (16 * c) (16 * c + 16) (16 * c + amN (F := Ideal) (fun l => p (16 * c + l)) (cmN (F := Ideal) fun l => p (16 * c + l))) := by
  obtain ⟨h1, h2⟩ := cmN_spec fun l => p (16 * c + l)
  obtain ⟨h3, h4⟩ := amN_spec (fun l => p (16 * c + l)) _ h2
  have h5 := amN_lt (F := Ideal) (fun l => p (16 * c + l)) (cmN (F := Ideal) fun l => p (16 * c + l))
  refine ⟨h3, by omega, by omega, fun n hl hh => ?_, fun n hl hh he => ?_⟩
  · rw [h3]; have := h1 (n - 16 * c) (by omega); rwa [show 16 * c + (n - 16 * c) = n by omega] at this
  · have := h4 (n - 16 * c) (by omega) (by show p (16 * c + (n - 16 * c)) = _; rw [show 16 * c + (n - 16 * c) = n by omega, he, h3])
    omega

/-- A row's state: each chunk's maximum lies where the state says, first among equals. -/
def Kept (st : RowSt Ideal) : Prop := ∀ c < 16, st.P (st.A c) = st.M c ∧ First st.P (16 * c) (16 * c + 16) (st.A c)

theorem Kept.sel {st : RowSt Ideal} (h : Kept st) : First st.P 0 256 st.sel := by
  have hb := best_first st.M
  have hcb : st.cb < 16 := hb.lt_hi
  have hs := h st.cb hcb
  unfold RowSt.sel
  have := hs.2.lt_hi
  refine ⟨Nat.zero_le _, by omega, fun n _ hn => ?_, fun n _ hn he => ?_⟩
  · have hc := h (n / 16) (by omega)
    refine (hc.2.le n (by omega) (by omega)).trans ?_
    rw [hc.1, hs.1]
    exact hb.le (n / 16) (Nat.zero_le _) (by omega)
  · have hc := h (n / 16) (by omega)
    have h1 := hc.2.le n (by omega) (by omega)
    have h2 : st.M (n / 16) ≤ st.M st.cb := hb.le (n / 16) (Nat.zero_le _) (by omega)
    rw [he, hs.1, hc.1] at h1
    have h3 : st.cb ≤ n / 16 := hb.first (n / 16) (Nat.zero_le _) (by omega) (le_antisymm h2 h1)
    rcases Nat.eq_or_lt_of_le h3 with h4 | h4
    · exact hs.2.first n (by omega) (by omega) he
    · omega

theorem good_init (B : Nat → EReal) (r : Nat) : Kept (initRow (F := Ideal) B r) := fun c _ => chunk_first (persN (F := Ideal) B r) c

theorem good_step {st : RowSt Ideal} (h : Kept st) (hv : Valid st) : Kept (stepRow (F := Ideal) (⊥ : EReal) st) := by
  intro c hc
  by_cases e : c = st.cb
  · have hbf := best_first fun j => if 16 * st.cb + j = st.sel then (⊥ : EReal) else st.P (16 * st.cb + j)
    have h1 := best_fst (F := Ideal) fun j => if 16 * st.cb + j = st.sel then (⊥ : EReal) else st.P (16 * st.cb + j)
    have hA : (stepRow (F := Ideal) (⊥ : EReal) st).A c = 16 * c + (best (F := Ideal) fun j => if 16 * st.cb + j = st.sel then (⊥ : EReal) else st.P (16 * st.cb + j)).2 := by
      show (if c = st.cb then _ else _) = _
      rw [if_pos e, e]
    have hM : (stepRow (F := Ideal) (⊥ : EReal) st).M c = (best (F := Ideal) fun j => if 16 * st.cb + j = st.sel then (⊥ : EReal) else st.P (16 * st.cb + j)).1 := by
      show (if c = st.cb then _ else _) = _
      rw [if_pos e]
    rw [hA, hM, h1]
    generalize (best (F := Ideal) fun j => if 16 * st.cb + j = st.sel then (⊥ : EReal) else st.P (16 * st.cb + j)).2 = k at hbf ⊢
    have := hbf.lt_hi
    subst e
    refine ⟨rfl, by omega, by omega, fun n hl hh => ?_, fun n hl hh he => ?_⟩
    · have h2 := hbf.le (n - 16 * st.cb) (Nat.zero_le _) (by omega)
      rw [show 16 * st.cb + (n - 16 * st.cb) = n by omega] at h2
      exact h2
    · have h2 := hbf.first (n - 16 * st.cb) (Nat.zero_le _) (by omega) (by rw [show 16 * st.cb + (n - 16 * st.cb) = n by omega]; exact he)
      omega
  · have hA : (stepRow (F := Ideal) (⊥ : EReal) st).A c = st.A c := if_neg e
    have hM : (stepRow (F := Ideal) (⊥ : EReal) st).M c = st.M c := if_neg e
    have hs := hv.sel_div
    have hP (n : Nat) (hl : 16 * c ≤ n) (hh : n < 16 * c + 16) : (stepRow (F := Ideal) (⊥ : EReal) st).P n = st.P n := if_neg (by omega)
    obtain ⟨h1, h2⟩ := h c hc
    rw [hA, hM, hP _ h2.lo_le h2.lt_hi]
    refine ⟨h1, h2.lo_le, h2.lt_hi, fun n hl hh => ?_, fun n hl hh he => ?_⟩
    · rw [hP n hl hh, hP _ h2.lo_le h2.lt_hi]; exact h2.le n hl hh
    · rw [hP n hl hh, hP _ h2.lo_le h2.lt_hi] at he; exact h2.first n hl hh he

/-! ## The sequence of selections -/

/-- The row after `t` selections. -/
def rowAfter (B : Nat → EReal) (r t : Nat) : RowSt Ideal := (stepRow (F := Ideal) (⊥ : EReal))^[t] (initRow (F := Ideal) B r)

/-- The point of rank `t`. -/
def rank (B : Nat → EReal) (r t : Nat) : Nat := (rowAfter B r t).sel

theorem rowAfter_succ (B : Nat → EReal) (r t : Nat) : rowAfter B r (t + 1) = stepRow (F := Ideal) (⊥ : EReal) (rowAfter B r t) :=
  Function.iterate_succ_apply' (stepRow (F := Ideal) (⊥ : EReal)) t _

theorem rowAfter_ok (B : Nat → EReal) (r t : Nat) : Kept (rowAfter B r t) ∧ Valid (rowAfter B r t) := by
  induction t with
  | zero => exact ⟨good_init B r, valid_init (F := Ideal) B r⟩
  | succ t ih =>
    rw [rowAfter_succ]
    exact ⟨good_step ih.1 ih.2, valid_step (F := Ideal) (neg := (⊥ : EReal)) ih.2⟩

theorem rank_first (B : Nat → EReal) (r t : Nat) : First (rowAfter B r t).P 0 256 (rank B r t) := (rowAfter_ok B r t).1.sel

theorem rank_lt (B : Nat → EReal) (r t : Nat) : rank B r t < 256 := (rank_first B r t).lt_hi

theorem rowAfter_P (B : Nat → EReal) (r t n : Nat) :
    ((∃ i < t, rank B r i = n) → (rowAfter B r t).P n = ⊥) ∧ ((∀ i < t, rank B r i ≠ n) → (rowAfter B r t).P n = persN (F := Ideal) B r n) := by
  induction t with
  | zero => exact ⟨fun ⟨i, hi, _⟩ => absurd hi (Nat.not_lt_zero _), fun _ => rfl⟩
  | succ t ih =>
    rw [rowAfter_succ]
    have hP : (stepRow (F := Ideal) (⊥ : EReal) (rowAfter B r t)).P n = if n = rank B r t then (⊥ : EReal) else (rowAfter B r t).P n := rfl
    rw [hP]
    refine ⟨fun ⟨i, hi, e⟩ => ?_, fun h => ?_⟩
    · by_cases en : n = rank B r t
      · rw [if_pos en]
      · rw [if_neg en]
        refine ih.1 ⟨i, ?_, e⟩
        rcases Nat.lt_or_ge i t with h | h
        · exact h
        · obtain rfl : i = t := by omega
          exact absurd e.symm en
    · rw [if_neg fun en => h t (Nat.lt_succ_self t) en.symm]
      exact ih.2 fun i hi => h i (by omega)

variable {B : Nat → EReal} {r : Nat}

/-- While points are left, a selection is of one of them. -/
theorem rank_ne (hfin : ∀ n < 256, persN (F := Ideal) B r n ≠ (⊥ : EReal)) {i j : Nat} (hij : i < j) (hj : j < 256) : rank B r i ≠ rank B r j := by
  obtain ⟨n, hn, hnew⟩ : ∃ n < 256, ∀ k < j, rank B r k ≠ n := by
    by_contra hcon
    push Not at hcon
    have hsub : Finset.range 256 ⊆ (Finset.range j).image (rank B r) := fun n hn => by
      obtain ⟨k, hk, e⟩ := hcon n (Finset.mem_range.mp hn)
      exact Finset.mem_image.mpr ⟨k, Finset.mem_range.mpr hk, e⟩
    have := (Finset.card_le_card hsub).trans Finset.card_image_le
    rw [Finset.card_range, Finset.card_range] at this
    omega
  intro e
  have h1 := (rowAfter_P B r j (rank B r j)).1 ⟨i, hij, e⟩
  have h2 := (rank_first B r j).le n (Nat.zero_le _) hn
  rw [h1, (rowAfter_P B r j n).2 hnew, le_bot_iff] at h2
  exact hfin n hn h2

/-- A point not selected before round `i` is not before the one selected there. -/
theorem rank_le (hfin : ∀ n < 256, persN (F := Ideal) B r n ≠ (⊥ : EReal)) {i n : Nat} (hi : i < 256) (hn : n < 256) (hnew : ∀ k < i, rank B r k ≠ n) :
    persN (F := Ideal) B r n ≤ persN (F := Ideal) B r (rank B r i)
      ∧ (persN (F := Ideal) B r n = persN (F := Ideal) B r (rank B r i) → rank B r i ≤ n) := by
  have h1 := rank_first B r i
  have hP := (rowAfter_P B r i n).2 hnew
  have hP' := (rowAfter_P B r i (rank B r i)).2 fun k hk => rank_ne hfin hk hi
  exact ⟨hP ▸ hP' ▸ h1.le n (Nat.zero_le _) hn, fun e => h1.first n (Nat.zero_le _) hn (hP.trans (e.trans hP'.symm))⟩

/-! ## Against a stable sort -/

theorem insertBefore_stable {ι : Type} (R R' : ι → ι → Bool) (a : ι) (l : List ι) (h : ∀ b ∈ l, R b a = R' b a) : insertBefore R a l = insertBefore R' a l :=
  insertBefore_congr R R' a l h

/-- On a list in the order of positions a sort by the key alone and a sort by the key and then the position agree. -/
theorem stableSort_position {n : Nat} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_position {n : Nat} (R R' : Fin n → Fin n → Bool) (h : ∀ a b, a < b → R b a = R' b a) : sortedFrom R = sortedFrom R' := by
  have e : sortPositions n R = sortPositions n R' := stableSort_position R R' h _ (List.pairwise_lt_finRange n)
  funext k
  unfold sortedFrom
  rw [List.get_of_eq e]
  rfl

/-- The stable sort by falling persistence puts the point of rank `k` at place `k`. -/
theorem sortedFrom_rank (hfin : ∀ n < 256, persN (F := Ideal) B r n ≠ (⊥ : EReal)) (R : Fin 256 → Fin 256 → Bool)
    (hR : ∀ a b : Fin 256, R a b = decide (persN (F := Ideal) B r b.val < persN (F := Ideal) B r a.val)) (k : Fin 10) :
    sortedFrom R (k.castLE (by decide)) = ⟨rank B r k.val, rank_lt B r k.val⟩ := by
  classical
  have hB := StrictTotalBefore.of_key_then_position (n := 256) (κ := EReal) (fun a b => decide (b < a)) (fun k => persN (F := Ideal) B r k.val)
    (fun a => by simp) (fun a b c => by simp only [decide_eq_true_eq]; exact fun h h' => h'.trans h)
    (fun a b => by
      simp only [decide_eq_true_eq]
      rcases lt_trichotomy a b with h | h | h
      · exact Or.inr (Or.inr h)
      · exact Or.inr (Or.inl h)
      · exact Or.inl h)
  rw [sortedFrom_position R (fun k k' => decide (persN (F := Ideal) B r k'.val < persN (F := Ideal) B r k.val)
      || (decide (persN (F := Ideal) B r k.val = persN (F := Ideal) B r k'.val) && decide (k < k'))) fun a b hab => by
    rw [hR, decide_eq_false (not_lt.mpr hab.le), Bool.and_false, Bool.or_false]]
  refine hB.sortedFrom_eq_of_prefix (by decide) (fun k : Fin 10 => (⟨rank B r k.val, rank_lt B r k.val⟩ : Fin 256)) ?_ ?_ ?_ k
  · intro i j e
    have e' : rank B r i.val = rank B r j.val := congrArg Fin.val e
    rcases lt_trichotomy i j with h | h | h
    · exact absurd e' (rank_ne hfin h (by omega))
    · exact h
    · exact absurd e'.symm (rank_ne hfin h (by omega))
  · intro i j hij
    obtain ⟨h1, h2⟩ := rank_le hfin (i := i.val) (n := rank B r j.val) (by omega) (rank_lt _ _ _) (fun k hk => rank_ne hfin (hk.trans hij) (by omega))
    simp only [Bool.or_eq_false_iff, decide_eq_false_iff_not, Bool.and_eq_false_iff, not_lt]
    refine ⟨h1, ?_⟩
    by_cases e : persN (F := Ideal) B r (rank B r j.val) = persN (F := Ideal) B r (rank B r i.val)
    · exact Or.inr (Fin.le_def.mpr (h2 e))
    · exact Or.inl e
  · intro i p hp
    obtain ⟨h1, h2⟩ := rank_le hfin (i := i.val) (n := p.val) (by omega) p.isLt
      (fun k hk e => hp ⟨k, by omega⟩ (Fin.ext e))
    simp only [Bool.or_eq_false_iff, decide_eq_false_iff_not, Bool.and_eq_false_iff, not_lt]
    refine ⟨h1, ?_⟩
    by_cases e : persN (F := Ideal) B r p.val = persN (F := Ideal) B r (rank B r i.val)
    · exact Or.inr (Fin.le_def.mpr (h2 e))
    · exact Or.inl e

end Cert.Proof.Tile

end
-- ==== Proof.Sums.lean ====
/- Over the extended reals a tile's accumulator is the sum of its rows' costs, and the tiles' the sum over all rows. -/
module

public import proofs.«01_k».proof.Proof.Top
public import proofs.«01_k».proof.Proof.TileRun
public import Idealize.ShloMosaic.Lib.Pointwise.Index

@[expose] public section

noncomputable section

namespace Cert.Proof.Tile

open Cert.KernelIdeal
open Idealize.ShloMosaic
open Cert.Proof.Local
open Finset (range)

theorem sum_blocks (f : Nat → EReal) (a b : Nat) : ∑ i ∈ range a, ∑ j ∈ range b, f (i * b + j) = ∑ k ∈ range (a * b), f k := by
  induction a with
  | zero => simp
  | succ a ih => rw [Finset.sum_range_succ, ih, Nat.succ_mul, Finset.sum_range_add]

/-- What the two points of rank `t` of a row contribute. -/
def pairCost (B1 B2 : Nat → EReal) (r t : Nat) : EReal :=
  (B1 (pos r (rank B1 r t)) - B2 (pos r (rank B2 r t))) * (B1 (pos r (rank B1 r t)) - B2 (pos r (rank B2 r t)))
    + (B1 (pos r (rank B1 r t) + 128) - B2 (pos r (rank B2 r t) + 128)) * (B1 (pos r (rank B1 r t) + 128) - B2 (pos r (rank B2 r t) + 128))

theorem pairAfter_eq (B1 B2 : Nat → EReal) (r : Nat) (acc : EReal) (n : Nat) :
    pairAfter (F := Ideal) (⊥ : EReal) B1 B2 r acc n = ⟨rowAfter B1 r n, rowAfter B2 r n, acc + ∑ t ∈ range n, pairCost B1 B2 r t⟩ := by
  induction n with
  | zero =>
    rw [Finset.range_zero, Finset.sum_empty, add_zero]
    rfl
  | succ n ih =>
    have e : pairAfter (F := Ideal) (⊥ : EReal) B1 B2 r acc (n + 1) = stepPair (F := Ideal) (⊥ : EReal) B1 B2 r (pairAfter (F := Ideal) (⊥ : EReal) B1 B2 r acc n) :=
      Function.iterate_succ_apply' (stepPair (F := Ideal) (⊥ : EReal) B1 B2 r) n _
    rw [e, ih, rowAfter_succ, rowAfter_succ, Finset.sum_range_succ, ← add_assoc]
    unfold stepPair contrib accS
    dsimp only
    congr 1
    exact add_assoc (G := EReal) _ _ _

theorem groupAcc_eq (B1 B2 : Nat → EReal) (r : Nat) (acc : EReal) :
    groupAcc (F := Ideal) (⊥ : EReal) B1 B2 r acc = acc + ∑ t ∈ range 10, pairCost B1 B2 r t := by
  unfold groupAcc
  rw [pairAfter_eq]

/-- The cost of row `ρ` of the 12288. -/
def rowCost (T1 T2 : Nat → EReal) (ρ : Nat) : EReal :=
  ∑ t ∈ range 10, pairCost (fun n => T1 (ρ / 16 * 8192 + n)) (fun n => T2 (ρ / 16 * 8192 + n)) (ρ % 16) t

theorem tileAcc_eq (T1 T2 : Nat → EReal) (w r : Nat) (hr : r < 16) (n : Nat) :
    tileAcc (F := Ideal) (⊥ : EReal) T1 T2 w r n = ∑ g ∈ range n, rowCost T1 T2 ((w * 24 + g) * 16 + r) := by
  induction n with
  | zero => rw [Finset.range_zero, Finset.sum_empty]; exact Ideal.ofBits_zero_f32
  | succ n ih =>
    rw [Finset.sum_range_succ, ← ih]
    refine (groupAcc_eq _ _ _ _).trans ?_
    unfold rowCost
    rw [show ((w * 24 + n) * 16 + r) / 16 = w * 24 + n by omega, show ((w * 24 + n) * 16 + r) % 16 = r by omega]

theorem negF_ideal : (negF (F := Ideal) : EReal) = ⊥ := by
  rfl

theorem outV_sum (X1 X2 : S6291456.Idx → EReal) :
    ∑ x : S32x16.Idx, (outV (F := Ideal) X1 X2 x : EReal)
      = ∑ ρ ∈ range 12288, rowCost (fun n => at1 (N := 6291456) (X := EReal) X1 n) (fun n => at1 (N := 6291456) (X := EReal) X2 n) ρ := by
  generalize hT1 : (fun n => at1 (N := 6291456) (X := EReal) X1 n) = T1
  generalize hT2 : (fun n => at1 (N := 6291456) (X := EReal) X2 n) = T2
  have h (x : S32x16.Idx) : (outV (F := Ideal) X1 X2 x : EReal) = ∑ g ∈ range 24, rowCost T1 T2 (((x 0).val * 24 + g) * 16 + (x 1).val) := by
    rw [← tileAcc_eq T1 T2 _ _ (x 1).isLt 24]
    unfold outV
    rw [negF_ideal, ← hT1, ← hT2]
  rw [Finset.sum_congr rfl fun x _ => h x, sum_idx2]
  have h2 (a : Fin 32) : ∑ b : Fin 16, ∑ g ∈ range 24, rowCost T1 T2 ((a.val * 24 + g) * 16 + b.val)
      = ∑ g ∈ range 24, ∑ r ∈ range 16, rowCost T1 T2 ((a.val * 24 + g) * 16 + r) := by
    rw [Finset.sum_comm]
    exact Finset.sum_congr rfl fun g _ => Fin.sum_univ_eq_sum_range (fun r => rowCost T1 T2 ((a.val * 24 + g) * 16 + r)) 16
  refine (Finset.sum_congr rfl fun a _ => h2 a).trans ?_
  rw [Fin.sum_univ_eq_sum_range (fun a => ∑ g ∈ range 24, ∑ r ∈ range 16, rowCost T1 T2 ((a * 24 + g) * 16 + r)) 32,
    sum_blocks (fun G => ∑ r ∈ range 16, rowCost T1 T2 (G * 16 + r)) 32 24, sum_blocks]

end Cert.Proof.Tile

end
-- ==== Proof.Value.lean ====
/- What the features' kernel leaves: the sum of the squared differences. -/
module

public import proofs.«01_k».proof.Proof.Mse
public import Idealize.ShloMosaic.Lib.Pipeline.Value
public import Idealize.ShloMosaic.Lib.Pipeline.FrameBody
public import Idealize.ShloMosaic.PureOps.Ideal.Laws
public import Idealize.ShloMosaic.Lib.IdealHost

@[expose] public section

noncomputable section

namespace Cert.Proof.Tile.Mse

open Cert.KernelIdeal
open Cert.KernelIdeal.Facts₀ Cert.KernelIdeal.Facts
open Idealize.ShloMosaic
open Idealize.ShloMosaic.TcCoe Idealize.ShloMosaic.Tactic
open Idealize.ShloMosaic.Pipeline (Dat Cfg Window)

variable {F : FTy → Type} [FloatOps F] [Named F] [∀ e, Nonempty (Elt F e)]
variable (V : (c : Dev nD) → (b : Ref sig .tc) → Buf (Elt F) ((c : Thread nD τ).loc b))

theorem offsets_zero : (![0, 0] : Fin 2 → Nat) = fun _ => 0 := funext fun a => by fin_cases a <;> rfl

theorem run_val (c : Dev nD) : (KR V c).1 = Gen.k0_pay1 (stg0 V c) (stg1 V c) := by
  unfold KR mseRun
  dsimp only
  sl_unfold_words
  have e := View.read_writes_junk_eq_canon (Val := Elt F) (View.whole cc0_stg2_0)
    [⟨Rect.unit ![0, 0] S1x1.size inb_S1x1_S1x1_0_0,
      Gen.k0_pay1 (View.readAt (Elt F) (Memref.whole cc0_stg0_0).view (Rect.unit ![0, 0] S4096x512.size inb_S4096x512_S4096x512_0_0).toLoadRect (stg0 V c))
        (View.readAt (Elt F) (Memref.whole cc0_stg1_0).view (Rect.unit ![0, 0] S4096x512.size inb_S4096x512_S4096x512_0_0).toLoadRect (stg1 V c))⟩]
  rw [View.read_whole] at e
  refine e.trans ((View.canon_unit_zero (Val := Elt F) offsets_zero inb_S1x1_S1x1_0_0 _).trans ?_)
  have h0 : View.ld (stg0 V c) (Rect.unit ![0, 0] S4096x512.size inb_S4096x512_S4096x512_0_0) = stg0 V c :=
    View.ld_unit_zero (Val := Elt F) offsets_zero inb_S4096x512_S4096x512_0_0 (stg0 V c)
  have h1 : View.ld (stg1 V c) (Rect.unit ![0, 0] S4096x512.size inb_S4096x512_S4096x512_0_0) = stg1 V c :=
    View.ld_unit_zero (Val := Elt F) offsets_zero inb_S4096x512_S4096x512_0_0 (stg1 V c)
  exact congrArg₂ Gen.k0_pay1 h0 h1

theorem stg0_eq (c : Dev nD) : (stg0 V c : S4096x512.Idx → F .f32) = (V c main_arg0 : S4096x512.Idx → F .f32) := by
  funext y
  show V c main_arg0 (((cfg0.win 0).blk Gen.t0_0).view.emb y) = _
  congr 1
  funext a
  refine Fin.ext ?_
  exact Window.rect_emb_val_of_index_zero (cfg0.win 0) Gen.t0_0 a (by fin_cases a <;> decide) y

theorem stg1_eq (c : Dev nD) : (stg1 V c : S4096x512.Idx → F .f32) = (V c main_arg1 : S4096x512.Idx → F .f32) := by
  funext y
  show V c main_arg1 (((cfg0.win 1).blk Gen.t0_0).view.emb y) = _
  congr 1
  funext a
  refine Fin.ext ?_
  exact Window.rect_emb_val_of_index_zero (cfg0.win 1) Gen.t0_0 a (by fin_cases a <;> decide) y

theorem summed_eq (c : Dev nD) (i : S1x1.Idx) : (summed V c : S1x1.Idx → F .f32) i
    = Gen.k0_pay1 (V c main_arg0 : S4096x512.Idx → F .f32) (V c main_arg1 : S4096x512.Idx → F .f32) i := by
  have hsub (a b : S1x1.Idx) : a = b := by
    funext k; fin_cases k <;> exact Subsingleton.elim (α := Fin 1) _ _
  have e : (dat V c).arrAt 2 cfg0.N = (Gen.k0_pay1 (V c main_arg0 : S4096x512.Idx → F .f32) (V c main_arg1 : S4096x512.Idx → F .f32) : S1x1.Idx → F .f32) := by
    refine Dat.arrAt_eq_of_cover (dat V c) 2 _ (fun t _ => ?_) fun j => ⟨Gen.t0_0, by decide, ?_⟩
    · obtain rfl := Gen.fin_N0 t
      have ha : (dat V c).after 2 Gen.t0_0 = (KR V c).1 := by dsimp only [dat]
      unfold Dat.flushed
      rw [ha, run_val, stg0_eq, stg1_eq]
      rfl
    · have hm := ((cfg0.win 2).blk Gen.t0_0).view.emb_mem_set (fun a => ⟨0, by fin_cases a <;> decide⟩)
      exact (hsub _ _ : _ = j) ▸ hm
  exact congrFun e i

theorem pay_ideal (x y : S4096x512.Idx → EReal) (i : S1x1.Idx) :
    Gen.k0_pay1 (F := Ideal) x y i = ∑ j : S4096x512.Idx, (x j - y j) * (x j - y j) := by
  have key (M : S1.Idx → EReal) (c : EReal) (h : ∀ j, M j = c) :
      broadcast S1x1 (extractAt ![0, 0, 0] (shapeCast S1x1x1 M shapeCasts_S1_S1x1x1) inpos_S1x1x1_p0_0_0) i = c := h _
  unfold Gen.k0_pay1
  refine key _ _ fun j => ?_
  refine (Ideal.multiReduction_add_total (φ := .f32) _ _ reduces_S1x4096x512_S1 (fun b => by fin_cases b; rfl) _ _ j).trans ?_
  exact Equiv.sum_comp (Shape.reshapeEquiv shapeCasts_S4096x512_S1x4096x512) fun j => (x j - y j) * (x j - y j)

/-- Over the extended reals: the squared differences' sum. -/
theorem summed_ideal (V : (c : Dev nD) → (b : Ref sig .tc) → Buf (Elt Ideal) ((c : Thread nD τ).loc b)) (c : Dev nD) (x y : S4096x512.Idx → EReal)
    (hx : V c main_arg0 = x) (hy : V c main_arg1 = y) (i : S1x1.Idx) :
    summed V c i = (∑ j : S4096x512.Idx, (x j - y j) * (x j - y j) : EReal) := by
  have : ∀ e, Nonempty (Elt Ideal e) := inferInstance
  subst hx hy
  exact (summed_eq (F := Ideal) V c i).trans (pay_ideal _ _ i)

end Cert.Proof.Tile.Mse

end
-- ==== Proof.Ref.lean ====
/- The reference's value: the points of each row picked by its stable sort are those of the first ranks. -/
module

public import proofs.«01_k».proof.Proof.Top
public import proofs.«01_k».proof.Proof.Gen.ReferenceIdeal.Run
public import Idealize.ShloMosaic.Lib.SortFacts
public import Idealize.ShloMosaic.Lib.IdealHost
public import Idealize.ShloMosaic.Lib.ReduceAll
public import Idealize.ShloMosaic.Lib.Pointwise.Index
public import Idealize.ShloMosaic.Lib.Pipeline.Value

@[expose] public section

noncomputable section

namespace Cert.Proof.Ref

open Cert.ReferenceIdeal
open Cert.ReferenceIdeal.Facts₀ Cert.ReferenceIdeal.Facts
open Idealize.ShloMosaic
open Cert.Proof.Tile (rank persN)

section Forms

variable {F : FTy → Type} [FloatOps F] [Named F]

/-- The persistences of a diagram, and the order of its points by them. -/
def pers (a : FVec F S4096x3x256x2 .f32) : FVec F S4096x3x256 .f32 :=
  subf (shapeCast _ (extractStridedSlice S4096x3x256x1 ![0, 0, 0, 1] a slices_S4096x3x256x2_S4096x3x256x1_0_0_0_1) shapeCasts_S4096x3x256x1_S4096x3x256)
    (shapeCast _ (extractStridedSlice S4096x3x256x1 ![0, 0, 0, 0] a slices_S4096x3x256x2_S4096x3x256x1_0_0_0_0) shapeCasts_S4096x3x256x1_S4096x3x256)

def perm (a : FVec F S4096x3x256x2 .f32) : IVec S4096x3x256 32 :=
  (Host.sort2 S4096x3x256 2 comparator_f32_i32_d2 (Host.negf (pers a)) (iotaInDim S4096x3x256 32 2)).2

def col (a : FVec F S4096x3x256x2 .f32) : IVec S4096x3x256x1 32 :=
  broadcastInDim S4096x3x256x1 ![0, 1, 2] bcast_S4096x3x256_S4096x3x256x1_0_1_2 (perm a)

/-- The points' numbers, made to fit the axis. -/
def idx (a : FVec F S4096x3x256x2 .f32) : IVec S4096x3x256x1 32 :=
  select (cmpi .slt (col a) (broadcastInDim S4096x3x256x1 ![] bcast_S_S4096x3x256x1 (constantI S_ 32 0#32)))
    (addi (col a) (broadcastInDim S4096x3x256x1 ![] bcast_S_S4096x3x256x1 (constantI S_ 32 256#32))) (col a)

def ok (a : FVec F S4096x3x256x2 .f32) : IVec S4096x3x256 1 :=
  Host.reduce IntOp.andi (andi (cmpi .sge (idx a) (broadcastInDim S4096x3x256x1 ![] bcast_S_S4096x3x256x1 (constantI S_ 32 0#32)))
    (cmpi .sle (idx a) (broadcastInDim S4096x3x256x1 ![0, 1, 2, 3] bcast_S1x1x1x1_S4096x3x256x1_0_1_2_3
      (broadcastInDim S1x1x1x1 ![3] bcast_S1_S1x1x1x1_3 (constantI S1 32 255#32))))) (constantI S_ 1 1#1) reducesTo_S4096x3x256x1_S4096x3x256_d3 h_S_

/-- The ten first points of every row. -/
def top (a : FVec F S4096x3x256x2 .f32) : FVec F S4096x3x10x2 .f32 :=
  extractStridedSlice S4096x3x10x2 ![0, 0, 0, 0]
    (select (broadcastInDim S4096x3x256x2 ![0, 1, 2] bcast_S4096x3x256_S4096x3x256x2_0_1_2 (ok a))
      (Host.gather gather_S4096x3x256x2_S4096x3x256x1_S4096x3x256x2_3_2_01_01_2_3_1112 a (idx a))
      (broadcastInDim S4096x3x256x2 ![] bcast_S_S4096x3x256x2 (constant S_ .f32 0x7FC00000#32))) slices_S4096x3x256x2_S4096x3x10x2_0_0_0_0

def cost (a a' : FVec F S4096x3x256x2 .f32) : FVec F S_ .f32 :=
  Host.divf (Host.reduceAdd (Host.divf (Host.reduceAdd (Host.reduceAdd (mulf (subf (top a) (top a')) (subf (top a) (top a')))
      (constant S_ .f32 0x00000000#32) reducesTo_S4096x3x10x2_S4096x3x10_d3 h_S_) (constant S_ .f32 0x00000000#32) reducesTo_S4096x3x10_S4096x3_d2 h_S_)
    (broadcastInDim S4096x3 ![] bcast_S_S4096x3 (constant S_ .f32 0x41200000#32))) (constant S_ .f32 0x00000000#32) reducesTo_S4096x3_S_d0_1 h_S_)
    (constant S_ .f32 0x46400000#32)

def mse (f f' : FVec F S4096x512 .f32) : FVec F S_ .f32 :=
  Host.divf (Host.reduceAdd (mulf (subf f f') (subf f f')) (constant S_ .f32 0x00000000#32) reducesTo_S4096x512_S_d0_1 h_S_) (constant S_ .f32 0x4A000000#32)

def out (f f' : FVec F S4096x512 .f32) (a a' : FVec F S4096x3x256x2 .f32) : FVec F S_ .f32 :=
  addf (mse f f') (mulf (constant S_ .f32 0x3F800000#32) (cost a a'))

theorem res_eq (m : (ℓ : Loc nD τ sig) → Buf (Elt F) ℓ) (c : Dev nD) : Value.res_main_v33 m c
    = out (m ((c.tc : Thread nD τ).loc main_arg0)) (m ((c.tc : Thread nD τ).loc main_arg1)) (m ((c.tc : Thread nD τ).loc main_arg2))
      (m ((c.tc : Thread nD τ).loc main_arg3)) := rfl

end Forms

variable (a : FVec Ideal S4096x3x256x2 .f32)

theorem pers_apply (b : Fin 4096) (d : Fin 3) (n : Fin 256) : (pers a (ix3 b d n) : EReal) = a (ix4 b d n 1) - a (ix4 b d n 0) := by
  have h (k : Fin 2) (h1 : S4096x3x256x2.Slices ![0, 0, 0, k.val] S4096x3x256x1) :
      shapeCast S4096x3x256 (extractStridedSlice S4096x3x256x1 ![0, 0, 0, k.val] a h1) shapeCasts_S4096x3x256x1_S4096x3x256 (ix3 b d n) = a (ix4 b d n k) := by
    rw [shapeCast_apply _ _ _ (ix4 b d n 0) (by
      rw [Shape.rowMajor_val_four, Shape.rowMajor_val_three]
      show ((b.val * 3 + d.val) * 256 + n.val) * 1 + 0 = (b.val * 3 + d.val) * 256 + n.val
      omega)]
    unfold extractStridedSlice
    refine congrArg a (funext fun k' => Fin.ext ?_)
    match k' with
    | ⟨0, _⟩ => exact Nat.zero_add _
    | ⟨1, _⟩ => exact Nat.zero_add _
    | ⟨2, _⟩ => exact Nat.zero_add _
    | ⟨3, _⟩ => rfl
  exact congrArg₂ (fun x y : EReal => x - y) (h 1 _) (h 0 _)

theorem comparator_eq (x y : EReal) (u v : BitVec 32) :
    (comparator_f32_i32_d2 (F := Ideal) (x, u) (y, v) == 1#1) = decide (x < y) := by
  have h0 (z c : EReal) : Scalar.select (FloatOps.cmpf (F := Ideal) (φ := .f32) .oeq z c) c z = z := by
    unfold Scalar.select
    split
    · next h => exact ((Tile.oeq_iff z c).mp h).symm
    · rfl
  have h1 (z c w : EReal) : Scalar.select (FloatOps.cmpf (F := Ideal) (φ := .f32) .une z z) c w = w := by
    unfold Scalar.select
    refine if_neg ?_
    show ¬ Ideal.cmp .une z z = 1#1
    simp [Ideal.cmp]
  unfold comparator_f32_i32_d2
  dsimp only
  rw [h0 x, h0 y, h1 x, h1 y]
  show (Ideal.cmp .olt x y == 1#1) = _
  unfold Ideal.cmp
  by_cases h : x < y <;> simp [h]

/-- Where the sort takes a row's places from. -/
def srt (b : Fin 4096) (d : Fin 3) : Fin 256 → Fin 256 :=
  sortedFrom fun k k' => comparator_f32_i32_d2 (F := Ideal) (Host.negf (pers a) (ix3 b d k), iotaInDim S4096x3x256 32 2 (ix3 b d k))
    (Host.negf (pers a) (ix3 b d k'), iotaInDim S4096x3x256 32 2 (ix3 b d k')) == 1#1

theorem srt_rank (b : Fin 4096) (d : Fin 3) (B : Nat → EReal) (r : Nat) (hB : ∀ n : Fin 256, (pers a (ix3 b d n) : EReal) = persN (F := Ideal) B r n.val)
    (hfin : ∀ n < 256, persN (F := Ideal) B r n ≠ (⊥ : EReal)) (t : Fin 10) : srt a b d (t.castLE (by decide)) = ⟨rank B r t.val, Tile.rank_lt B r t.val⟩ := by
  refine Tile.sortedFrom_rank hfin _ (fun k k' => ?_) t
  refine (comparator_eq _ _ _ _).trans ?_
  show decide (-(pers a (ix3 b d k) : EReal) < -(pers a (ix3 b d k') : EReal)) = _
  rw [hB, hB, decide_eq_decide, EReal.neg_lt_neg_iff]

theorem along_eq (b : Fin 4096) (d : Fin 3) (t k : Fin 256) : Shape.Idx.along (s := S4096x3x256) (ix3 b d t) 2 k = ix3 b d k := by
  funext i
  match i with
  | ⟨0, _⟩ => rfl
  | ⟨1, _⟩ => rfl
  | ⟨2, _⟩ => rfl

theorem sort2_snd {s : Shape} {α β : Type} (d : Nat) (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem sort_last {α β : Type} (cmp : α × β → α × β → BitVec 1) (x : S4096x3x256.Idx → α) (y : S4096x3x256.Idx → β) (b : Fin 4096) (d : Fin 3) (t : Fin 256) :
    (Host.sort2 S4096x3x256 2 cmp x y).2 (ix3 b d t)
      = y (ix3 b d (sortedFrom (fun k k' : Fin 256 => cmp (x (ix3 b d k), y (ix3 b d k)) (x (ix3 b d k'), y (ix3 b d k')) == 1#1) t)) := by
  refine (sort2_snd 2 (by decide) cmp x y (ix3 b d t)).trans ?_
  have e : (fun k : Fin 256 => Shape.Idx.along (s := S4096x3x256) (ix3 b d t) 2 k) = fun k => ix3 b d k := funext (along_eq b d t)
  exact congrArg (fun g : Fin 256 → S4096x3x256.Idx => y (g (sortedFrom (fun k k' => cmp (x (g k), y (g k)) (x (g k'), y (g k')) == 1#1) t))) e

theorem perm_apply (b : Fin 4096) (d : Fin 3) (t : Fin 256) : perm a (ix3 b d t) = BitVec.ofNat 32 (srt a b d t).val := by
  have h : perm a (ix3 b d t) = iotaInDim S4096x3x256 32 2 (ix3 b d (srt a b d t)) := by
    unfold perm srt
    exact sort_last _ _ _ b d t
  rw [h]
  generalize srt a b d t = n
  rfl

theorem col_apply (b : Fin 4096) (d : Fin 3) (t : Fin 256) (z : Fin 1) : col a (ix4 b d t z) = BitVec.ofNat 32 (srt a b d t).val := by
  rw [← perm_apply]
  unfold col broadcastInDim
  refine congrArg (perm a) (funext fun i => Fin.ext ?_)
  match i with
  | ⟨0, _⟩ => rfl
  | ⟨1, _⟩ => rfl
  | ⟨2, _⟩ => rfl

theorem small (n : Nat) (h : n < 256) : (BitVec.ofNat 32 n).toInt = n := by
  rw [BitVec.toInt_eq_toNat_of_lt] <;> rw [BitVec.toNat_ofNat] <;> omega

theorem slt_small (n : Nat) (h : n < 256) : IntOp.cmpi .slt (BitVec.ofNat 32 n) 0#32 = 0#1 := by
  show BitVec.ofBool (BitVec.slt (BitVec.ofNat 32 n) 0#32) = 0#1
  rw [show BitVec.slt (BitVec.ofNat 32 n) 0#32 = false from by
    rw [Bool.eq_false_iff, ne_eq, BitVec.slt_iff_toInt_lt, small _ h]; have : (0#32 : BitVec 32).toInt = 0 := by decide
    omega]
  rfl

theorem in_small (n : Nat) (h : n < 256) : IntOp.andi (IntOp.cmpi .sge (BitVec.ofNat 32 n) 0#32) (IntOp.cmpi .sle (BitVec.ofNat 32 n) 255#32) = 1#1 := by
  show IntOp.andi (BitVec.ofBool (BitVec.sle 0#32 (BitVec.ofNat 32 n))) (BitVec.ofBool (BitVec.sle (BitVec.ofNat 32 n) 255#32)) = 1#1
  rw [show BitVec.sle 0#32 (BitVec.ofNat 32 n) = true from by
      rw [BitVec.sle_iff_toInt_le, small _ h]; have : (0#32 : BitVec 32).toInt = 0 := by decide
      omega,
    show BitVec.sle (BitVec.ofNat 32 n) 255#32 = true from by
      rw [BitVec.sle_iff_toInt_le, small _ h]; have : (255#32 : BitVec 32).toInt = 255 := by decide
      omega]
  rfl

theorem idx_apply (b : Fin 4096) (d : Fin 3) (t : Fin 256) (z : Fin 1) : idx a (ix4 b d t z) = BitVec.ofNat 32 (srt a b d t).val := by
  show Scalar.select (IntOp.cmpi .slt (col a (ix4 b d t z)) 0#32) (IntOp.addi (col a (ix4 b d t z)) 256#32) (col a (ix4 b d t z)) = _
  rw [col_apply, slt_small _ (srt a b d t).isLt]
  rfl

theorem ok_apply (j : S4096x3x256.Idx) : ok a j = 1#1 := by
  have h (b : Fin 4096) (d : Fin 3) (t : Fin 256) (z : Fin 1) :
      IntOp.andi (IntOp.cmpi .sge (idx a (ix4 b d t z)) 0#32) (IntOp.cmpi .sle (idx a (ix4 b d t z)) 255#32) = 1#1 := by
    rw [idx_apply]
    exact in_small _ (srt a b d t).isLt
  unfold ok
  refine Host.reduce_andi_one _ _ _ _ _ rfl fun i => ?_
  rw [eq_ix4 i]
  exact h _ _ _ _

abbrev dims : GatherDims S4096x3x256x2 S4096x3x256x1 S4096x3x256x2 := gather_S4096x3x256x2_S4096x3x256x1_S4096x3x256x2_3_2_01_01_2_3_1112

theorem coord_val (j : S4096x3x256x2.Idx) (i : Fin 4) (h : i ∈ dims.siKept)
    (e : dims.batchDims[dims.siKept.idxOf i]'(by rw [dims.batch_length]; exact List.idxOf_lt_length_iff.2 h) = i) (v : Nat) (hv : (j i).val = v) :
    (dims.siCoord j i h).val = v := by
  rw [← hv]
  unfold GatherDims.siCoord
  exact congrArg (fun x : Fin 4 => (j x).val) e

section
variable (b : Fin 4096) (d : Fin 3) (t : Fin 256) (k : Fin 2)

theorem si_apply (c : Fin dims.startIndexMap.length) : dims.siIdx (ix4 b d t k) c = ix4 b d t 0 := by
  have h0 : (dims.siIdx (ix4 b d t k) c (0 : Fin 4)).val = b.val := by
    unfold GatherDims.siIdx
    rw [dif_neg (by decide)]
    exact coord_val (ix4 b d t k) 0 (by decide) (by decide) _ rfl
  have h1 : (dims.siIdx (ix4 b d t k) c (1 : Fin 4)).val = d.val := by
    unfold GatherDims.siIdx
    rw [dif_neg (by decide)]
    exact coord_val (ix4 b d t k) 1 (by decide) (by decide) _ rfl
  have h2 : (dims.siIdx (ix4 b d t k) c (2 : Fin 4)).val = t.val := by
    unfold GatherDims.siIdx
    rw [dif_neg (by decide)]
    exact coord_val (ix4 b d t k) 2 (by decide) (by decide) _ rfl
  funext i
  refine Fin.ext ?_
  match i with
  | ⟨0, _⟩ => exact h0
  | ⟨1, _⟩ => exact h1
  | ⟨2, _⟩ => exact h2
  | ⟨3, h3⟩ => exact Nat.lt_one_iff.mp (dims.siIdx (ix4 b d t k) c ⟨3, h3⟩).isLt

theorem opnd0 : dims.start (ix4 b d t k) (idx a) (0 : Fin 4) + dims.batchCoord (ix4 b d t k) (0 : Fin 4) + dims.offCoord (ix4 b d t k) (0 : Fin 4) = b.val := by
  rw [dims.start_batching _ _ _ (by decide), dims.offCoord_eq_zero _ _ (by decide), Nat.zero_add, Nat.add_zero]
  unfold GatherDims.batchCoord
  rw [dif_pos (by decide)]
  exact coord_val (ix4 b d t k) 0 (by decide) (by decide) _ rfl

theorem opnd1 : dims.start (ix4 b d t k) (idx a) (1 : Fin 4) + dims.batchCoord (ix4 b d t k) (1 : Fin 4) + dims.offCoord (ix4 b d t k) (1 : Fin 4) = d.val := by
  rw [dims.start_batching _ _ _ (by decide), dims.offCoord_eq_zero _ _ (by decide), Nat.zero_add, Nat.add_zero]
  unfold GatherDims.batchCoord
  rw [dif_pos (by decide)]
  exact coord_val (ix4 b d t k) 1 (by decide) (by decide) _ rfl

theorem opnd2 : dims.start (ix4 b d t k) (idx a) (2 : Fin 4) + dims.batchCoord (ix4 b d t k) (2 : Fin 4) + dims.offCoord (ix4 b d t k) (2 : Fin 4) = (srt a b d t).val := by
  rw [dims.batchCoord_eq_zero _ _ (by decide), dims.offCoord_eq_zero _ _ (by decide)]
  unfold GatherDims.start
  rw [dif_pos (by decide), si_apply, idx_apply, small _ (srt a b d t).isLt]
  have := (srt a b d t).isLt
  generalize (srt a b d t).val = n at *
  show min (Int.toNat (n : Int)) 255 + 0 + 0 = n
  omega

theorem opnd3 : dims.start (ix4 b d t k) (idx a) (3 : Fin 4) + dims.batchCoord (ix4 b d t k) (3 : Fin 4) + dims.offCoord (ix4 b d t k) (3 : Fin 4) = k.val := by
  rw [dims.batchCoord_eq_zero _ _ (by decide)]
  unfold GatherDims.start GatherDims.offCoord
  rw [dif_neg (by decide), dif_pos (by decide), Nat.add_zero, Nat.zero_add]
  have e : dims.offsetDims[dims.sKept.idxOf (3 : Fin 4)]'(by decide) = (3 : Fin 4) := by decide
  exact congrArg (fun x : Fin 4 => (ix4 b d t k x).val) e

theorem gather_apply :
    Host.gather gather_S4096x3x256x2_S4096x3x256x1_S4096x3x256x2_3_2_01_01_2_3_1112 a (idx a) (ix4 b d t k) = a (ix4 b d (srt a b d t) k) := by
  unfold Host.gather
  refine congrArg a (funext fun i => Fin.ext ?_)
  match i with
  | ⟨0, _⟩ => exact opnd0 a b d t k
  | ⟨1, _⟩ => exact opnd1 a b d t k
  | ⟨2, _⟩ => exact opnd2 a b d t k
  | ⟨3, _⟩ => exact opnd3 a b d t k

end

theorem top_apply (b : Fin 4096) (d : Fin 3) (t : Fin 10) (k : Fin 2) : (top a (ix4 b d t k) : EReal) = a (ix4 b d (srt a b d (t.castLE (by decide))) k) := by
  have e : top a (ix4 b d t k) = select (broadcastInDim S4096x3x256x2 ![0, 1, 2] bcast_S4096x3x256_S4096x3x256x2_0_1_2 (ok a))
      (Host.gather gather_S4096x3x256x2_S4096x3x256x1_S4096x3x256x2_3_2_01_01_2_3_1112 a (idx a))
      (broadcastInDim S4096x3x256x2 ![] bcast_S_S4096x3x256x2 (constant S_ .f32 0x7FC00000#32)) (ix4 b d (t.castLE (by decide)) k) := by
    unfold top extractStridedSlice
    refine congrArg _ (funext fun i => Fin.ext ?_)
    match i with
    | ⟨0, _⟩ => exact Nat.zero_add _
    | ⟨1, _⟩ => exact Nat.zero_add _
    | ⟨2, _⟩ => exact Nat.zero_add _
    | ⟨3, _⟩ => exact Nat.zero_add _
  have hs {X : Type} (c : BitVec 1) (hc : c = 1#1) (x y z : X) (hx : x = z) : Scalar.select c x y = z := by
    unfold Scalar.select
    exact (if_pos hc).trans hx
  exact e.trans (hs _ (ok_apply a _) _ _ _ (gather_apply a b d (t.castLE (by decide)) k))

end Cert.Proof.Ref

end
-- ==== Proof.RefSum.lean ====
/- The reference's cost as one sum over the rows, their ten points and the two coordinates. -/
module

public import proofs.«01_k».proof.Proof.Ref

@[expose] public section

noncomputable section

namespace Cert.Proof.Ref

open Cert.ReferenceIdeal
open Cert.ReferenceIdeal.Facts₀ Cert.ReferenceIdeal.Facts
open Idealize.ShloMosaic

theorem ofBits_ten : Ideal.ofBits .f32 0x41200000#32 = ((10 : ℝ) : EReal) := by
  simp [Ideal.ofBits, Ideal.ieee, -EReal.coe_mul]; norm_num

theorem ofBits_rows : Ideal.ofBits .f32 0x46400000#32 = ((12288 : ℝ) : EReal) := by
  simp [Ideal.ofBits, Ideal.ieee, -EReal.coe_mul]; norm_num

theorem ofBits_points : Ideal.ofBits .f32 0x47F00000#32 = ((122880 : ℝ) : EReal) := by
  simp [Ideal.ofBits, Ideal.ieee, -EReal.coe_mul]; norm_num

theorem sum_mul_coe {ι : Type} (s : Finset ι) (f : ι → EReal) (c : ℝ) (hc : 0 ≤ c) : ∑ i ∈ s, f i * (c : EReal) = (∑ i ∈ s, f i) * (c : EReal) := by
  classical
  induction s using Finset.induction_on with
  | empty => rw [Finset.sum_empty, Finset.sum_empty, zero_mul]
  | insert i s hi ih =>
    rw [Finset.sum_insert hi, Finset.sum_insert hi, ih, EReal.right_distrib_of_nonneg_of_ne_top (EReal.coe_nonneg.mpr hc) (EReal.coe_ne_top c)]

/-- Dividing each row's sum by ten and the whole by the rows is dividing the whole by the points. -/
theorem div_rows {ι : Type} (s : Finset ι) (f : ι → EReal) :
    Ideal.div (∑ i ∈ s, Ideal.div (f i) ((10 : ℝ) : EReal)) ((12288 : ℝ) : EReal) = Ideal.div (∑ i ∈ s, f i) ((122880 : ℝ) : EReal) := by
  rw [Finset.sum_congr rfl fun i _ => Ideal.div_coe (by norm_num : (10 : ℝ) ≠ 0) (f i), sum_mul_coe _ _ _ (by norm_num),
    Ideal.div_coe (by norm_num : (12288 : ℝ) ≠ 0), Ideal.div_coe (by norm_num : (122880 : ℝ) ≠ 0), mul_assoc, ← EReal.coe_mul]
  norm_num

/-- What one coordinate of one picked point contributes. -/
def sq (x y : EReal) : EReal := (x - y) * (x - y)

variable (a a' : FVec Ideal S4096x3x256x2 .f32)

theorem reduces3 : S4096x3x10x2.Reduces [3] S4096x3x10 := by decide
theorem reduces2 : S4096x3x10.Reduces [2] S4096x3 := by decide

theorem inner_apply (x : FVec Ideal S4096x3x10x2 .f32) (b : Fin 4096) (d : Fin 3) (t : Fin 10) :
    (Host.reduceAdd x (constant S_ .f32 0x00000000#32) reducesTo_S4096x3x10x2_S4096x3x10_d3 h_S_ (ix3 b d t) : EReal) = ∑ k : Fin 2, x (ix4 b d t k) := by
  refine (Ideal.hostReduceAdd_single _ reduces3 x _ _).trans ?_
  show Ideal.ofBits .f32 0x00000000#32 + _ = _
  rw [Ideal.ofBits_zero_f32, zero_add]
  refine Finset.sum_congr rfl fun k _ => congrArg x (funext fun i => Fin.ext ?_)
  match i with
  | ⟨0, _⟩ => rfl
  | ⟨1, _⟩ => rfl
  | ⟨2, _⟩ => rfl
  | ⟨3, _⟩ => rfl

theorem outer_apply (x : FVec Ideal S4096x3x10 .f32) (b : Fin 4096) (d : Fin 3) :
    (Host.reduceAdd x (constant S_ .f32 0x00000000#32) reducesTo_S4096x3x10_S4096x3_d2 h_S_ (ix2 b d) : EReal) = ∑ t : Fin 10, x (ix3 b d t) := by
  refine (Ideal.hostReduceAdd_single _ reduces2 x _ _).trans ?_
  show Ideal.ofBits .f32 0x00000000#32 + _ = _
  rw [Ideal.ofBits_zero_f32, zero_add]
  refine Finset.sum_congr rfl fun k _ => congrArg x (funext fun i => Fin.ext ?_)
  match i with
  | ⟨0, _⟩ => rfl
  | ⟨1, _⟩ => rfl
  | ⟨2, _⟩ => rfl

theorem total_apply (x : FVec Ideal S4096x3 .f32) (i : S_.Idx) :
    (Host.reduceAdd x (constant S_ .f32 0x00000000#32) reducesTo_S4096x3_S_d0_1 h_S_ i : EReal) = ∑ b : Fin 4096, ∑ d : Fin 3, x (ix2 b d) := by
  refine (Ideal.hostReduceAdd_total _ (fun b => b.elim0) x _ _).trans ?_
  show Ideal.ofBits .f32 0x00000000#32 + _ = _
  rw [Ideal.ofBits_zero_f32, zero_add]
  exact sum_idx2 _

/-- A row's cost. -/
def row (b : Fin 4096) (d : Fin 3) : EReal :=
  ∑ t : Fin 10, ∑ k : Fin 2, sq (a (ix4 b d (srt a b d (t.castLE (by decide))) k)) (a' (ix4 b d (srt a' b d (t.castLE (by decide))) k))

theorem sq_apply (x y : FVec Ideal S4096x3x10x2 .f32) (b : Fin 4096) (d : Fin 3) :
    (Host.reduceAdd (Host.reduceAdd (mulf (subf x y) (subf x y))
      (constant S_ .f32 0x00000000#32) reducesTo_S4096x3x10x2_S4096x3x10_d3 h_S_) (constant S_ .f32 0x00000000#32) reducesTo_S4096x3x10_S4096x3_d2 h_S_ (ix2 b d) : EReal)
      = ∑ t : Fin 10, ∑ k : Fin 2, sq (x (ix4 b d t k)) (y (ix4 b d t k)) := by
  refine (outer_apply _ b d).trans ?_
  refine Finset.sum_congr rfl fun t _ => (inner_apply _ b d t).trans ?_
  rfl

theorem row_apply (b : Fin 4096) (d : Fin 3) :
    ∑ t : Fin 10, ∑ k : Fin 2, sq (top a (ix4 b d t k)) (top a' (ix4 b d t k)) = row a a' b d := by
  unfold row
  refine Finset.sum_congr rfl fun t _ => Finset.sum_congr rfl fun k _ => ?_
  rw [top_apply a b d t k, top_apply a' b d t k]

theorem cost_apply (i : S_.Idx) : (cost a a' i : EReal) = Ideal.div (∑ b : Fin 4096, ∑ d : Fin 3, row a a' b d) ((122880 : ℝ) : EReal) := by
  unfold cost
  refine (congrArg₂ Ideal.div (total_apply _ i) ofBits_rows).trans ?_
  have h (b : Fin 4096) (d : Fin 3) (x : FVec Ideal S4096x3 .f32) : (Host.divf x (broadcastInDim S4096x3 ![] bcast_S_S4096x3 (constant S_ .f32 0x41200000#32)) (ix2 b d) : EReal)
      = Ideal.div (x (ix2 b d)) ((10 : ℝ) : EReal) := congrArg (Ideal.div (x (ix2 b d))) ofBits_ten
  refine (congrArg (fun s : EReal => Ideal.div s ((12288 : ℝ) : EReal)) (Finset.sum_congr rfl fun b _ => Finset.sum_congr rfl fun d _ =>
    (h b d _).trans (congrArg (fun s : EReal => Ideal.div s ((10 : ℝ) : EReal)) ((sq_apply (top a) (top a') b d).trans (row_apply a a' b d))))).trans ?_
  have e (f : Fin 4096 → Fin 3 → EReal) : ∑ b : Fin 4096, ∑ d : Fin 3, f b d = ∑ p : Fin 4096 × Fin 3, f p.1 p.2 := (Fintype.sum_prod_type' f).symm
  rw [e, e]
  exact div_rows _ _

theorem mse_apply (f f' : FVec Ideal S4096x512 .f32) (i : S_.Idx) :
    (mse f f' i : EReal) = Ideal.div (∑ j : S4096x512.Idx, sq (f j) (f' j)) (Ideal.ofBits .f32 0x4A000000#32) := by
  unfold mse
  refine congrArg (fun s : EReal => Ideal.div s (Ideal.ofBits .f32 0x4A000000#32)) ?_
  refine (Ideal.hostReduceAdd_total _ (fun b => b.elim0) _ _ _).trans ?_
  show Ideal.ofBits .f32 0x00000000#32 + _ = _
  rw [Ideal.ofBits_zero_f32, zero_add]
  rfl

theorem out_apply (f f' : FVec Ideal S4096x512 .f32) (i : S_.Idx) :
    (out f f' a a' i : EReal) = Ideal.div (∑ j : S4096x512.Idx, sq (f j) (f' j)) (Ideal.ofBits .f32 0x4A000000#32)
      + Ideal.div (∑ b : Fin 4096, ∑ d : Fin 3, row a a' b d) ((122880 : ℝ) : EReal) := by
  rw [← mse_apply f f' i, ← cost_apply a a' i]
  show (mse f f' i : EReal) + Ideal.ofBits .f32 0x3F800000#32 * cost a a' i = _
  rw [Ideal.ofBits_one_f32, one_mul]

end Cert.Proof.Ref

end
-- ==== Proof.KernelSum.lean ====
/- The kernel's value over the extended reals: the mean of the squared differences and the rows' costs over the points. -/
module

public import proofs.«01_k».proof.Proof.Sums
public import proofs.«01_k».proof.Proof.Value
public import proofs.«01_k».proof.Proof.Frames
public import proofs.«01_k».proof.Proof.RefSum

@[expose] public section

noncomputable section

namespace Cert.Proof.Tile

open Cert.KernelIdeal
open Cert.KernelIdeal.Facts₀ Cert.KernelIdeal.Facts
open Idealize.ShloMosaic
open Idealize.ShloMosaic.StableHlo (after launchContents)
open Cert.Proof.Local
open Cert.Proof.Ref (sq)
open Finset (range)

/-- A diagram's words as the tiles read them. -/
def words (a : S4096x3x256x2.Idx → EReal) : S6291456.Idx → EReal :=
  shapeCast S6291456 (transpose S4096x3x2x2x128 [0, 1, 2, 4, 3] (shapeCast S4096x3x2x128x2 a shapeCasts_S4096x3x256x2_S4096x3x2x128x2)
    transposes_S4096x3x2x128x2_S4096x3x2x2x128_0_1_2_4_3) shapeCasts_S4096x3x2x2x128_S6291456

theorem words_apply (a : S4096x3x256x2.Idx → EReal) (b : Fin 4096) (d : Fin 3) (n : Fin 256) (k : Fin 2) (w : Nat)
    (hw : w = (b.val * 3 + d.val) * 512 + n.val / 128 * 256 + k.val * 128 + n.val % 128) : at1 (N := 6291456) (X := EReal) (words a) w = a (ix4 b d n k) := by
  have hb := b.isLt
  have hd := d.isLt
  have hn := n.isLt
  have hk := k.isLt
  unfold at1 words
  rw [shapeCast_apply _ _ _ (ix5 b d (⟨n.val / 128, by omega⟩ : Fin 2) k (⟨n.val % 128, by omega⟩ : Fin 128)) (by
      rw [Shape.rowMajor_val_five, Shape.rowMajor_val_one]
      show (((b.val * 3 + d.val) * 2 + n.val / 128) * 2 + k.val) * 128 + n.val % 128 = w % 6291456
      omega),
    transpose_apply _ _ _ _ (ix5 b d (⟨n.val / 128, by omega⟩ : Fin 2) (⟨n.val % 128, by omega⟩ : Fin 128) k) (fun i => by
      match i with
      | ⟨0, _⟩ => rfl
      | ⟨1, _⟩ => rfl
      | ⟨2, _⟩ => rfl
      | ⟨3, _⟩ => rfl
      | ⟨4, _⟩ => rfl),
    shapeCast_apply _ _ _ (ix4 b d n k) (by
      rw [Shape.rowMajor_val_five, Shape.rowMajor_val_four]
      show ((b.val * 3 + d.val) * 256 + n.val) * 2 + k.val = (((b.val * 3 + d.val) * 2 + n.val / 128) * 128 + n.val % 128) * 2 + k.val
      omega)]

section Row

variable (a : S4096x3x256x2.Idx → EReal) (b : Fin 4096) (d : Fin 3)

/-- The words of the group of sixteen rows that row `b`, `d` is in. -/
def grp : Nat → EReal := fun n => at1 (N := 6291456) (X := EReal) (words a) ((b.val * 3 + d.val) / 16 * 8192 + n)

theorem grp_pos (n : Fin 256) : grp a b d (pos ((b.val * 3 + d.val) % 16) n.val) = a (ix4 b d n 0)
    ∧ grp a b d (pos ((b.val * 3 + d.val) % 16) n.val + 128) = a (ix4 b d n 1) := by
  have hn := n.isLt
  constructor
  · refine words_apply a b d n 0 _ ?_
    unfold pos
    show _ = (b.val * 3 + d.val) * 512 + n.val / 128 * 256 + 0 * 128 + n.val % 128
    omega
  · refine words_apply a b d n 1 _ ?_
    unfold pos
    show _ = (b.val * 3 + d.val) * 512 + n.val / 128 * 256 + 1 * 128 + n.val % 128
    omega

theorem pers_grp (n : Fin 256) : (Ref.pers (F := Ideal) a (ix3 b d n) : EReal) = persN (F := Ideal) (grp a b d) ((b.val * 3 + d.val) % 16) n.val := by
  rw [Ref.pers_apply, ← (grp_pos a b d n).1, ← (grp_pos a b d n).2]
  rfl

theorem srt_grp (hfin : ∀ n : Fin 256, a (ix4 b d n 1) - a (ix4 b d n 0) ≠ ⊥) (t : Fin 10) :
    Ref.srt a b d (t.castLE (by decide)) = ⟨rank (grp a b d) ((b.val * 3 + d.val) % 16) t.val, rank_lt (grp a b d) _ t.val⟩ :=
  Ref.srt_rank a b d (grp a b d) _ (pers_grp a b d) (fun n hn => by
    rw [← pers_grp a b d ⟨n, hn⟩, Ref.pers_apply]
    exact hfin ⟨n, hn⟩) t

end Row

theorem row_eq (a a' : S4096x3x256x2.Idx → EReal) (b : Fin 4096) (d : Fin 3) (h : ∀ n : Fin 256, a (ix4 b d n 1) - a (ix4 b d n 0) ≠ ⊥)
    (h' : ∀ n : Fin 256, a' (ix4 b d n 1) - a' (ix4 b d n 0) ≠ ⊥) :
    Ref.row a a' b d = rowCost (fun n => at1 (N := 6291456) (X := EReal) (words a) n) (fun n => at1 (N := 6291456) (X := EReal) (words a') n) (b.val * 3 + d.val) := by
  unfold Ref.row rowCost
  rw [← Fin.sum_univ_eq_sum_range (fun t => pairCost (fun n => at1 (N := 6291456) (X := EReal) (words a) ((b.val * 3 + d.val) / 16 * 8192 + n))
    (fun n => at1 (N := 6291456) (X := EReal) (words a') ((b.val * 3 + d.val) / 16 * 8192 + n)) ((b.val * 3 + d.val) % 16) t) 10]
  refine Finset.sum_congr rfl fun t _ => ?_
  rw [srt_grp a b d h t, srt_grp a' b d h' t, Fin.sum_univ_two, ← (grp_pos a b d _).1, ← (grp_pos a' b d _).1, ← (grp_pos a b d _).2, ← (grp_pos a' b d _).2]
  rfl

theorem rows_sum (a a' : S4096x3x256x2.Idx → EReal) (h : ∀ b d (n : Fin 256), a (ix4 b d n 1) - a (ix4 b d n 0) ≠ ⊥)
    (h' : ∀ b d (n : Fin 256), a' (ix4 b d n 1) - a' (ix4 b d n 0) ≠ ⊥) :
    ∑ x : S32x16.Idx, (outV (F := Ideal) (words a) (words a') x : EReal) = ∑ b : Fin 4096, ∑ d : Fin 3, Ref.row a a' b d := by
  rw [outV_sum]
  generalize hg : rowCost (fun n => at1 (N := 6291456) (X := EReal) (words a) n) (fun n => at1 (N := 6291456) (X := EReal) (words a') n) = g
  have e (b : Fin 4096) : ∑ d : Fin 3, Ref.row a a' b d = ∑ d ∈ range 3, g (b.val * 3 + d) := by
    rw [← Fin.sum_univ_eq_sum_range (fun d => g (b.val * 3 + d)) 3]
    exact Finset.sum_congr rfl fun d _ => by rw [row_eq a a' b d (h b d) (h' b d), hg]
  rw [Finset.sum_congr rfl fun b _ => e b, Fin.sum_univ_eq_sum_range (fun b => ∑ d ∈ range 3, g (b * 3 + d)) 4096, sum_blocks]

section Result

variable {F : FTy → Type} [FloatOps F] [Named F] (m : (ℓ : Loc nD τ sig) → Buf (Elt F) ℓ) (c : Dev nD)

/-- The last operations' result from the two parts. -/
def fin (s : FVec F S1x1 .f32) (o : FVec F S32x16 .f32) : FVec F S_ .f32 :=
  addf (Host.divf (shapeCast S_ s shapeCasts_S1x1_S_) (constant S_ .f32 0x4A000000#32))
    (Host.divf (Host.reduceAdd o (constant S_ .f32 0x00000000#32) reducesTo_S32x16_S_d0_1 h_S_) (constant S_ .f32 0x47F00000#32))

theorem W4_v12 : W4 m c (dr main_v12) = fin (W3 m c (dr main_v0)) (W3 m c (dr main_v7)) := by
  unfold W4; simp only [ops2, dr]; after_results_simp
  rfl

theorem W3_v0 : W3 m c (dr main_v0) = Mse.summed (Vm m) c := by
  rw [W3_ne m c _ (StableHlo.devRef_ne_of_ne (by decide)), ← W1_v0 m c]
  unfold W2; simp only [ops1, dr]; after_results_simp

end Result

variable (m : (ℓ : Loc nD τ sig) → Buf (Elt Ideal) ℓ) (c : Dev nD)

theorem X1_eq : X1 m c = words (m ((c.tc : Thread nD τ).loc main_arg2)) := by
  have e : X1 m c = words (W1 m c (dr main_arg2)) := by
    unfold X1 W2; simp only [ops1, dr]; after_results_simp
    rfl
  rw [e, W1_ne m c main_arg2 (by decide)]

theorem X2_eq : X2 m c = words (m ((c.tc : Thread nD τ).loc main_arg3)) := by
  have e : X2 m c = words (W1 m c (dr main_arg3)) := by
    unfold X2 W2; simp only [ops1, dr]; after_results_simp
    rfl
  rw [e, W1_ne m c main_arg3 (by decide)]

theorem fin_apply (s : FVec Ideal S1x1 .f32) (o : FVec Ideal S32x16 .f32) (S : EReal) (hs : ∀ i, (s i : EReal) = S) (i : S_.Idx) :
    (fin s o i : EReal) = Ideal.div S (Ideal.ofBits .f32 0x4A000000#32) + Ideal.div (∑ x : S32x16.Idx, (o x : EReal)) ((122880 : ℝ) : EReal) := by
  refine congrArg₂ (fun x y : EReal => x + y) (congrArg (fun s : EReal => Ideal.div s (Ideal.ofBits .f32 0x4A000000#32)) (hs _)) ?_
  refine congrArg₂ Ideal.div ((Ideal.hostReduceAdd_total _ (fun b => b.elim0) o _ _).trans ?_) Ref.ofBits_points
  show Ideal.ofBits .f32 0x00000000#32 + _ = _
  rw [Ideal.ofBits_zero_f32, zero_add]

theorem result_eq (f f' : FVec Ideal S4096x512 .f32) (a a' : FVec Ideal S4096x3x256x2 .f32)
    (hf : m ((c.tc : Thread nD τ).loc main_arg0) = f) (hf' : m ((c.tc : Thread nD τ).loc main_arg1) = f')
    (ha : m ((c.tc : Thread nD τ).loc main_arg2) = a) (ha' : m ((c.tc : Thread nD τ).loc main_arg3) = a')
    (h : ∀ b d (n : Fin 256), (a (ix4 b d n 1) : EReal) - a (ix4 b d n 0) ≠ ⊥) (h' : ∀ b d (n : Fin 256), (a' (ix4 b d n 1) : EReal) - a' (ix4 b d n 0) ≠ ⊥) :
    W4 m c (dr main_v12) = Ref.out f f' a a' := by
  rw [W4_v12, W3_v0, W3_v7, X1_eq, X2_eq, ha, ha']
  funext i
  refine (fin_apply _ _ _ (Mse.summed_ideal (Vm m) c f f' hf hf') i).trans ?_
  rw [rows_sum a a' h h']
  exact (Ref.out_apply a a' f f' i).symm

end Cert.Proof.Tile

end
-- ==== Proof.Algebraic.lean ====
/- The kernel's result over the extended reals is the reference's, where no point has persistence −∞. -/
module

public import proofs.«01_k».proof.Proof.KernelSum
public import proofs.«01_k».proof.Proof.Gen.Pre_bounded

@[expose] public section

noncomputable section

namespace Cert.Proof.Tile

open Cert.KernelIdeal
open Idealize.ShloMosaic
open Idealize.SL.Sem

/-- A test that every entry of an array is above −∞ leaves none at −∞. -/
theorem above_of_all (x : Cert.Pre_bounded.S4096x3x256.Idx → EReal)
    (e : Host.reduce IntOp.andi (cmpf (F := Ideal) (φ := .f32) .ogt x
      (broadcastInDim Cert.Pre_bounded.S4096x3x256 ![] Cert.Pre_bounded.Facts.bcast_S_S4096x3x256 (constant (F := Ideal) S_ .f32 0xFF800000#32)))
      (constantI S_ 1 1#1) Cert.Pre_bounded.Facts.reducesTo_S4096x3x256_S_d0_1_2 Cert.Pre_bounded.Facts.h_S_ ix0 = 1#1) (i : Cert.Pre_bounded.S4096x3x256.Idx) : x i ≠ ⊥ := by
  have : Subsingleton S_.Idx := ⟨fun p q => funext fun b => b.elim0⟩
  have h := Host.reduce_andi_all _ _ _ _ _ e i
  have h2 : Ideal.ofBits .f32 0xFF800000#32 < x i := (ogt_iff _ _).mp h
  exact (lt_of_le_of_lt bot_le h2).ne'

theorem above_of_pre (f f' : FVec Ideal S4096x512 .f32) (a a' : FVec Ideal S4096x3x256x2 .f32) (h : Cert.Pre_bounded.fn (F := Ideal) f f' a a' = fun _ => 1#1) :
    (∀ i, (Ref.pers a i : EReal) ≠ ⊥) ∧ ∀ i, (Ref.pers a' i : EReal) ≠ ⊥ := by
  have e := congrFun h ix0
  unfold Cert.Pre_bounded.fn at e
  have e2 := IntOp.andi_eq_one.mp e
  exact ⟨above_of_all (Ref.pers a) e2.1, above_of_all (Ref.pers a') e2.2⟩

theorem diff_of_pers (a : FVec Ideal S4096x3x256x2 .f32) (h : ∀ i, (Ref.pers a i : EReal) ≠ ⊥) (b : Fin 4096) (d : Fin 3) (n : Fin 256) :
    (a (ix4 b d n 1) : EReal) - a (ix4 b d n 0) ≠ ⊥ := by
  rw [← Ref.pers_apply]
  exact h _

theorem algebraic : Cert.algebraic_KernelIdeal_ReferenceIdeal_pre_bounded := by
  intro m g m' g' hpre hargs
  refine ⟨fun c => W4 m c (dr main_v12), (θ_run (Cert.KernelIdeal.defs (F := Ideal)) _ _).mono (fun _ h c => h.1 c) (run_args m g),
    (θ_run Cert.ReferenceIdeal.defs _ _).mono (fun r h c => ⟨(h c).1.trans ?_, (h c).2⟩) (Cert.ReferenceIdeal.Value.run (F := Ideal) m' g')⟩
  obtain ⟨h1, h2⟩ := above_of_pre _ _ _ _ (hpre c)
  rw [Ref.res_eq, (hargs c).1, (hargs c).2.1, (hargs c).2.2.1, (hargs c).2.2.2]
  exact (result_eq m c _ _ _ _ rfl rfl rfl rfl (diff_of_pers _ h1) (diff_of_pers _ h2)).symm

end Cert.Proof.Tile

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_bounded
public import proofs.«01_k».proof.Proof.Gen.ReferenceIdeal.Run
public import proofs.«01_k».proof.Proof.Frames
public import proofs.«01_k».proof.Proof.FrameBits
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_bounded.Gen.facts,
    Tile.frame_kernel, Tile.frame_kernelIdeal, fun m ρ _ => Tile.frame_kernelIdeal m ρ trivial, Tile.frame_reference,
    fun m ρ _ => Tile.frame_reference m ρ trivial, Tile.preserves, Tile.algebraic⟩

end Cert.Proof

end
